-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)) (v3 : (c : Dev Cert.KernelIdeal.nD) → Buf (Elt Ideal) ((c.tc : Thread Cert.KernelIdeal.nD Cert.KernelIdeal.τ).loc Cert.KernelIdeal.main_v53_3)) (v4 : (c : Dev Cert.KernelIdeal.nD) → Buf (Elt Ideal) ((c.tc : Thread Cert.KernelIdeal.nD Cert.KernelIdeal.τ).loc Cert.KernelIdeal.main_v53_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_v53_3) = v3 c
          ∧ r.2.mem ((c.tc : Thread Cert.KernelIdeal.nD Cert.KernelIdeal.τ).loc Cert.KernelIdeal.main_v53_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S4096x4224 : Shape := ⟨2, ![4096, 4224]⟩
abbrev S4096x16 : Shape := ⟨2, ![4096, 16]⟩
abbrev S4096x1024 : Shape := ⟨2, ![4096, 1024]⟩
abbrev S4096x3072 : Shape := ⟨2, ![4096, 3072]⟩
abbrev S4096x4112 : Shape := ⟨2, ![4096, 4112]⟩
abbrev S_ : Shape := ⟨0, ![]⟩

class Facts : Prop where
  slices_S4096x4224_S4096x3072_0_0 : S4096x4224.Slices ![0, 0] S4096x3072
  concatenates_S4096x3072_S4096x16_S4096x1024_S4096x4112_d1 : Shape.Concatenates [S4096x3072, S4096x16, S4096x1024] S4096x4112 1
  bcast_S_S4096x4112 : S_.BroadcastsInDim S4096x4112 (![] : Fin 0 → Fin S4096x4112.rank)

variable [Facts]

def fn {F : FTy → Type} [FloatOps F] (main_arg0 : FVec F S4096x4224 .f32) (main_arg1 : FVec F S4096x16 .f32) (main_arg2 : FVec F S4096x1024 .f32) : IVec S4096x4112 1 :=
  let main_v0 : FVec F S4096x3072 .f32 := (extractStridedSlice S4096x3072 ![0, 0] · slices_S4096x4224_S4096x3072_0_0) main_arg0
  let main_v1 : FVec F S4096x4112 .f32 := concatenate S4096x4112 1 [⟨S4096x3072, main_v0⟩, ⟨S4096x16, main_arg1⟩, ⟨S4096x1024, main_arg2⟩] concatenates_S4096x3072_S4096x16_S4096x1024_S4096x4112_d1
  let main_v2 : FVec F S4096x4112 .f32 := Host.absf main_v1
  let main_cst : FVec F S_ .f32 := constant S_ .f32 0x7F800000#32
  let main_v3 : FVec F S4096x4112 .f32 := broadcastInDim S4096x4112 ![] bcast_S_S4096x4112 main_cst
  let main_v4 : IVec S4096x4112 1 := cmpf .olt main_v2 main_v3
  main_v4
-- ==== Kernel.lean ====
abbrev S4096x4224 : Shape := ⟨2, ![4096, 4224]⟩
abbrev S4096x16 : Shape := ⟨2, ![4096, 16]⟩
abbrev S4096x1024 : Shape := ⟨2, ![4096, 1024]⟩
abbrev S4096x16x64 : Shape := ⟨3, ![4096, 16, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x64x4096 : Shape := ⟨3, ![16, 64, 4096]⟩
abbrev S4096x128 : Shape := ⟨2, ![4096, 128]⟩
abbrev S8x2x8x512 : Shape := ⟨4, ![8, 2, 8, 512]⟩
abbrev S8x8x2x512 : Shape := ⟨4, ![8, 8, 2, 512]⟩
abbrev S512x128 : Shape := ⟨2, ![512, 128]⟩
abbrev S1x8x2x512 : Shape := ⟨4, ![1, 8, 2, 512]⟩
abbrev S8x2x512 : Shape := ⟨3, ![8, 2, 512]⟩
abbrev S1x128 : Shape := ⟨2, ![1, 128]⟩
abbrev S512 : Shape := ⟨1, ![512]⟩
abbrev S512x1 : Shape := ⟨2, ![512, 1]⟩
abbrev S512x512 : Shape := ⟨2, ![512, 512]⟩
abbrev S1x1x1x512 : Shape := ⟨4, ![1, 1, 1, 512]⟩
abbrev S1x512 : Shape := ⟨2, ![1, 512]⟩
abbrev S1x1x512 : Shape := ⟨3, ![1, 1, 512]⟩

abbrev nBuf : Space → Nat
  | .hbm => 71
  | .vmem => 28
  | .smem => 0
  | _ => 0

abbrev bufTy : (tb : Table) → Fin (tcTables nBuf tb) → BufTy
  | .hbm, ⟨0, _⟩ => ⟨S4096x4224, .f32⟩
  | .hbm, ⟨1, _⟩ => ⟨S4096x16, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S4096x16x64, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S16x4096, .f32⟩
  | .hbm, ⟨13, _⟩ => ⟨S16x4096x1, .f32⟩
  | .hbm, ⟨14, _⟩ => ⟨S16x4096, .f32⟩
  | .hbm, ⟨15, _⟩ => ⟨S16x1x4096, .f32⟩
  | .hbm, ⟨16, _⟩ => ⟨S16x4096x4096, .f32⟩
  | .hbm, ⟨17, _⟩ => ⟨S16x4096x4096, .f32⟩
  | .hbm, ⟨18, _⟩ => ⟨S16x4096x4096, .f32⟩
  | .hbm, ⟨19, _⟩ => ⟨S16x4096x4096, .f32⟩
  | .hbm, ⟨20, _⟩ => ⟨S4096, .i32⟩
  | .hbm, ⟨21, _⟩ => ⟨S4096x1, .i32⟩
  | .hbm, ⟨22, _⟩ => ⟨S4096, .i32⟩
  | .hbm, ⟨23, _⟩ => ⟨S1x4096, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S16x4096x4096, .i1⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S16x4096x1, .f32⟩
  | .hbm, ⟨42, _⟩ => ⟨S16x4096x1, .f32⟩
  | .hbm, ⟨43, _⟩ => ⟨S16x4096, .f32⟩
  | .hbm, ⟨44, _⟩ => ⟨S4096x16, .f32⟩
  | .hbm, ⟨45, _⟩ => ⟨S16x4096x4096, .f32⟩
  | .hbm, ⟨46, _⟩ => ⟨S16x4096x4096, .f32⟩
  | .hbm, ⟨47, _⟩ => ⟨S4096x16x64, .f32⟩
  | .hbm, ⟨48, _⟩ => ⟨S16x64x4096, .f32⟩
  | .hbm, ⟨49, _⟩ => ⟨S4096x16x64, .f32⟩
  | .hbm, ⟨50, _⟩ => ⟨S4096x16x64, .f32⟩
  | .hbm, ⟨51, _⟩ => ⟨S4096x16x64, .f32⟩
  | .hbm, ⟨52, _⟩ => ⟨S_, .f32⟩
  | .hbm, ⟨53, _⟩ => ⟨S4096x16, .f32⟩
  | .hbm, ⟨54, _⟩ => ⟨S_, .i32⟩
  | .hbm, ⟨55, _⟩ => ⟨S_, .f32⟩
  | .hbm, ⟨56, _⟩ => ⟨S4096x128, .f32⟩
  | .hbm, ⟨57, _⟩ => ⟨S16x4096, .f32⟩
  | .hbm, ⟨58, _⟩ => ⟨S8x2x8x512, .f32⟩
  | .hbm, ⟨59, _⟩ => ⟨S8x8x2x512, .f32⟩
  | .hbm, ⟨60, _⟩ => ⟨S16x4096, .f32⟩
  | .hbm, ⟨61, _⟩ => ⟨S8x2x8x512, .f32⟩
  | .hbm, ⟨62, _⟩ => ⟨S8x8x2x512, .f32⟩
  | .hbm, ⟨63, _⟩ => ⟨S16x4096, .f32⟩
  | .hbm, ⟨64, _⟩ => ⟨S8x2x8x512, .f32⟩
  | .hbm, ⟨65, _⟩ => ⟨S8x8x2x512, .f32⟩
  | .hbm, ⟨66, _⟩ => ⟨S4096x1024, .bf16⟩
  | .hbm, ⟨67, _⟩ => ⟨S4096x1024, .bf16⟩
  | .hbm, ⟨68, _⟩ => ⟨S4096x1024, .bf16⟩
  | .hbm, ⟨69, _⟩ => ⟨S8x8x2x512, .f32⟩
  | .hbm, ⟨70, _⟩ => ⟨S4096x1024, .f32⟩
  | .local _ .vmem, ⟨0, _⟩ => ⟨S4096x128, .f32⟩
  | .local _ .vmem, ⟨1, _⟩ => ⟨S4096x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S4096x128, .f32⟩
  | .local _ .vmem, ⟨7, _⟩ => ⟨S4096x128, .f32⟩
  | .local _ .vmem, ⟨8, _⟩ => ⟨S512x128, .f32⟩
  | .local _ .vmem, ⟨9, _⟩ => ⟨S512x128, .f32⟩
  | .local _ .vmem, ⟨10, _⟩ => ⟨S1x8x2x512, .f32⟩
  | .local _ .vmem, ⟨11, _⟩ => ⟨S1x8x2x512, .f32⟩
  | .local _ .vmem, ⟨12, _⟩ => ⟨S1x8x2x512, .f32⟩
  | .local _ .vmem, ⟨13, _⟩ => ⟨S1x8x2x512, .f32⟩
  | .local _ .vmem, ⟨14, _⟩ => ⟨S1x8x2x512, .f32⟩
  | .local _ .vmem, ⟨15, _⟩ => ⟨S1x8x2x512, .f32⟩
  | .local _ .vmem, ⟨16, _⟩ => ⟨S4096x128, .bf16⟩
  | .local _ .vmem, ⟨17, _⟩ => ⟨S4096x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S1x8x2x512, .f32⟩
  | .local _ .vmem, ⟨23, _⟩ => ⟨S1x8x2x512, .f32⟩
  | .local _ .vmem, ⟨24, _⟩ => ⟨S512x128, .f32⟩
  | .local _ .vmem, ⟨25, _⟩ => ⟨S512x128, .f32⟩
  | .local _ .vmem, ⟨26, _⟩ => ⟨S4096x128, .f32⟩
  | .local _ .vmem, ⟨27, _⟩ => ⟨S8x2x512, .f32⟩
  | _, _ => ⟨S4096x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_c : Ref sig .tc := ⟨.hbm, 54, rfl⟩
abbrev main_call1_v0 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53_0 : Ref sig .tc := ⟨.hbm, 66, rfl⟩
abbrev main_v53_1 : Ref sig .tc := ⟨.hbm, 67, rfl⟩
abbrev main_v53_2 : Ref sig .tc := ⟨.hbm, 68, rfl⟩
abbrev main_v53_3 : Ref sig .tc := ⟨.hbm, 69, rfl⟩
abbrev main_v53_4 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v45 : BitVec 32 := Scalar.muli arg1 c512_i32
  v45
def k0_off1 (i : grid0.Coords) : Fin 2 → Nat :=
  let arg1 : BitVec 32 := BitVec.ofNat 32 (i 1).val
  let c512_i32 : BitVec 32 := 512#32
  let v45 : BitVec 32 := Scalar.muli arg1 c512_i32
  let v46 : BitVec 32 := v45
  let v47 : Index := Scalar.indexCast v46
  let c0_16 : Index := 0#32
  ![v47.toNat, 0]
def k0_off2 (i : grid0.Coords) : Fin 4 → Nat :=
  let c0_24 : Index := 0#32
  let arg1 : BitVec 32 := BitVec.ofNat 32 (i 1).val
  let v74 : Index := Scalar.indexCast arg1
  let c0_25 : Index := 0#32
  let c0_26 : Index := 0#32
  ![0, v74.toNat, 0, 0]
def k0_off3 (i : grid0.Coords) : Fin 4 → Nat :=
  let c0_28 : Index := 0#32
  let arg1 : BitVec 32 := BitVec.ofNat 32 (i 1).val
  let v82 : Index := Scalar.indexCast arg1
  let c1 : Index := 1#32
  let c0_29 : Index := 0#32
  ![0, v82.toNat, 1, 0]
def k0_off4 (i : grid0.Coords) : Fin 3 → Nat :=
  let arg1 : BitVec 32 := BitVec.ofNat 32 (i 1).val
  let v143 : Index := Scalar.indexCast arg1
  let c0_54 : Index := 0#32
  let c0_55 : Index := 0#32
  ![v143.toNat, 0, 0]
def k0_off5 (i : grid0.Coords) : Fin 3 → Nat :=
  let arg1 : BitVec 32 := BitVec.ofNat 32 (i 1).val
  let v153 : Index := Scalar.indexCast arg1
  let c1_59 : Index := 1#32
  let c0_60 : Index := 0#32
  ![v153.toNat, 1, 0]
@[reducible] def k0_t1_loop (i : grid0.Coords) : Scf.Loop 32 :=
  let arg1 : BitVec 32 := BitVec.ofNat 32 (i 1).val
  let c1_i32_66 : BitVec 32 := 1#32
  let v169 : BitVec 32 := Scalar.addi arg1 c1_i32_66
  let c8_i32 : BitVec 32 := 8#32
  let v170 : BitVec 32 := Scalar.subi c8_i32 v169
  let c1_i32_67 : BitVec 32 := 1#32
  let v172 : BitVec 32 := Scalar.divsi v170 c1_i32_67
  let v173 : BitVec 32 := Scalar.muli v172 c1_i32_67
  let v174 : BitVec 32 := Scalar.addi v169 v173
  let c1_i32_68 : BitVec 32 := 1#32
  ⟨v169, v174, c1_i32_68⟩
def k0_mult2 (i : grid0.Coords) (k0_t1 : Fin (k0_t1_loop i).trips) : BitVec 32 :=
  let arg1 : BitVec 32 := BitVec.ofNat 32 (i 1).val
  let c1_i32_66 : BitVec 32 := 1#32
  let v169 : BitVec 32 := Scalar.addi arg1 c1_i32_66
  let c1_i32_68 : BitVec 32 := 1#32
  let arg17 : BitVec 32 := Scf.iv v169 c1_i32_68 k0_t1
  let c512_i32_80 : BitVec 32 := 512#32
  let v200 : BitVec 32 := Scalar.muli arg17 c512_i32_80
  v200
def k0_off6 (i : grid0.Coords) (k0_t1 : Fin (k0_t1_loop i).trips) : Fin 2 → Nat :=
  let arg1 : BitVec 32 := BitVec.ofNat 32 (i 1).val
  let c1_i32_66 : BitVec 32 := 1#32
  let v169 : BitVec 32 := Scalar.addi arg1 c1_i32_66
  let c1_i32_68 : BitVec 32 := 1#32
  let arg17 : BitVec 32 := Scf.iv v169 c1_i32_68 k0_t1
  let c512_i32_80 : BitVec 32 := 512#32
  let v200 : BitVec 32 := Scalar.muli arg17 c512_i32_80
  let v201 : BitVec 32 := v200
  let v202 : Index := Scalar.indexCast v201
  let c0_81 : Index := 0#32
  ![v202.toNat, 0]
def k0_off7 (i : grid0.Coords) (k0_t1 : Fin (k0_t1_loop i).trips) : Fin 4 → Nat :=
  let c0_89 : Index := 0#32
  let arg1 : BitVec 32 := BitVec.ofNat 32 (i 1).val
  let c1_i32_66 : BitVec 32 := 1#32
  let v169 : BitVec 32 := Scalar.addi arg1 c1_i32_66
  let c1_i32_68 : BitVec 32 := 1#32
  let arg17 : BitVec 32 := Scf.iv v169 c1_i32_68 k0_t1
  let v229 : Index := Scalar.indexCast arg17
  let c0_90 : Index := 0#32
  let c0_91 : Index := 0#32
  ![0, v229.toNat, 0, 0]
def k0_off8 (i : grid0.Coords) (k0_t1 : Fin (k0_t1_loop i).trips) : Fin 4 → Nat :=
  let c0_93 : Index := 0#32
  let arg1 : BitVec 32 := BitVec.ofNat 32 (i 1).val
  let c1_i32_66 : BitVec 32 := 1#32
  let v169 : BitVec 32 := Scalar.addi arg1 c1_i32_66
  let c1_i32_68 : BitVec 32 := 1#32
  let arg17 : BitVec 32 := Scf.iv v169 c1_i32_68 k0_t1
  let v237 : Index := Scalar.indexCast arg17
  let c1_94 : Index := 1#32
  let c0_95 : Index := 0#32
  ![0, v237.toNat, 1, 0]
def k0_off9 (i : grid0.Coords) (k0_t1 : Fin (k0_t1_loop i).trips) : Fin 3 → Nat :=
  let arg1 : BitVec 32 := BitVec.ofNat 32 (i 1).val
  let c1_i32_66 : BitVec 32 := 1#32
  let v169 : BitVec 32 := Scalar.addi arg1 c1_i32_66
  let c1_i32_68 : BitVec 32 := 1#32
  let arg17 : BitVec 32 := Scf.iv v169 c1_i32_68 k0_t1
  let v292 : Index := Scalar.indexCast arg17
  let c0_118 : Index := 0#32
  let c0_119 : Index := 0#32
  ![v292.toNat, 0, 0]
def k0_off10 (i : grid0.Coords) (k0_t1 : Fin (k0_t1_loop i).trips) : Fin 3 → Nat :=
  let arg1 : BitVec 32 := BitVec.ofNat 32 (i 1).val
  let c1_i32_66 : BitVec 32 := 1#32
  let v169 : BitVec 32 := Scalar.addi arg1 c1_i32_66
  let c1_i32_68 : BitVec 32 := 1#32
  let arg17 : BitVec 32 := Scf.iv v169 c1_i32_68 k0_t1
  let v302 : Index := Scalar.indexCast arg17
  let c1_123 : Index := 1#32
  let c0_124 : Index := 0#32
  ![v302.toNat, 1, 0]
@[reducible] def k0_t2_loop (i : grid0.Coords) : Scf.Loop 32 :=
  let arg1 : BitVec 32 := BitVec.ofNat 32 (i 1).val
  let c1_i32_66 : BitVec 32 := 1#32
  let v169 : BitVec 32 := Scalar.addi arg1 c1_i32_66
  let c8_i32 : BitVec 32 := 8#32
  let v170 : BitVec 32 := Scalar.subi c8_i32 v169
  let c1_i32_67 : BitVec 32 := 1#32
  let v172 : BitVec 32 := Scalar.divsi v170 c1_i32_67
  let v173 : BitVec 32 := Scalar.muli v172 c1_i32_67
  let v174 : BitVec 32 := Scalar.addi v169 v173
  let v171 : BitVec 32 := Scalar.addi v169 v170
  let c1_i32_69 : BitVec 32 := 1#32
  ⟨v174, v171, c1_i32_69⟩
def k0_mult3 (i : grid0.Coords) (k0_t2 : Fin (k0_t2_loop i).trips) : BitVec 32 :=
  let arg1 : BitVec 32 := BitVec.ofNat 32 (i 1).val
  let c1_i32_66 : BitVec 32 := 1#32
  let v169 : BitVec 32 := Scalar.addi arg1 c1_i32_66
  let c8_i32 : BitVec 32 := 8#32
  let v170 : BitVec 32 := Scalar.subi c8_i32 v169
  let c1_i32_67 : BitVec 32 := 1#32
  let v172 : BitVec 32 := Scalar.divsi v170 c1_i32_67
  let v173 : BitVec 32 := Scalar.muli v172 c1_i32_67
  let v174 : BitVec 32 := Scalar.addi v169 v173
  let c1_i32_69 : BitVec 32 := 1#32
  let arg17 : BitVec 32 := Scf.iv v174 c1_i32_69 k0_t2
  let c512_i32_80 : BitVec 32 := 512#32
  let v200 : BitVec 32 := Scalar.muli arg17 c512_i32_80
  v200
def k0_off11 (i : grid0.Coords) (k0_t2 : Fin (k0_t2_loop i).trips) : Fin 2 → Nat :=
  let arg1 : BitVec 32 := BitVec.ofNat 32 (i 1).val
  let c1_i32_66 : BitVec 32 := 1#32
  let v169 : BitVec 32 := Scalar.addi arg1 c1_i32_66
  let c8_i32 : BitVec 32 := 8#32
  let v170 : BitVec 32 := Scalar.subi c8_i32 v169
  let c1_i32_67 : BitVec 32 := 1#32
  let v172 : BitVec 32 := Scalar.divsi v170 c1_i32_67
  let v173 : BitVec 32 := Scalar.muli v172 c1_i32_67
  let v174 : BitVec 32 := Scalar.addi v169 v173
  let c1_i32_69 : BitVec 32 := 1#32
  let arg17 : BitVec 32 := Scf.iv v174 c1_i32_69 k0_t2
  let c512_i32_80 : BitVec 32 := 512#32
  let v200 : BitVec 32 := Scalar.muli arg17 c512_i32_80
  let v201 : BitVec 32 := v200
  let v202 : Index := Scalar.indexCast v201
  let c0_81 : Index := 0#32
  ![v202.toNat, 0]
def k0_off12 (i : grid0.Coords) (k0_t2 : Fin (k0_t2_loop i).trips) : Fin 4 → Nat :=
  let c0_89 : Index := 0#32
  let arg1 : BitVec 32 := BitVec.ofNat 32 (i 1).val
  let c1_i32_66 : BitVec 32 := 1#32
  let v169 : BitVec 32 := Scalar.addi arg1 c1_i32_66
  let c8_i32 : BitVec 32 := 8#32
  let v170 : BitVec 32 := Scalar.subi c8_i32 v169
  let c1_i32_67 : BitVec 32 := 1#32
  let v172 : BitVec 32 := Scalar.divsi v170 c1_i32_67
  let v173 : BitVec 32 := Scalar.muli v172 c1_i32_67
  let v174 : BitVec 32 := Scalar.addi v169 v173
  let c1_i32_69 : BitVec 32 := 1#32
  let arg17 : BitVec 32 := Scf.iv v174 c1_i32_69 k0_t2
  let v229 : Index := Scalar.indexCast arg17
  let c0_90 : Index := 0#32
  let c0_91 : Index := 0#32
  ![0, v229.toNat, 0, 0]
def k0_off13 (i : grid0.Coords) (k0_t2 : Fin (k0_t2_loop i).trips) : Fin 4 → Nat :=
  let c0_93 : Index := 0#32
  let arg1 : BitVec 32 := BitVec.ofNat 32 (i 1).val
  let c1_i32_66 : BitVec 32 := 1#32
  let v169 : BitVec 32 := Scalar.addi arg1 c1_i32_66
  let c8_i32 : BitVec 32 := 8#32
  let v170 : BitVec 32 := Scalar.subi c8_i32 v169
  let c1_i32_67 : BitVec 32 := 1#32
  let v172 : BitVec 32 := Scalar.divsi v170 c1_i32_67
  let v173 : BitVec 32 := Scalar.muli v172 c1_i32_67
  let v174 : BitVec 32 := Scalar.addi v169 v173
  let c1_i32_69 : BitVec 32 := 1#32
  let arg17 : BitVec 32 := Scf.iv v174 c1_i32_69 k0_t2
  let v237 : Index := Scalar.indexCast arg17
  let c1_94 : Index := 1#32
  let c0_95 : Index := 0#32
  ![0, v237.toNat, 1, 0]
def k0_off14 (i : grid0.Coords) (k0_t2 : Fin (k0_t2_loop i).trips) : Fin 3 → Nat :=
  let arg1 : BitVec 32 := BitVec.ofNat 32 (i 1).val
  let c1_i32_66 : BitVec 32 := 1#32
  let v169 : BitVec 32 := Scalar.addi arg1 c1_i32_66
  let c8_i32 : BitVec 32 := 8#32
  let v170 : BitVec 32 := Scalar.subi c8_i32 v169
  let c1_i32_67 : BitVec 32 := 1#32
  let v172 : BitVec 32 := Scalar.divsi v170 c1_i32_67
  let v173 : BitVec 32 := Scalar.muli v172 c1_i32_67
  let v174 : BitVec 32 := Scalar.addi v169 v173
  let c1_i32_69 : BitVec 32 := 1#32
  let arg17 : BitVec 32 := Scf.iv v174 c1_i32_69 k0_t2
  let v292 : Index := Scalar.indexCast arg17
  let c0_118 : Index := 0#32
  let c0_119 : Index := 0#32
  ![v292.toNat, 0, 0]
def k0_off15 (i : grid0.Coords) (k0_t2 : Fin (k0_t2_loop i).trips) : Fin 3 → Nat :=
  let arg1 : BitVec 32 := BitVec.ofNat 32 (i 1).val
  let c1_i32_66 : BitVec 32 := 1#32
  let v169 : BitVec 32 := Scalar.addi arg1 c1_i32_66
  let c8_i32 : BitVec 32 := 8#32
  let v170 : BitVec 32 := Scalar.subi c8_i32 v169
  let c1_i32_67 : BitVec 32 := 1#32
  let v172 : BitVec 32 := Scalar.divsi v170 c1_i32_67
  let v173 : BitVec 32 := Scalar.muli v172 c1_i32_67
  let v174 : BitVec 32 := Scalar.addi v169 v173
  let c1_i32_69 : BitVec 32 := 1#32
  let arg17 : BitVec 32 := Scf.iv v174 c1_i32_69 k0_t2
  let v302 : Index := Scalar.indexCast arg17
  let c1_123 : Index := 1#32
  let c0_124 : Index := 0#32
  ![v302.toNat, 1, 0]
def k0_cond2 (i : grid0.Coords) : BitVec 1 :=
  let arg1 : BitVec 32 := BitVec.ofNat 32 (i 1).val
  let c7_i32 : BitVec 32 := 7#32
  let v197 : BitVec 1 := Scalar.cmpi .eq arg1 c7_i32
  let v198 : BitVec 32 := Scalar.extui v197
  let c0_i32_79 : BitVec 32 := 0#32
  let v199 : BitVec 1 := Scalar.cmpi .ne v198 c0_i32_79
  v199

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4096x4224 : Shape := ⟨2, ![4096, 4224]⟩
abbrev S4096x16 : Shape := ⟨2, ![4096, 16]⟩
abbrev S4096x1024 : Shape := ⟨2, ![4096, 1024]⟩
abbrev S4096x16x64 : Shape := ⟨3, ![4096, 16, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x64x4096 : Shape := ⟨3, ![16, 64, 4096]⟩
abbrev S16x4096x64 : Shape := ⟨3, ![16, 4096, 64]⟩
abbrev S8x2x8x512 : Shape := ⟨4, ![8, 2, 8, 512]⟩
abbrev S8x8x2x512 : Shape := ⟨4, ![8, 8, 2, 512]⟩
abbrev S4096x8x2 : Shape := ⟨3, ![4096, 8, 2]⟩
abbrev S4096x8x128 : Shape := ⟨3, ![4096, 8, 128]⟩

abbrev nBuf : Space → Nat
  | .hbm => 132
  | .vmem => 0
  | .smem => 0
  | _ => 0

abbrev hbmTy0_0 (i : Nat) : BufTy := match i % 128 with
  | 0 => ⟨S4096x4224, .f32⟩
  | 1 => ⟨S4096x16, .f32⟩
  | 2 => ⟨S4096x1024, .f32⟩
  | 3 => ⟨S4096x1024, .f32⟩
  | 4 => ⟨S4096x1024, .f32⟩
  | 5 => ⟨S4096x1024, .f32⟩
  | 6 => ⟨S4096x16x64, .f32⟩
  | 7 => ⟨S4096x16x64, .f32⟩
  | 8 => ⟨S16x4096x4096, .f32⟩
  | 9 => ⟨S_, .f32⟩
  | 10 => ⟨S16x4096x4096, .f32⟩
  | 11 => ⟨S16x4096x4096, .f32⟩
  | 12 => ⟨S16x4096, .f32⟩
  | 13 => ⟨S16x4096x1, .f32⟩
  | 14 => ⟨S16x4096, .f32⟩
  | 15 => ⟨S16x1x4096, .f32⟩
  | 16 => ⟨S16x4096x4096, .f32⟩
  | 17 => ⟨S16x4096x4096, .f32⟩
  | 18 => ⟨S16x4096x4096, .f32⟩
  | 19 => ⟨S16x4096x4096, .f32⟩
  | 20 => ⟨S4096, .i32⟩
  | 21 => ⟨S4096x1, .i32⟩
  | 22 => ⟨S4096, .i32⟩
  | 23 => ⟨S1x4096, .i32⟩
  | 24 => ⟨S4096x4096, .i32⟩
  | 25 => ⟨S4096x4096, .i32⟩
  | 26 => ⟨S4096x4096, .i1⟩
  | 27 => ⟨S_, .f32⟩
  | 28 => ⟨S_, .f32⟩
  | 29 => ⟨S16x4096x4096, .i1⟩
  | 30 => ⟨S16x4096x4096, .f32⟩
  | 31 => ⟨S16x4096x4096, .f32⟩
  | 32 => ⟨S_, .f32⟩
  | 33 => ⟨S16x4096x4096, .f32⟩
  | 34 => ⟨S_, .f32⟩
  | 35 => ⟨S16x4096, .f32⟩
  | 36 => ⟨S16x4096x1, .f32⟩
  | 37 => ⟨S16x4096x4096, .f32⟩
  | 38 => ⟨S16x4096x4096, .i1⟩
  | 39 => ⟨S16x4096x4096, .f32⟩
  | 40 => ⟨S_, .f32⟩
  | 41 => ⟨S16x4096, .f32⟩
  | 42 => ⟨S_, .f32⟩
  | 43 => ⟨S16x4096, .f32⟩
  | 44 => ⟨S16x4096, .f32⟩
  | 45 => ⟨S_, .f32⟩
  | 46 => ⟨S16x4096, .f32⟩
  | 47 => ⟨S16x4096, .i1⟩
  | 48 => ⟨S_, .f32⟩
  | 49 => ⟨S16x4096, .f32⟩
  | 50 => ⟨S16x4096, .i1⟩
  | 51 => ⟨S_, .f32⟩
  | 52 => ⟨S16x4096, .f32⟩
  | 53 => ⟨S_, .f32⟩
  | 54 => ⟨S16x4096, .f32⟩
  | 55 => ⟨S_, .f32⟩
  | 56 => ⟨S16x4096, .f32⟩
  | 57 => ⟨S16x4096, .f32⟩
  | 58 => ⟨S16x4096, .f32⟩
  | 59 => ⟨S16x4096x1, .f32⟩
  | 60 => ⟨S16x4096x4096, .f32⟩
  | 61 => ⟨S16x4096x4096, .f32⟩
  | 62 => ⟨S16x4096x4096, .f32⟩
  | 63 => ⟨S_, .f32⟩
  | 64 => ⟨S16x4096, .f32⟩
  | 65 => ⟨S16x4096x1, .f32⟩
  | 66 => ⟨S16x4096x4096, .f32⟩
  | 67 => ⟨S16x4096x4096, .f32⟩
  | 68 => ⟨S16x4096x1, .f32⟩
  | 69 => ⟨S_, .f32⟩
  | 70 => ⟨S16x4096x1, .f32⟩
  | 71 => ⟨S16x4096x1, .f32⟩
  | 72 => ⟨S4096x16x64, .f32⟩
  | 73 => ⟨S16x64x4096, .f32⟩
  | 74 => ⟨S4096x16x64, .f32⟩
  | 75 => ⟨S4096x1024, .f32⟩
  | 76 => ⟨S4096x16x64, .f32⟩
  | 77 => ⟨S16x64x4096, .f32⟩
  | 78 => ⟨S16x4096x4096, .f32⟩
  | 79 => ⟨S16x64x4096, .f32⟩
  | 80 => ⟨S4096x16x64, .f32⟩
  | 81 => ⟨S4096x1024, .f32⟩
  | 82 => ⟨S16x4096x4096, .f32⟩
  | 83 => ⟨S16x4096x4096, .f32⟩
  | 84 => ⟨S16x4096x4096, .f32⟩
  | 85 => ⟨S_, .f32⟩
  | 86 => ⟨S16x4096, .f32⟩
  | 87 => ⟨S16x4096x1, .f32⟩
  | 88 => ⟨S16x4096x1, .f32⟩
  | 89 => ⟨S16x4096x4096, .f32⟩
  | 90 => ⟨S16x4096x4096, .f32⟩
  | 91 => ⟨S_, .f32⟩
  | 92 => ⟨S16x4096, .f32⟩
  | 93 => ⟨S16x4096x4096, .f32⟩
  | 94 => ⟨S16x4096x4096, .f32⟩
  | 95 => ⟨S16x4096x4096, .f32⟩
  | 96 => ⟨S_, .f32⟩
  | 97 => ⟨S16x4096x4096, .f32⟩
  | 98 => ⟨S16x4096x4096, .f32⟩
  | 99 => ⟨S_, .f32⟩
  | 100 => ⟨S16x4096, .f32⟩
  | 101 => ⟨S16x4096x1, .f32⟩
  | 102 => ⟨S16x4096x4096, .f32⟩
  | 103 => ⟨S_, .f32⟩
  | 104 => ⟨S16x4096, .f32⟩
  | 105 => ⟨S16x1x4096, .f32⟩
  | 106 => ⟨S_, .f32⟩
  | 107 => ⟨S16x4096, .f32⟩
  | 108 => ⟨S4096x16, .f32⟩
  | 109 => ⟨S_, .f32⟩
  | 110 => ⟨S16x4096, .f32⟩
  | 111 => ⟨S4096x16, .f32⟩
  | 112 => ⟨S_, .f32⟩
  | 113 => ⟨S16x4096x4096, .f32⟩
  | 114 => ⟨S16x4096x4096, .f32⟩
  | 115 => ⟨S16x4096x64, .f32⟩
  | 116 => ⟨S4096x16x64, .f32⟩
  | 117 => ⟨S16x4096x64, .f32⟩
  | 118 => ⟨S4096x16x64, .f32⟩
  | 119 => ⟨S4096x1024, .f32⟩
  | 120 => ⟨S4096x1024, .f32⟩
  | 121 => ⟨S16x4096, .f32⟩
  | 122 => ⟨S8x2x8x512, .f32⟩
  | 123 => ⟨S8x8x2x512, .f32⟩
  | 124 => ⟨S4096x8x2, .f32⟩
  | 125 => ⟨S_, .i32⟩
  | 126 => ⟨S_, .f32⟩
  | 127 => ⟨S4096x8x128, .f32⟩
  | _ => ⟨S4096x4224, .f32⟩

abbrev hbmTy0_1 (i : Nat) : BufTy := match i % 128 with
  | 0 => ⟨S4096x1024, .f32⟩
  | 1 => ⟨S4096x1024, .bf16⟩
  | 2 => ⟨S4096x1024, .bf16⟩
  | 3 => ⟨S4096x1024, .bf16⟩
  | _ => ⟨S4096x4224, .f32⟩

abbrev hbmTy (i : Nat) : BufTy := match i / 128 with
  | 0 => hbmTy0_0 i
  | 1 => hbmTy0_1 i
  | _ => ⟨S4096x4224, .f32⟩

abbrev bufTy : (tb : Table) → Fin (tcTables nBuf tb) → BufTy
  | .hbm, ⟨i, _⟩ => hbmTy i
  | _, _ => ⟨S4096x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_v23_1 : Ref sig .tc := ⟨.hbm, 29, rfl⟩
abbrev main_call0_v2 : Ref sig .tc := ⟨.hbm, 30, rfl⟩
abbrev main_v23_0 : Ref sig .tc := ⟨.hbm, 31, rfl⟩
abbrev main_call0_cst : Ref sig .tc := ⟨.hbm, 32, rfl⟩
abbrev main_v23_2 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c : Ref sig .tc := ⟨.hbm, 125, rfl⟩
abbrev main_call2_v0 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩

abbrev nD : Nat := 1
abbrev τ : Topo := Topo.v7x

variable {F : FTy → Type} [FloatOps F]
-- ==== Kernel2.lean ====
abbrev S4096x2048 : Shape := ⟨2, ![4096, 2048]⟩
abbrev S2048x4224 : Shape := ⟨2, ![2048, 4224]⟩
abbrev S4096x4224 : Shape := ⟨2, ![4096, 4224]⟩
abbrev S4096x512 : Shape := ⟨2, ![4096, 512]⟩
abbrev S4096x1408 : Shape := ⟨2, ![4096, 1408]⟩
abbrev S512x1408 : Shape := ⟨2, ![512, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4224, .bf16⟩
  | .hbm, ⟨2, _⟩ => ⟨S4096x4224, .bf16⟩
  | .hbm, ⟨3, _⟩ => ⟨S2048x4224, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S512x1408, .f32⟩
  | .local _ .vmem, ⟨5, _⟩ => ⟨S512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2048x4224 : Shape := ⟨2, ![2048, 4224]⟩
abbrev S4096x4224 : Shape := ⟨2, ![4096, 4224]⟩
abbrev S4224x2048 : Shape := ⟨2, ![4224, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4224, .bf16⟩
  | .hbm, ⟨2, _⟩ => ⟨S4096x4224, .bf16⟩
  | .hbm, ⟨3, _⟩ => ⟨S4096x2048, .f32⟩
  | .hbm, ⟨4, _⟩ => ⟨S2048x4224, .f32⟩
  | .hbm, ⟨5, _⟩ => ⟨S4096x4224, .f32⟩
  | .hbm, ⟨6, _⟩ => ⟨S4096x4224, .f32⟩
  | .hbm, ⟨7, _⟩ => ⟨S4224x2048, .f32⟩
  | .hbm, ⟨8, _⟩ => ⟨S2048x4224, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x2048 : Shape := ⟨2, ![4096, 2048]⟩
abbrev S2048x4096 : Shape := ⟨2, ![2048, 4096]⟩
abbrev S4096x4096 : Shape := ⟨2, ![4096, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .hbm, ⟨3, _⟩ => ⟨S2048x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2048 : Shape := ⟨2, ![4096, 2048]⟩
abbrev S2048x4224 : Shape := ⟨2, ![2048, 4224]⟩
abbrev S4096x4224 : Shape := ⟨2, ![4096, 4224]⟩
abbrev S8x128 : Shape := ⟨2, ![8, 128]⟩
abbrev S1024x4224 : Shape := ⟨2, ![1024, 4224]⟩
abbrev S512x4224 : Shape := ⟨2, ![512, 4224]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x4224, .bf16⟩
  | .hbm, ⟨2, _⟩ => ⟨S4096x4224, .bf16⟩
  | .hbm, ⟨3, _⟩ => ⟨S8x128, .f32⟩
  | .hbm, ⟨4, _⟩ => ⟨S4096x2048, .f32⟩
  | .local _ .vmem, ⟨0, _⟩ => ⟨S1024x4224, .bf16⟩
  | .local _ .vmem, ⟨1, _⟩ => ⟨S1024x4224, .bf16⟩
  | .local _ .vmem, ⟨2, _⟩ => ⟨S512x4224, .bf16⟩
  | .local _ .vmem, ⟨3, _⟩ => ⟨S512x4224, .bf16⟩
  | .local _ .vmem, ⟨4, _⟩ => ⟨S8x128, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4224 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x2048 : Shape := ⟨2, ![4096, 2048]⟩
abbrev S2048x4224 : Shape := ⟨2, ![2048, 4224]⟩
abbrev S4096x4224 : Shape := ⟨2, ![4096, 4224]⟩
abbrev S8x128 : Shape := ⟨2, ![8, 128]⟩
abbrev S4224x2048 : Shape := ⟨2, ![4224, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4224, .bf16⟩
  | .hbm, ⟨2, _⟩ => ⟨S4096x4224, .bf16⟩
  | .hbm, ⟨3, _⟩ => ⟨S8x128, .f32⟩
  | .hbm, ⟨4, _⟩ => ⟨S4096x2048, .f32⟩
  | .hbm, ⟨5, _⟩ => ⟨S2048x4224, .f32⟩
  | .hbm, ⟨6, _⟩ => ⟨S4096x4224, .f32⟩
  | .hbm, ⟨7, _⟩ => ⟨S4096x4224, .f32⟩
  | .hbm, ⟨8, _⟩ => ⟨S4224x2048, .f32⟩
  | .hbm, ⟨9, _⟩ => ⟨S2048x4224, .f32⟩
  | .hbm, ⟨10, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S4096x2048 : Shape := ⟨2, ![4096, 2048]⟩
abbrev S2048x4224 : Shape := ⟨2, ![2048, 4224]⟩
abbrev S4096x4224 : Shape := ⟨2, ![4096, 4224]⟩
abbrev S1024x4224 : Shape := ⟨2, ![1024, 4224]⟩
abbrev S512x4224 : Shape := ⟨2, ![512, 4224]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x4224, .bf16⟩
  | .hbm, ⟨2, _⟩ => ⟨S4096x4224, .bf16⟩
  | .hbm, ⟨3, _⟩ => ⟨S4096x2048, .f32⟩
  | .hbm, ⟨4, _⟩ => ⟨S4096x2048, .f32⟩
  | .local _ .vmem, ⟨0, _⟩ => ⟨S1024x4224, .bf16⟩
  | .local _ .vmem, ⟨1, _⟩ => ⟨S1024x4224, .bf16⟩
  | .local _ .vmem, ⟨2, _⟩ => ⟨S512x4224, .bf16⟩
  | .local _ .vmem, ⟨3, _⟩ => ⟨S512x4224, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4224 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2048 : Shape := ⟨2, ![4096, 2048]⟩
abbrev S2048x4224 : Shape := ⟨2, ![2048, 4224]⟩
abbrev S4096x4224 : Shape := ⟨2, ![4096, 4224]⟩
abbrev S4224x2048 : Shape := ⟨2, ![4224, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4224, .bf16⟩
  | .hbm, ⟨2, _⟩ => ⟨S4096x4224, .bf16⟩
  | .hbm, ⟨3, _⟩ => ⟨S4096x2048, .f32⟩
  | .hbm, ⟨4, _⟩ => ⟨S4096x2048, .f32⟩
  | .hbm, ⟨5, _⟩ => ⟨S2048x4224, .f32⟩
  | .hbm, ⟨6, _⟩ => ⟨S4096x4224, .f32⟩
  | .hbm, ⟨7, _⟩ => ⟨S4096x4224, .f32⟩
  | .hbm, ⟨8, _⟩ => ⟨S4224x2048, .f32⟩
  | .hbm, ⟨9, _⟩ => ⟨S2048x4224, .f32⟩
  | .hbm, ⟨10, _⟩ => ⟨S4096x2048, .f32⟩
  | .hbm, ⟨11, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S4096x2048 : Shape := ⟨2, ![4096, 2048]⟩
abbrev S2048x4096 : Shape := ⟨2, ![2048, 4096]⟩
abbrev S4096x4096 : Shape := ⟨2, ![4096, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .hbm, ⟨3, _⟩ => ⟨S4096x2048, .f32⟩
  | .hbm, ⟨4, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .hbm, ⟨3, _⟩ => ⟨S4096x2048, .f32⟩
  | .hbm, ⟨4, _⟩ => ⟨S4096x2048, .f32⟩
  | .hbm, ⟨5, _⟩ => ⟨S2048x4096, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S2048x4096, .f32⟩
  | .hbm, ⟨10, _⟩ => ⟨S4096x2048, .f32⟩
  | .hbm, ⟨11, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x1024 : Shape := ⟨2, ![4096, 1024]⟩
abbrev S1024x2048 : Shape := ⟨2, ![1024, 2048]⟩
abbrev S4096x2048 : Shape := ⟨2, ![4096, 2048]⟩
abbrev S4096x512 : Shape := ⟨2, ![4096, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S1024x2048, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x2048 : Shape := ⟨2, ![1024, 2048]⟩
abbrev S4096x2048 : Shape := ⟨2, ![4096, 2048]⟩
abbrev S8x128 : Shape := ⟨2, ![8, 128]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S8x128, .f32⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S8x128, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x1024 : Shape := ⟨2, ![4096, 1024]⟩
abbrev S1024x2048 : Shape := ⟨2, ![1024, 2048]⟩
abbrev S4096x2048 : Shape := ⟨2, ![4096, 2048]⟩
abbrev S8x128 : Shape := ⟨2, ![8, 128]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S8x128, .f32⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel11.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x256 : Shape := ⟨2, ![4096, 256]⟩
abbrev S256x2048 : Shape := ⟨2, ![256, 2048]⟩
abbrev S4096x2048 : Shape := ⟨2, ![4096, 2048]⟩
abbrev S4096x1024 : Shape := ⟨2, ![4096, 1024]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .bf16⟩
  | .hbm, ⟨3, _⟩ => ⟨S256x2048, .f32⟩
  | .local _ .vmem, ⟨0, _⟩ => ⟨S4096x256, .f32⟩
  | .local _ .vmem, ⟨1, _⟩ => ⟨S4096x1024, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x256 : Shape := ⟨2, ![4096, 256]⟩
abbrev S256x2048 : Shape := ⟨2, ![256, 2048]⟩
abbrev S4096x2048 : Shape := ⟨2, ![4096, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .bf16⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S2048x256, .f32⟩
  | .hbm, ⟨7, _⟩ => ⟨S256x2048, .f32⟩
  | .hbm, ⟨8, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x2048 : Shape := ⟨2, ![4096, 2048]⟩
abbrev S2048x4224 : Shape := ⟨2, ![2048, 4224]⟩
abbrev S8x128 : Shape := ⟨2, ![8, 128]⟩
abbrev S4096x4224 : Shape := ⟨2, ![4096, 4224]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x4224, .bf16⟩
  | .hbm, ⟨2, _⟩ => ⟨S8x128, .f32⟩
  | .hbm, ⟨3, _⟩ => ⟨S4096x4224, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S8x128, .f32⟩
  | .local _ .vmem, ⟨5, _⟩ => ⟨S1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x2048 : Shape := ⟨2, ![4096, 2048]⟩
abbrev S2048x4224 : Shape := ⟨2, ![2048, 4224]⟩
abbrev S8x128 : Shape := ⟨2, ![8, 128]⟩
abbrev S4096x4224 : Shape := ⟨2, ![4096, 4224]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4224, .bf16⟩
  | .hbm, ⟨2, _⟩ => ⟨S8x128, .f32⟩
  | .hbm, ⟨3, _⟩ => ⟨S4096x2048, .f32⟩
  | .hbm, ⟨4, _⟩ => ⟨S2048x4224, .f32⟩
  | .hbm, ⟨5, _⟩ => ⟨S4096x4224, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S4096x2048 : Shape := ⟨2, ![4096, 2048]⟩
abbrev S2048x4096 : Shape := ⟨2, ![2048, 4096]⟩
abbrev S8x128 : Shape := ⟨2, ![8, 128]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S8x128, .f32⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4096x2048 : Shape := ⟨2, ![4096, 2048]⟩
abbrev S2048x4096 : Shape := ⟨2, ![2048, 4096]⟩
abbrev S8x128 : Shape := ⟨2, ![8, 128]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S8x128, .f32⟩
  | .hbm, ⟨3, _⟩ => ⟨S4096x2048, .f32⟩
  | .hbm, ⟨4, _⟩ => ⟨S2048x4096, .f32⟩
  | .hbm, ⟨5, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S256x2048, .f32⟩
  | .hbm, ⟨3, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Same.lean ====
/-
  The two printed programs are one text: the kernel's run over any floats is therefore the run of both.
-/
module

public import proofs.«01_k».proof.Defs
public import proofs.«01_k».proof.Proof.Gen.Kernel
public import proofs.«01_k».proof.Proof.Gen.KernelIdeal

@[expose] public section

set_option maxRecDepth 16384

noncomputable section

namespace Cert.Proof

open Idealize.ShloMosaic Idealize.SL.Sem Idealize.ShloMosaic.TcCoe

set_option smartUnfolding false in
set_option maxHeartbeats 0 in
/-- The body tables. -/
theorem defs_same : Cert.Kernel.defs (F := Bits) = Cert.KernelIdeal.defs (F := Bits) := rfl

set_option smartUnfolding false in
set_option maxHeartbeats 0 in
/-- The host programs. -/
theorem main_same : Cert.Kernel.main (F := Bits) = Cert.KernelIdeal.main (F := Bits) := by
  have h : Cert.Kernel.main_part0 (F := Bits) = Cert.KernelIdeal.main_part0 (F := Bits) := by
    funext c
    rfl
  have h' : Cert.Kernel.main_part1 (F := Bits) = Cert.KernelIdeal.main_part1 (F := Bits) := rfl
  funext c
  unfold Cert.Kernel.main Cert.KernelIdeal.main
  rw [h, h']
  rfl

end Cert.Proof

end
-- ==== Proof.Step.lean ====
/-
  What one grid point of the backward pass of the forgetting attention computes, as plain functions of the blocks it reads:
  the diagonal block first, then the loop over the later query blocks. The carried values are (dk, dv, dck of head 0, dck of head 1);
  beside them the two accumulators dq (4096×128) and dcq (8×2×512).
-/
module

public import proofs.«01_k».proof.Proof.Gen.KernelIdeal.Loops
public import Idealize.ShloMosaic.Lib.VecWindow

@[expose] public section

set_option maxRecDepth 16384

noncomputable section

namespace Cert.KernelIdeal.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The blocks a grid point reads: q, k, v, do, the cumulated log gates by lane and by row, the rows' log-sums, the rows' sums of do·o. -/
structure Ins (F : FTy → Type) where
  q : Vec F S4096x128 .f32
  k : Vec F S512x128 .f32
  v : Vec F S512x128 .f32
  g : Vec F S4096x128 .f32
  c : Vec F S512x128 .f32
  ct : Vec F S1x8x2x512 .f32
  lse : Vec F S1x8x2x512 .f32
  dd : Vec F S1x8x2x512 .f32

/-- The values carried from one query block to the next. -/
abbrev Carry (F : FTy → Type) := FVec F S512x128 .f32 × FVec F S512x128 .f32 × FVec F S512x1 .f32 × FVec F S512x1 .f32

/-- What a point holds between two query blocks: the carried values, dq and dcq. -/
structure St (F : FTy → Type) where
  acc : Carry F
  dq : Vec F S4096x128 .f32
  dcq : Vec F S8x2x512 .f32

/-- One query block's rows: q and do (512×128), and by head the rows of ct, lse and dd. -/
structure Blk (F : FTy → Type) where
  q : Vec F S512x128 .f32
  g : Vec F S512x128 .f32
  ct0 : Vec F S1x1x1x512 .f32
  ct1 : Vec F S1x1x1x512 .f32
  lse0 : Vec F S1x1x1x512 .f32
  lse1 : Vec F S1x1x1x512 .f32
  dd0 : Vec F S1x1x1x512 .f32
  dd1 : Vec F S1x1x1x512 .f32

variable (i : grid0.Coords) (X : Ins F)

/-- The diagonal query block of the point. -/
def diagBlk : Blk F where
  q := VecWindow.window X.q (k0_off1 i) S512x128.size (k0_off1_inb i)
  g := VecWindow.window X.g (k0_off1 i) S512x128.size (k0_off1_inb i)
  ct0 := VecWindow.window X.ct (k0_off2 i) S1x1x1x512.size (k0_off2_inb i)
  ct1 := VecWindow.window X.ct (k0_off3 i) S1x1x1x512.size (k0_off3_inb i)
  lse0 := VecWindow.window X.lse (k0_off2 i) S1x1x1x512.size (k0_off2_inb i)
  lse1 := VecWindow.window X.lse (k0_off3 i) S1x1x1x512.size (k0_off3_inb i)
  dd0 := VecWindow.window X.dd (k0_off2 i) S1x1x1x512.size (k0_off2_inb i)
  dd1 := VecWindow.window X.dd (k0_off3 i) S1x1x1x512.size (k0_off3_inb i)

/-- The query block of the loop's trip `n`. -/
def tripBlk (n : Fin (k0_t1_loop i).trips) : Blk F where
  q := VecWindow.window X.q (k0_off6 i n) S512x128.size (k0_off6_inb i n)
  g := VecWindow.window X.g (k0_off6 i n) S512x128.size (k0_off6_inb i n)
  ct0 := VecWindow.window X.ct (k0_off7 i n) S1x1x1x512.size (k0_off7_inb i n)
  ct1 := VecWindow.window X.ct (k0_off8 i n) S1x1x1x512.size (k0_off8_inb i n)
  lse0 := VecWindow.window X.lse (k0_off7 i n) S1x1x1x512.size (k0_off7_inb i n)
  lse1 := VecWindow.window X.lse (k0_off8 i n) S1x1x1x512.size (k0_off8_inb i n)
  dd0 := VecWindow.window X.dd (k0_off7 i n) S1x1x1x512.size (k0_off7_inb i n)
  dd1 := VecWindow.window X.dd (k0_off8 i n) S1x1x1x512.size (k0_off8_inb i n)

/-- The keys under head 0's lanes, and under head 1's. -/
def kh0 : FVec F S512x128 .bf16 := k0_pay37 X.k
def kh1 : FVec F S512x128 .bf16 := k0_pay38 X.k
/-- The values. -/
def vb : FVec F S512x128 .bf16 := k0_pay39 X.v
/-- The keys' cumulated log gates of head 0, and of head 1. -/
def ck0 : FVec F S512x1 .f32 := k0_pay41 i X.c
def ck1 : FVec F S512x1 .f32 := k0_pay44 (k0_pay40 X.c) (k0_pay42 i) (k0_pay43 (F := F))

section Diag
variable (B : Blk F)

/-- The diagonal block's gradient of the logits, head 0. -/
def ds0 : FVec F S512x512 .f32 :=
  k0_pay56 (vb X) (iota .tc S512x512 32 [0] iota_S512x512_d0_w32) (iota .tc S512x512 32 [1] iota_S512x512_d1_w32)
    (k0_pay50 k0_pay35 B.g) (k0_pay52 k0_pay35 (kh0 X) (ck0 i X) B.q B.ct0) B.lse0 B.dd0
/-- The diagonal block's gradient of the logits, head 1. -/
def ds1 : FVec F S512x512 .f32 :=
  k0_pay57 (vb X) (ck1 i X) (iota .tc S512x512 32 [0] iota_S512x512_d0_w32) (iota .tc S512x512 32 [1] iota_S512x512_d1_w32)
    (k0_pay51 k0_pay36 B.g) (k0_pay53 k0_pay36 (kh1 X) B.q) B.ct1 B.lse1 B.dd1
/-- The diagonal block's probabilities, head 0, and head 1. -/
def p0 : FVec F S512x512 .bf16 :=
  k0_pay58 (iota .tc S512x512 32 [0] iota_S512x512_d0_w32) (iota .tc S512x512 32 [1] iota_S512x512_d1_w32)
    (k0_pay52 k0_pay35 (kh0 X) (ck0 i X) B.q B.ct0) B.lse0
def p1 : FVec F S512x512 .bf16 :=
  k0_pay59 (ck1 i X) (iota .tc S512x512 32 [0] iota_S512x512_d0_w32) (iota .tc S512x512 32 [1] iota_S512x512_d1_w32)
    (k0_pay53 k0_pay36 (kh1 X) B.q) B.ct1 B.lse1

/-- The carried values after the diagonal block. -/
def diagAcc : Carry F :=
  (k0_pay63 (k0_pay45 (F := F)) (k0_pay48 k0_pay35 B.q) (k0_pay49 k0_pay36 B.q) (ds0 i X B) (ds1 i X B),
   k0_pay62 (k0_pay45 (F := F)) (k0_pay50 k0_pay35 B.g) (k0_pay51 k0_pay36 B.g) (p0 i X B) (p1 i X B),
   k0_pay67 (k0_pay46 (F := F)) (ds0 i X B), k0_pay68 (k0_pay46 (F := F)) (ds1 i X B))

/-- The diagonal block's rows of dq, from what they held. -/
def diagDq (a : Vec F S512x128 .f32) : FVec F S512x128 .f32 := k0_pay64 (kh0 X) (kh1 X) (ds0 i X B) (ds1 i X B) a
/-- The diagonal block's rows of dcq, by head, from what they held. -/
def diagDcq0 (a : Vec F S1x1x512 .f32) : FVec F S1x1x512 .f32 := k0_pay65 (ds0 i X B) a
def diagDcq1 (a : Vec F S1x1x512 .f32) : FVec F S1x1x512 .f32 := k0_pay66 (ds1 i X B) a

end Diag

/-- The state after the diagonal block, from the accumulators before it. -/
def diagSt (s : Vec F S4096x128 .f32) (r : Vec F S8x2x512 .f32) : St F where
  acc := diagAcc i X (diagBlk i X)
  dq := VecWindow.put s (k0_off1 i) S512x128.size
    (diagDq i X (diagBlk i X) (VecWindow.window s (k0_off1 i) S512x128.size (k0_off1_inb i)))
  dcq :=
    let r' := VecWindow.put r (k0_off4 i) S1x1x512.size
      (diagDcq0 i X (diagBlk i X) (VecWindow.window r (k0_off4 i) S1x1x512.size (k0_off4_inb i)))
    VecWindow.put r' (k0_off5 i) S1x1x512.size
      (diagDcq1 i X (diagBlk i X) (VecWindow.window r (k0_off5 i) S1x1x512.size (k0_off5_inb i)))

section Trip
variable (B : Blk F)

/-- A later query block's logits less the key's gate, head 0; head 1's products. -/
def ts0 : FVec F S512x512 .f32 := k0_pay6 k0_pay35 (kh0 X) (ck0 i X) B.q B.ct0
def ts1 : FVec F S512x512 .f32 := k0_pay7 k0_pay36 (kh1 X) B.q B.ct1
/-- Its gradient of the logits, head 0, and head 1. -/
def tds0 : FVec F S512x512 .f32 := k0_pay11 (vb X) (k0_pay4 k0_pay35 B.g) (ts0 i X B) B.lse0 B.dd0
def tds1 : FVec F S512x512 .f32 := k0_pay12 (vb X) (k0_pay5 k0_pay36 B.g) (ts1 X B) (k0_pay8 (ck1 i X)) B.lse1 B.dd1

/-- The carried values after it. -/
def tripAcc (a : Carry F) : Carry F :=
  (k0_pay16 (vb X) a.1 (k0_pay2 k0_pay35 B.q) (k0_pay3 k0_pay36 B.q) (k0_pay4 k0_pay35 B.g) (k0_pay5 k0_pay36 B.g)
      (ts0 i X B) (ts1 X B) (k0_pay8 (ck1 i X)) B.lse0 B.lse1 B.dd0 B.dd1,
   k0_pay15 a.2.1 (k0_pay4 k0_pay35 B.g) (k0_pay5 k0_pay36 B.g) (ts0 i X B) (ts1 X B) (k0_pay8 (ck1 i X)) B.lse0 B.lse1,
   k0_pay72 a.2.2.1 (tds0 i X B), k0_pay73 a.2.2.2 (tds1 i X B))

/-- Its rows of dq, from what they held. -/
def tripDq (a : Vec F S512x128 .f32) : FVec F S512x128 .f32 :=
  k0_pay69 (kh0 X) (kh1 X) (k0_pay13 (vb X) (k0_pay4 k0_pay35 B.g) (ts0 i X B) B.lse0 B.dd0)
    (k0_pay14 (vb X) (k0_pay5 k0_pay36 B.g) (ts1 X B) (k0_pay8 (ck1 i X)) B.lse1 B.dd1) a
/-- Its rows of dcq, by head, from what they held. -/
def tripDcq0 (a : Vec F S1x1x512 .f32) : FVec F S1x1x512 .f32 := k0_pay70 (tds0 i X B) a
def tripDcq1 (a : Vec F S1x1x512 .f32) : FVec F S1x1x512 .f32 := k0_pay71 (tds1 i X B) a

end Trip

/-- The state after the loop's trip `n`, from the state before it. -/
def tripSt (n : Fin (k0_t1_loop i).trips) (S : St F) : St F where
  acc := tripAcc i X (tripBlk i X n) S.acc
  dq := VecWindow.put S.dq (k0_off6 i n) S512x128.size
    (tripDq i X (tripBlk i X n) (VecWindow.window S.dq (k0_off6 i n) S512x128.size (k0_off6_inb i n)))
  dcq :=
    let r' := VecWindow.put S.dcq (k0_off9 i n) S1x1x512.size
      (tripDcq0 i X (tripBlk i X n) (VecWindow.window S.dcq (k0_off9 i n) S1x1x512.size (k0_off9_inb i n)))
    VecWindow.put r' (k0_off10 i n) S1x1x512.size
      (tripDcq1 i X (tripBlk i X n) (VecWindow.window S.dcq (k0_off10 i n) S1x1x512.size (k0_off10_inb i n)))

/-- The state before the loop's trip `n`, from the state after the diagonal block. -/
def loopSt (S : St F) : ℕ → St F
  | 0 => S
  | n + 1 => if h : n < (k0_t1_loop i).trips then tripSt i X ⟨n, h⟩ (loopSt S n) else loopSt S n

/-- The state a point ends with, from the accumulators it begins with. -/
def endSt (s : Vec F S4096x128 .f32) (r : Vec F S8x2x512 .f32) : St F :=
  loopSt i X (diagSt i X s r) (k0_t1_loop i).trips

/-- What a point stores: dk, dv and dck from the carried values, dq and dcq from the accumulators. -/
def outDk (S : St F) : FVec F S512x128 .bf16 := k0_pay79 S.acc.1
def outDv (S : St F) : FVec F S512x128 .bf16 := k0_pay80 S.acc.2.1
def outDck (S : St F) : FVec F S512x128 .f32 :=
  k0_pay81 (iota .tc S1x128 32 [1] iota_S1x128_d1_w32) S.acc.2.2.1 S.acc.2.2.2
def outDq (S : St F) : FVec F S4096x128 .bf16 := k0_pay82 S.dq
def outDcq (S : St F) : FVec F S1x8x2x512 .f32 := k0_pay83 S.dcq

end Cert.KernelIdeal.FoxBwd
-- ==== Proof.Point.lean ====
/-
  What one query block adds to what a point of the backward attention carries, over the reals.
-/
module

public import proofs.«01_k».proof.Proof.Step
public import Idealize.ShloMosaic.Lib.Pointwise
public import Idealize.ShloMosaic.Lib.ValueIdx
public import Idealize.ShloMosaic.Lib.WordCmp

@[expose] public section

set_option maxRecDepth 16384

noncomputable section

namespace Cert.KernelIdeal.FoxBwd

open Idealize.ShloMosaic Idealize.ShloMosaic.TcCoe Idealize.ShloMosaic.Tactic
open Idealize.SL.Sem
open Cert.KernelIdeal.Gen

/-! ## Sums of real numbers among the extended ones -/

theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

theorem exp_coe (x : ℝ) : Ideal.exp (x : EReal) = ((Real.exp x : ℝ) : EReal) := rfl

theorem eighth : Ideal.ofBits .f32 0x3E000000#32 = ((1 / 8 : ℝ) : EReal) := by
  simp [Ideal.ofBits, Ideal.ieee, -EReal.coe_mul]; norm_num

/-! ## The lanes of a head -/

/-- Lane `l` belongs to head `h` of the pair. -/
abbrev inH (h : Fin 2) (l : Fin 128) : Prop := l.val / 64 = h.val

/-- The head a lane belongs to. -/
def hd (l : Fin 128) : Fin 2 := ⟨l.val / 64, by omega⟩

theorem sel_head0 {α : Type} (l : Fin 128) (a b : α) :
    Scalar.select (IntOp.cmpi .slt (BitVec.ofNat 32 l.val) 64#32) a b = if inH 0 l then a else b := by
  have h : ∀ l : Fin 128, (IntOp.cmpi .slt (BitVec.ofNat 32 l.val) 64#32 = 1) = (inH 0 l) := by decide +kernel
  simp only [Scalar.select, h]

theorem sel_head1 {α : Type} (l : Fin 128) (a b : α) :
    Scalar.select (IntOp.cmpi .sge (BitVec.ofNat 32 l.val) 64#32) a b = if inH 1 l then a else b := by
  have h : ∀ l : Fin 128, (IntOp.cmpi .sge (BitVec.ofNat 32 l.val) 64#32 = 1) = (inH 1 l) := by decide +kernel
  simp only [Scalar.select, h]

theorem sel_le {α : Type} (r s : Fin 512) (a b : α) :
    Scalar.select (IntOp.cmpi .sle (BitVec.ofNat 32 r.val) (BitVec.ofNat 32 s.val)) a b = if r ≤ s then a else b := by
  have h : (IntOp.cmpi .sle (BitVec.ofNat 32 r.val) (BitVec.ofNat 32 s.val) = 1) ↔ r.val ≤ s.val := by
    have := r.isLt; have := s.isLt
    show _ = 1#1 ↔ _
    word_cmp
  unfold Scalar.select
  by_cases hrs : r.val ≤ s.val
  · rw [if_pos (h.2 hrs), if_pos (show r ≤ s from hrs)]
  · rw [if_neg (fun e => hrs (h.1 e)), if_neg (show ¬ r ≤ s from hrs)]

theorem coe_ite (p : Prop) [Decidable p] (a : ℝ) : (if p then ((a : ℝ) : EReal) else 0) = ((if p then a else 0 : ℝ) : EReal) := by
  split <;> simp

/-! ## The real numbers that a point's blocks hold -/

/-- A key block: keys, values, cumulated log gates by head. -/
structure RKey where
  k : Fin 512 → Fin 128 → ℝ
  v : Fin 512 → Fin 128 → ℝ
  c : Fin 2 → Fin 512 → ℝ

/-- A query block: queries, gradients of the output, and by head the cumulated log gates, log-sums and sums of do·o. -/
structure RQry where
  q : Fin 512 → Fin 128 → ℝ
  g : Fin 512 → Fin 128 → ℝ
  ct : Fin 2 → Fin 512 → ℝ
  lse : Fin 2 → Fin 512 → ℝ
  dd : Fin 2 → Fin 512 → ℝ

variable (K : RKey) (Q : RQry) (mk : Fin 512 → Fin 512 → Prop) [∀ r s, Decidable (mk r s)]

/-- A block's logit less the row's log-sum. -/
def lg (h : Fin 2) (r s : Fin 512) : ℝ :=
  ((∑ l : Fin 128, if inH h l then K.k r l * (Q.q s l * (1 / 8)) else 0) + Q.ct h s - K.c h r) - Q.lse h s
/-- Its probability. -/
def pr (h : Fin 2) (r s : Fin 512) : ℝ := if mk r s then Real.exp (lg K Q h r s) else 0
/-- The gradient of its logit. -/
def dsr (h : Fin 2) (r s : Fin 512) : ℝ :=
  if mk r s then Real.exp (lg K Q h r s) * ((∑ l : Fin 128, if inH h l then K.v r l * Q.g s l else 0) - Q.dd h s) else 0

/-- The blocks of a point hold the real numbers `K`. -/
structure HoldsK (i : grid0.Coords) (X : Ins Ideal) (K : RKey) : Prop where
  k : ∀ r l, X.k (ix2 r l) = ((K.k r l : ℝ) : EReal)
  v : ∀ r l, X.v (ix2 r l) = ((K.v r l : ℝ) : EReal)
  c0 : ∀ r, ck0 i X (ix2 r 0) = ((K.c 0 r : ℝ) : EReal)
  c1 : ∀ r, ck1 i X (ix2 r 0) = ((K.c 1 r : ℝ) : EReal)

/-- A query block holds the real numbers `Q`. -/
structure HoldsQ (B : Blk Ideal) (Q : RQry) : Prop where
  q : ∀ s l, B.q (ix2 s l) = ((Q.q s l : ℝ) : EReal)
  g : ∀ s l, B.g (ix2 s l) = ((Q.g s l : ℝ) : EReal)
  ct0 : ∀ s, B.ct0 (ix4 0 0 0 s) = ((Q.ct 0 s : ℝ) : EReal)
  ct1 : ∀ s, B.ct1 (ix4 0 0 0 s) = ((Q.ct 1 s : ℝ) : EReal)
  lse0 : ∀ s, B.lse0 (ix4 0 0 0 s) = ((Q.lse 0 s : ℝ) : EReal)
  lse1 : ∀ s, B.lse1 (ix4 0 0 0 s) = ((Q.lse 1 s : ℝ) : EReal)
  dd0 : ∀ s, B.dd0 (ix4 0 0 0 s) = ((Q.dd 0 s : ℝ) : EReal)
  dd1 : ∀ s, B.dd1 (ix4 0 0 0 s) = ((Q.dd 1 s : ℝ) : EReal)

variable {i : grid0.Coords} {X : Ins Ideal} {B : Blk Ideal} {K Q}

theorem kh0_at (hK : HoldsK i X K) (r : Fin 512) (l : Fin 128) : kh0 X (ix2 r l) = ((if inH 0 l then K.k r l else 0 : ℝ) : EReal) := by
  unfold kh0
  pointwise [k0_pay37, k0_pay35]
  simp only [sel_head0, hK.k, coe_ite]
theorem kh1_at (hK : HoldsK i X K) (r : Fin 512) (l : Fin 128) : kh1 X (ix2 r l) = ((if inH 1 l then K.k r l else 0 : ℝ) : EReal) := by
  unfold kh1
  pointwise [k0_pay38, k0_pay36]
  simp only [sel_head1, hK.k, coe_ite]
theorem vb_at (hK : HoldsK i X K) (r : Fin 512) (l : Fin 128) : vb X (ix2 r l) = ((K.v r l : ℝ) : EReal) := by
  unfold vb
  pointwise [k0_pay39]
  exact hK.v r l

theorem qt0_at (hQ : HoldsQ B Q) (s : Fin 512) (l : Fin 128) :
    k0_pay2 k0_pay35 B.q (ix2 s l) = ((if inH 0 l then Q.q s l * (1 / 8) else 0 : ℝ) : EReal) := by
  pointwise [k0_pay2, k0_pay1, k0_pay35]
  simp only [sel_head0, hQ.q, eighth, ← EReal.coe_mul, coe_ite]
theorem gt0_at (hQ : HoldsQ B Q) (s : Fin 512) (l : Fin 128) :
    k0_pay4 k0_pay35 B.g (ix2 s l) = ((if inH 0 l then Q.g s l else 0 : ℝ) : EReal) := by
  pointwise [k0_pay4, k0_pay35]
  simp only [sel_head0, hQ.g, coe_ite]
theorem qd0_at (hQ : HoldsQ B Q) (s : Fin 512) (l : Fin 128) :
    k0_pay48 k0_pay35 B.q (ix2 s l) = ((if inH 0 l then Q.q s l * (1 / 8) else 0 : ℝ) : EReal) := by
  pointwise [k0_pay48, k0_pay47, k0_pay35]
  simp only [sel_head0, hQ.q, eighth, ← EReal.coe_mul, coe_ite]
theorem gd0_at (hQ : HoldsQ B Q) (s : Fin 512) (l : Fin 128) :
    k0_pay50 k0_pay35 B.g (ix2 s l) = ((if inH 0 l then Q.g s l else 0 : ℝ) : EReal) := by
  pointwise [k0_pay50, k0_pay35]
  simp only [sel_head0, hQ.g, coe_ite]

theorem qt1_at (hQ : HoldsQ B Q) (s : Fin 512) (l : Fin 128) :
    k0_pay3 k0_pay36 B.q (ix2 s l) = ((if inH 1 l then Q.q s l * (1 / 8) else 0 : ℝ) : EReal) := by
  pointwise [k0_pay3, k0_pay1, k0_pay36]
  simp only [sel_head1, hQ.q, eighth, ← EReal.coe_mul, coe_ite]
theorem gt1_at (hQ : HoldsQ B Q) (s : Fin 512) (l : Fin 128) :
    k0_pay5 k0_pay36 B.g (ix2 s l) = ((if inH 1 l then Q.g s l else 0 : ℝ) : EReal) := by
  pointwise [k0_pay5, k0_pay36]
  simp only [sel_head1, hQ.g, coe_ite]
theorem qd1_at (hQ : HoldsQ B Q) (s : Fin 512) (l : Fin 128) :
    k0_pay49 k0_pay36 B.q (ix2 s l) = ((if inH 1 l then Q.q s l * (1 / 8) else 0 : ℝ) : EReal) := by
  pointwise [k0_pay49, k0_pay47, k0_pay36]
  simp only [sel_head1, hQ.q, eighth, ← EReal.coe_mul, coe_ite]
theorem gd1_at (hQ : HoldsQ B Q) (s : Fin 512) (l : Fin 128) :
    k0_pay51 k0_pay36 B.g (ix2 s l) = ((if inH 1 l then Q.g s l else 0 : ℝ) : EReal) := by
  pointwise [k0_pay51, k0_pay36]
  simp only [sel_head1, hQ.g, coe_ite]

theorem sum_head (h : Fin 2) (a b : Fin 128 → ℝ) :
    (∑ l, (if inH h l then a l else 0) * (if inH h l then b l else 0)) = ∑ l, if inH h l then a l * b l else 0 :=
  Finset.sum_congr rfl fun l _ => by split <;> simp
theorem sum_head' (h : Fin 2) (a b : Fin 128 → ℝ) :
    (∑ l, a l * (if inH h l then b l else 0)) = ∑ l, if inH h l then a l * b l else 0 :=
  Finset.sum_congr rfl fun l _ => by split <;> simp

theorem ts0_at (hK : HoldsK i X K) (hQ : HoldsQ B Q) (r s : Fin 512) :
    ts0 i X B (ix2 r s) - B.lse0 (ix4 0 0 0 s) = ((lg K Q 0 r s : ℝ) : EReal) := by
  unfold ts0
  pointwise [k0_pay6]
  simp only [kh0_at hK, qt0_at hQ, hQ.ct0, hQ.lse0, hK.c0, ← EReal.coe_mul, coe_sum, ← EReal.coe_add, ← EReal.coe_sub, sum_head, lg]
theorem ts1_at (hK : HoldsK i X K) (hQ : HoldsQ B Q) (r s : Fin 512) :
    ts1 X B (ix2 r s) - ck1 i X (ix2 r 0) - B.lse1 (ix4 0 0 0 s) = ((lg K Q 1 r s : ℝ) : EReal) := by
  unfold ts1
  pointwise [k0_pay7]
  simp only [kh1_at hK, qt1_at hQ, hQ.ct1, hQ.lse1, hK.c1, ← EReal.coe_mul, coe_sum, ← EReal.coe_add, ← EReal.coe_sub, sum_head, lg]
theorem tp0_at (hK : HoldsK i X K) (hQ : HoldsQ B Q) (r s : Fin 512) :
    k0_pay9 (ts0 i X B) B.lse0 (ix2 r s) = ((pr K Q (fun _ _ => True) 0 r s : ℝ) : EReal) := by
  pointwise [k0_pay9]
  rw [ts0_at hK hQ, exp_coe, pr, if_pos trivial]
theorem tp1_at (hK : HoldsK i X K) (hQ : HoldsQ B Q) (r s : Fin 512) :
    k0_pay10 (ts1 X B) (k0_pay8 (ck1 i X)) B.lse1 (ix2 r s) = ((pr K Q (fun _ _ => True) 1 r s : ℝ) : EReal) := by
  pointwise [k0_pay10, k0_pay8]
  rw [ts1_at hK hQ, exp_coe, pr, if_pos trivial]
theorem tds0_at (hK : HoldsK i X K) (hQ : HoldsQ B Q) (r s : Fin 512) :
    tds0 i X B (ix2 r s) = ((dsr K Q (fun _ _ => True) 0 r s : ℝ) : EReal) := by
  unfold tds0
  pointwise [k0_pay11]
  rw [tp0_at hK hQ]
  simp only [vb_at hK, gt0_at hQ, hQ.dd0, ← EReal.coe_mul, coe_sum, ← EReal.coe_sub, sum_head', dsr, pr, if_true]
theorem tds1_at (hK : HoldsK i X K) (hQ : HoldsQ B Q) (r s : Fin 512) :
    tds1 i X B (ix2 r s) = ((dsr K Q (fun _ _ => True) 1 r s : ℝ) : EReal) := by
  unfold tds1
  pointwise [k0_pay12]
  rw [tp1_at hK hQ]
  simp only [vb_at hK, gt1_at hQ, hQ.dd1, ← EReal.coe_mul, coe_sum, ← EReal.coe_sub, sum_head', dsr, pr, if_true]

theorem p0_at (hK : HoldsK i X K) (hQ : HoldsQ B Q) (r s : Fin 512) :
    p0 i X B (ix2 r s) = ((pr K Q (fun r s => r ≤ s) 0 r s : ℝ) : EReal) := by
  unfold p0
  pointwise [k0_pay58, k0_pay54, k0_pay52]
  simp only [kh0_at hK, qd0_at hQ, hQ.ct0, hQ.lse0, hK.c0, ← EReal.coe_mul, coe_sum, ← EReal.coe_add, ← EReal.coe_sub, sum_head, exp_coe, sel_le, coe_ite, pr, lg]
theorem p1_at (hK : HoldsK i X K) (hQ : HoldsQ B Q) (r s : Fin 512) :
    p1 i X B (ix2 r s) = ((pr K Q (fun r s => r ≤ s) 1 r s : ℝ) : EReal) := by
  unfold p1
  pointwise [k0_pay59, k0_pay55, k0_pay53]
  simp only [kh1_at hK, qd1_at hQ, hQ.ct1, hQ.lse1, hK.c1, ← EReal.coe_mul, coe_sum, ← EReal.coe_add, ← EReal.coe_sub, sum_head, exp_coe, sel_le, coe_ite, pr, lg]
theorem ds0_at (hK : HoldsK i X K) (hQ : HoldsQ B Q) (r s : Fin 512) :
    ds0 i X B (ix2 r s) = ((dsr K Q (fun r s => r ≤ s) 0 r s : ℝ) : EReal) := by
  unfold ds0
  pointwise [k0_pay56, k0_pay54, k0_pay52]
  simp only [kh0_at hK, qd0_at hQ, vb_at hK, gd0_at hQ, hQ.dd0, hQ.ct0, hQ.lse0, hK.c0, ← EReal.coe_mul, coe_sum, ← EReal.coe_add, ← EReal.coe_sub, sum_head, sum_head', exp_coe, sel_le, coe_ite, dsr, lg]
theorem ds1_at (hK : HoldsK i X K) (hQ : HoldsQ B Q) (r s : Fin 512) :
    ds1 i X B (ix2 r s) = ((dsr K Q (fun r s => r ≤ s) 1 r s : ℝ) : EReal) := by
  unfold ds1
  pointwise [k0_pay57, k0_pay55, k0_pay53]
  simp only [kh1_at hK, qd1_at hQ, vb_at hK, gd1_at hQ, hQ.dd1, hQ.ct1, hQ.lse1, hK.c1, ← EReal.coe_mul, coe_sum, ← EReal.coe_add, ← EReal.coe_sub, sum_head, sum_head', exp_coe, sel_le, coe_ite, dsr, lg]

/-! ## What a query block adds -/

/-- One of the two heads has the lane. -/
theorem two_heads {n : ℕ} (l : Fin 128) (a b : Fin 2 → Fin n → ℝ) :
    (∑ s, a 0 s * (if inH 0 l then b 0 s else 0)) + (∑ s, a 1 s * (if inH 1 l then b 1 s else 0)) = ∑ s, a (hd l) s * b (hd l) s := by
  have hl := l.isLt
  rcases Nat.lt_or_ge l.val 64 with h | h
  · have e : hd l = 0 := Fin.ext (by simp only [hd]; omega)
    have h0 : inH 0 l := by simp only [inH]; simp; omega
    have h1 : ¬ inH 1 l := by simp only [inH]; simp; omega
    simp [h0, h1, e]
  · have e : hd l = 1 := Fin.ext (by simp only [hd]; simp; omega)
    have h0 : ¬ inH 0 l := by simp only [inH]; simp; omega
    have h1 : inH 1 l := by simp only [inH]; simp; omega
    simp [h0, h1, e]

theorem tripAt_dk (hK : HoldsK i X K) (hQ : HoldsQ B Q) (a : Carry Ideal) (r : Fin 512) (l : Fin 128) :
    (tripAcc i X B a).1 (ix2 r l) = a.1 (ix2 r l) + ((∑ s, dsr K Q (fun _ _ => True) (hd l) r s * (Q.q s l * (1 / 8)) : ℝ) : EReal) := by
  unfold tripAcc
  have e0 : ∀ r s, k0_pay11 (vb X) (k0_pay4 k0_pay35 B.g) (ts0 i X B) B.lse0 B.dd0 (ix2 r s) = _ := tds0_at hK hQ
  have e1 : ∀ r s, k0_pay12 (vb X) (k0_pay5 k0_pay36 B.g) (ts1 X B) (k0_pay8 (ck1 i X)) B.lse1 B.dd1 (ix2 r s) = _ := tds1_at hK hQ
  pointwise [k0_pay16, k0_pay13, k0_pay14]
  simp only [e0, e1, tds0_at hK hQ, tds1_at hK hQ, qt0_at hQ, qt1_at hQ, ← EReal.coe_mul, coe_sum, add_assoc, ← EReal.coe_add]
  rw [two_heads l (fun h s => dsr K Q (fun _ _ => True) h r s) (fun h s => Q.q s l * (1 / 8))]
theorem tripAt_dv (hK : HoldsK i X K) (hQ : HoldsQ B Q) (a : Carry Ideal) (r : Fin 512) (l : Fin 128) :
    (tripAcc i X B a).2.1 (ix2 r l) = a.2.1 (ix2 r l) + ((∑ s, pr K Q (fun _ _ => True) (hd l) r s * Q.g s l : ℝ) : EReal) := by
  unfold tripAcc
  pointwise [k0_pay15]
  simp only [tp0_at hK hQ, tp1_at hK hQ, gt0_at hQ, gt1_at hQ, ← EReal.coe_mul, coe_sum, add_assoc, ← EReal.coe_add]
  rw [two_heads l (fun h s => pr K Q (fun _ _ => True) h r s) (fun h s => Q.g s l)]
theorem tripAt_dc0 (hK : HoldsK i X K) (hQ : HoldsQ B Q) (a : Carry Ideal) (r : Fin 512) :
    (tripAcc i X B a).2.2.1 (ix2 r 0) = a.2.2.1 (ix2 r 0) - ((∑ s, dsr K Q (fun _ _ => True) 0 r s : ℝ) : EReal) := by
  unfold tripAcc
  pointwise [k0_pay72]
  simp only [tds0_at hK hQ, coe_sum]
theorem tripAt_dc1 (hK : HoldsK i X K) (hQ : HoldsQ B Q) (a : Carry Ideal) (r : Fin 512) :
    (tripAcc i X B a).2.2.2 (ix2 r 0) = a.2.2.2 (ix2 r 0) - ((∑ s, dsr K Q (fun _ _ => True) 1 r s : ℝ) : EReal) := by
  unfold tripAcc
  pointwise [k0_pay73]
  simp only [tds1_at hK hQ, coe_sum]
theorem tripAt_dq (hK : HoldsK i X K) (hQ : HoldsQ B Q) (a : Vec Ideal S512x128 .f32) (s : Fin 512) (l : Fin 128) :
    tripDq i X B a (ix2 s l) = a (ix2 s l) + ((∑ r, dsr K Q (fun _ _ => True) (hd l) r s * K.k r l : ℝ) : EReal) := by
  unfold tripDq
  have e0 : ∀ r s, k0_pay11 (vb X) (k0_pay4 k0_pay35 B.g) (ts0 i X B) B.lse0 B.dd0 (ix2 r s) = _ := tds0_at hK hQ
  have e1 : ∀ r s, k0_pay12 (vb X) (k0_pay5 k0_pay36 B.g) (ts1 X B) (k0_pay8 (ck1 i X)) B.lse1 B.dd1 (ix2 r s) = _ := tds1_at hK hQ
  pointwise [k0_pay69, k0_pay13, k0_pay14]
  simp only [e0, e1, tds0_at hK hQ, tds1_at hK hQ, kh0_at hK, kh1_at hK, ← EReal.coe_mul, coe_sum, ← EReal.coe_add]
  rw [two_heads l (fun h r => dsr K Q (fun _ _ => True) h r s) (fun h r => K.k r l)]
theorem tripAt_dcq0 (hK : HoldsK i X K) (hQ : HoldsQ B Q) (a : Vec Ideal S1x1x512 .f32) (s : Fin 512) :
    tripDcq0 i X B a (ix3 0 0 s) = a (ix3 0 0 s) + ((∑ r, dsr K Q (fun _ _ => True) 0 r s : ℝ) : EReal) := by
  unfold tripDcq0
  pointwise [k0_pay70]
  simp only [tds0_at hK hQ, coe_sum]
theorem tripAt_dcq1 (hK : HoldsK i X K) (hQ : HoldsQ B Q) (a : Vec Ideal S1x1x512 .f32) (s : Fin 512) :
    tripDcq1 i X B a (ix3 0 0 s) = a (ix3 0 0 s) + ((∑ r, dsr K Q (fun _ _ => True) 1 r s : ℝ) : EReal) := by
  unfold tripDcq1
  pointwise [k0_pay71]
  simp only [tds1_at hK hQ, coe_sum]

theorem diagAt_dk (hK : HoldsK i X K) (hQ : HoldsQ B Q) (r : Fin 512) (l : Fin 128) :
    (diagAcc i X B).1 (ix2 r l) = ((∑ s, dsr K Q (fun r s => r ≤ s) (hd l) r s * (Q.q s l * (1 / 8)) : ℝ) : EReal) := by
  unfold diagAcc
  pointwise [k0_pay63, k0_pay60, k0_pay61, k0_pay45]
  simp only [ds0_at hK hQ, ds1_at hK hQ, qd0_at hQ, qd1_at hQ, ← EReal.coe_mul, coe_sum, zero_add, add_assoc, ← EReal.coe_add]
  rw [two_heads l (fun h s => dsr K Q (fun r s => r ≤ s) h r s) (fun h s => Q.q s l * (1 / 8))]
theorem diagAt_dv (hK : HoldsK i X K) (hQ : HoldsQ B Q) (r : Fin 512) (l : Fin 128) :
    (diagAcc i X B).2.1 (ix2 r l) = ((∑ s, pr K Q (fun r s => r ≤ s) (hd l) r s * Q.g s l : ℝ) : EReal) := by
  unfold diagAcc
  pointwise [k0_pay62, k0_pay45]
  simp only [p0_at hK hQ, p1_at hK hQ, gd0_at hQ, gd1_at hQ, ← EReal.coe_mul, coe_sum, zero_add, add_assoc, ← EReal.coe_add]
  rw [two_heads l (fun h s => pr K Q (fun r s => r ≤ s) h r s) (fun h s => Q.g s l)]
theorem diagAt_dc0 (hK : HoldsK i X K) (hQ : HoldsQ B Q) (r : Fin 512) :
    (diagAcc i X B).2.2.1 (ix2 r 0) = 0 - ((∑ s, dsr K Q (fun r s => r ≤ s) 0 r s : ℝ) : EReal) := by
  unfold diagAcc
  pointwise [k0_pay67, k0_pay46]
  simp only [ds0_at hK hQ, coe_sum]
theorem diagAt_dc1 (hK : HoldsK i X K) (hQ : HoldsQ B Q) (r : Fin 512) :
    (diagAcc i X B).2.2.2 (ix2 r 0) = 0 - ((∑ s, dsr K Q (fun r s => r ≤ s) 1 r s : ℝ) : EReal) := by
  unfold diagAcc
  pointwise [k0_pay68, k0_pay46]
  simp only [ds1_at hK hQ, coe_sum]
theorem diagAt_dq (hK : HoldsK i X K) (hQ : HoldsQ B Q) (a : Vec Ideal S512x128 .f32) (s : Fin 512) (l : Fin 128) :
    diagDq i X B a (ix2 s l) = a (ix2 s l) + ((∑ r, dsr K Q (fun r s => r ≤ s) (hd l) r s * K.k r l : ℝ) : EReal) := by
  unfold diagDq
  pointwise [k0_pay64, k0_pay60, k0_pay61]
  simp only [ds0_at hK hQ, ds1_at hK hQ, kh0_at hK, kh1_at hK, ← EReal.coe_mul, coe_sum, ← EReal.coe_add]
  rw [two_heads l (fun h r => dsr K Q (fun r s => r ≤ s) h r s) (fun h r => K.k r l)]
theorem diagAt_dcq0 (hK : HoldsK i X K) (hQ : HoldsQ B Q) (a : Vec Ideal S1x1x512 .f32) (s : Fin 512) :
    diagDcq0 i X B a (ix3 0 0 s) = a (ix3 0 0 s) + ((∑ r, dsr K Q (fun r s => r ≤ s) 0 r s : ℝ) : EReal) := by
  unfold diagDcq0
  pointwise [k0_pay65]
  simp only [ds0_at hK hQ, coe_sum]
theorem diagAt_dcq1 (hK : HoldsK i X K) (hQ : HoldsQ B Q) (a : Vec Ideal S1x1x512 .f32) (s : Fin 512) :
    diagDcq1 i X B a (ix3 0 0 s) = a (ix3 0 0 s) + ((∑ r, dsr K Q (fun r s => r ≤ s) 1 r s : ℝ) : EReal) := by
  unfold diagDcq1
  pointwise [k0_pay66]
  simp only [ds1_at hK hQ, coe_sum]

/-! ## The keys' gates -/

theorem ck0_at (r : Fin 512) (l : Fin 128) (h : l.val = 2 * (i 0).val) : ck0 i X (ix2 r 0) = X.c (ix2 r l) := by
  unfold ck0
  pointwise [k0_pay41, k0_pay40, k0_pay42, k0_pay43]
  have e : ∀ hp : Fin 8, ∀ x : Fin 128, (IntOp.cmpi CmpIPredicate.eq (BitVec.ofNat 32 x.val) (Scalar.addi (Scalar.muli 2#32 (BitVec.ofNat 32 hp.val)) 0#32) = 1) = (x.val = 2 * hp.val) := by decide +kernel
  rw [Finset.sum_eq_single l]
  · rw [Scalar.select, if_pos ((e ⟨(i 0).val, (i 0).isLt⟩ l).mpr h)]
  · intro b _ hb
    have : ¬ b.val = 2 * (i 0).val := fun hh => hb (Fin.ext (hh.trans h.symm))
    rw [Scalar.select, if_neg (fun q => this ((e ⟨(i 0).val, (i 0).isLt⟩ b).mp q))]
  · simp
theorem ck1_at (r : Fin 512) (l : Fin 128) (h : l.val = 2 * (i 0).val + 1) : ck1 i X (ix2 r 0) = X.c (ix2 r l) := by
  unfold ck1
  pointwise [k0_pay44, k0_pay40, k0_pay42, k0_pay43]
  have e : ∀ hp : Fin 8, ∀ x : Fin 128, (IntOp.cmpi CmpIPredicate.eq (BitVec.ofNat 32 x.val) (Scalar.addi (Scalar.muli 2#32 (BitVec.ofNat 32 hp.val)) 1#32) = 1) = (x.val = 2 * hp.val + 1) := by decide +kernel
  rw [Finset.sum_eq_single l]
  · rw [Scalar.select, if_pos ((e ⟨(i 0).val, (i 0).isLt⟩ l).mpr h)]
  · intro b _ hb
    have : ¬ b.val = 2 * (i 0).val + 1 := fun hh => hb (Fin.ext (hh.trans h.symm))
    rw [Scalar.select, if_neg (fun q => this ((e ⟨(i 0).val, (i 0).isLt⟩ b).mp q))]
  · simp

end Cert.KernelIdeal.FoxBwd
-- ==== Proof.Windows.lean ====
/-
  Where the backward attention's loads and stores lie: which rows of the resident arrays a query block is.
-/
module

public import proofs.«01_k».proof.Proof.Point

@[expose] public section

set_option maxRecDepth 16384

noncomputable section

namespace Cert.KernelIdeal.FoxBwd

open Idealize.ShloMosaic Idealize.ShloMosaic.TcCoe Idealize.ShloMosaic.Tactic
open Idealize.SL.Sem
open Cert.KernelIdeal.Gen

/-- Row `s` of block `i`. -/
def row (i : Fin 8) (s : Fin 512) : Fin 4096 := ⟨512 * i.val + s.val, by omega⟩

theorem row_inj {i i' : Fin 8} {s s' : Fin 512} : row i s = row i' s' ↔ i = i' ∧ s = s' := by
  simp only [row, Fin.ext_iff]; omega
theorem row_le {i i' : Fin 8} {s s' : Fin 512} (h : i < i') : row i s ≤ row i' s' := by
  simp only [row, Fin.le_def, Fin.lt_def] at *; omega
theorem row_not_le {i i' : Fin 8} {s s' : Fin 512} (h : i < i') : ¬ row i' s' ≤ row i s := by
  simp only [row, Fin.le_def, Fin.lt_def] at *; omega
theorem row_le_same {i : Fin 8} {r s : Fin 512} : row i r ≤ row i s ↔ r ≤ s := by
  simp only [row, Fin.le_def]; omega

/-! ## Windows of 512 rows, and of one row of a head -/

theorem win2 {α : Type} (x : S4096x128.Idx → α) {off : Fin 2 → ℕ} (inb) (i : Fin 8) (h : off = ![512 * i.val, 0]) (s : Fin 512) (l : Fin 128) :
    VecWindow.window x off S512x128.size inb (ix2 s l) = x (ix2 (row i s) l) := by
  subst h
  refine congrArg x (funext (Fin.forall_fin_two.2 ⟨Fin.ext ?_, Fin.ext ?_⟩))
  · show 512 * i.val + 1 * s.val = 512 * i.val + s.val; omega
  · show 0 + 1 * l.val = l.val; omega

theorem win4 {α : Type} (x : S1x8x2x512.Idx → α) {off : Fin 4 → ℕ} (inb) (i : Fin 8) (h : Fin 2) (e : off = ![0, i.val, h.val, 0]) (s : Fin 512) :
    VecWindow.window x off S1x1x1x512.size inb (ix4 0 0 0 s) = x (ix4 0 i h s) := by
  subst e
  refine congrArg x (funext fun a => ?_)
  match a with
  | ⟨0, _⟩ => exact Fin.ext (show 0 + 1 * 0 = 0 by omega)
  | ⟨1, _⟩ => exact Fin.ext (show i.val + 1 * 0 = i.val by omega)
  | ⟨2, _⟩ => exact Fin.ext (show h.val + 1 * 0 = h.val by omega)
  | ⟨3, _⟩ => exact Fin.ext (show 0 + 1 * s.val = s.val by omega)

theorem win3 {α : Type} (x : S8x2x512.Idx → α) {off : Fin 3 → ℕ} (inb) (i : Fin 8) (h : Fin 2) (e : off = ![i.val, h.val, 0]) (s : Fin 512) :
    VecWindow.window x off S1x1x512.size inb (ix3 0 0 s) = x (ix3 i h s) := by
  subst e
  refine congrArg x (funext fun a => ?_)
  match a with
  | ⟨0, _⟩ => exact Fin.ext (show i.val + 1 * 0 = i.val by omega)
  | ⟨1, _⟩ => exact Fin.ext (show h.val + 1 * 0 = h.val by omega)
  | ⟨2, _⟩ => exact Fin.ext (show 0 + 1 * s.val = s.val by omega)

theorem put2 {α : Type} (x : S4096x128.Idx → α) {off : Fin 2 → ℕ} (w : S512x128.Idx → α) (i : Fin 8) (h : off = ![512 * i.val, 0]) (i' : Fin 8) (s : Fin 512) (l : Fin 128) :
    VecWindow.put x off S512x128.size w (ix2 (row i' s) l) = if i' = i then w (ix2 s l) else x (ix2 (row i' s) l) := by
  subst h
  unfold VecWindow.put
  by_cases hi : i' = i
  · subst hi
    rw [if_pos rfl, dif_pos (Fin.forall_fin_two.2 ⟨show 512 * i'.val ≤ 512 * i'.val + s.val ∧ 512 * i'.val + s.val < 512 * i'.val + 512 by omega, show 0 ≤ l.val ∧ l.val < 0 + 128 by omega⟩)]
    refine congrArg w (funext (Fin.forall_fin_two.2 ⟨Fin.ext ?_, Fin.ext ?_⟩))
    · show 512 * i'.val + s.val - 512 * i'.val = s.val; omega
    · show l.val - 0 = l.val; omega
  · rw [if_neg hi, dif_neg]
    intro hall
    have := hall 0
    have h0 : 512 * i.val ≤ 512 * i'.val + s.val ∧ 512 * i'.val + s.val < 512 * i.val + 512 := this
    exact hi (Fin.ext (by omega))

theorem put3 {α : Type} (x : S8x2x512.Idx → α) {off : Fin 3 → ℕ} (w : S1x1x512.Idx → α) (i : Fin 8) (h : Fin 2) (e : off = ![i.val, h.val, 0]) (i' : Fin 8) (h' : Fin 2) (s : Fin 512) :
    VecWindow.put x off S1x1x512.size w (ix3 i' h' s) = if i' = i ∧ h' = h then w (ix3 0 0 s) else x (ix3 i' h' s) := by
  subst e
  unfold VecWindow.put
  by_cases hi : i' = i ∧ h' = h
  · obtain ⟨rfl, rfl⟩ := hi
    have hall : ∀ a : Fin 3, (![i'.val, h'.val, 0] : Fin 3 → ℕ) a ≤ (ix3 i' h' s a).val ∧ (ix3 i' h' s a).val < (![i'.val, h'.val, 0] : Fin 3 → ℕ) a + S1x1x512.size a := fun a =>
      match a with
      | ⟨0, _⟩ => show i'.val ≤ i'.val ∧ i'.val < i'.val + 1 by omega
      | ⟨1, _⟩ => show h'.val ≤ h'.val ∧ h'.val < h'.val + 1 by omega
      | ⟨2, _⟩ => show 0 ≤ s.val ∧ s.val < 0 + 512 by omega
    rw [if_pos ⟨rfl, rfl⟩, dif_pos hall]
    refine congrArg w (funext fun a => ?_)
    match a with
    | ⟨0, _⟩ => exact Fin.ext (show i'.val - i'.val = 0 by omega)
    | ⟨1, _⟩ => exact Fin.ext (show h'.val - h'.val = 0 by omega)
    | ⟨2, _⟩ => exact Fin.ext (show s.val - 0 = s.val by omega)
  · rw [if_neg hi, dif_neg]
    intro hall
    have h0 : i.val ≤ i'.val ∧ i'.val < i.val + 1 := hall 0
    have h1 : h.val ≤ h'.val ∧ h'.val < h.val + 1 := hall 1
    exact hi ⟨Fin.ext (by omega), Fin.ext (by omega)⟩

/-! ## The offsets -/

theorem off1_eq (i : grid0.Coords) : k0_off1 i = ![512 * (i 1).val, 0] := by
  have h : ∀ j : Fin 8, (Scalar.indexCast (Scalar.muli (BitVec.ofNat 32 j.val) 512#32) : Index).toNat = 512 * j.val := by decide +kernel
  unfold k0_off1; exact congrArg (fun n => (![n, 0] : Fin 2 → ℕ)) (h (i 1))
theorem idx_eq : ∀ j : Fin 8, (Scalar.indexCast (BitVec.ofNat 32 j.val) : Index).toNat = j.val := by decide +kernel
theorem off2_eq (i : grid0.Coords) : k0_off2 i = ![0, (i 1).val, 0, 0] := by
  unfold k0_off2; exact congrArg (fun n => (![0, n, 0, 0] : Fin 4 → ℕ)) (idx_eq (i 1))
theorem off3_eq (i : grid0.Coords) : k0_off3 i = ![0, (i 1).val, 1, 0] := by
  unfold k0_off3; exact congrArg (fun n => (![0, n, 1, 0] : Fin 4 → ℕ)) (idx_eq (i 1))
theorem off4_eq (i : grid0.Coords) : k0_off4 i = ![(i 1).val, 0, 0] := by
  unfold k0_off4; exact congrArg (fun n => (![n, 0, 0] : Fin 3 → ℕ)) (idx_eq (i 1))
theorem off5_eq (i : grid0.Coords) : k0_off5 i = ![(i 1).val, 1, 0] := by
  unfold k0_off5; exact congrArg (fun n => (![n, 1, 0] : Fin 3 → ℕ)) (idx_eq (i 1))

/-- The loop over the later query blocks has `7 - j` trips at key block `j`. -/
theorem trips_eq (i : grid0.Coords) : (k0_t1_loop i).trips = 7 - (i 1).val := by
  have h : ∀ j : Fin 8, Scf.trips (Scalar.addi (BitVec.ofNat 32 j.val) 1#32)
      (Scalar.addi (Scalar.addi (BitVec.ofNat 32 j.val) 1#32) (Scalar.muli (Scalar.divsi (Scalar.subi 8#32 (Scalar.addi (BitVec.ofNat 32 j.val) 1#32)) 1#32) 1#32)) 1#32 = 7 - j.val := by decide +kernel
  exact h (i 1)

/-- The query block of trip `n`. -/
def qb (i : grid0.Coords) (n : Fin (k0_t1_loop i).trips) : Fin 8 := ⟨(i 1).val + 1 + n.val, by have := n.isLt; have e := trips_eq i; have : (i 1).val < 8 := (i 1).isLt; omega⟩

theorem iv_eq (i : grid0.Coords) (n : Fin (k0_t1_loop i).trips) :
    (Scalar.indexCast (Scf.iv (Scalar.addi (BitVec.ofNat 32 (i 1).val) 1#32) 1#32 n.val) : Index).toNat = (qb i n).val := by
  have h : ∀ j n : Fin 8, (Scalar.indexCast (Scf.iv (Scalar.addi (BitVec.ofNat 32 j.val) 1#32) 1#32 n.val) : Index).toNat = j.val + 1 + n.val := by decide +kernel
  have hn : n.val < 8 := by have := n.isLt; have e := trips_eq i; omega
  exact h (i 1) ⟨n.val, hn⟩
theorem off6_eq (i : grid0.Coords) (n : Fin (k0_t1_loop i).trips) : k0_off6 i n = ![512 * (qb i n).val, 0] := by
  have h : ∀ j n : Fin 8, (Scalar.indexCast (Scalar.muli (Scf.iv (Scalar.addi (BitVec.ofNat 32 j.val) 1#32) 1#32 n.val) 512#32) : Index).toNat = 512 * (j.val + 1 + n.val) := by decide +kernel
  have hn : n.val < 8 := by have := n.isLt; have e := trips_eq i; omega
  unfold k0_off6; exact congrArg (fun n => (![n, 0] : Fin 2 → ℕ)) (h (i 1) ⟨n.val, hn⟩)
theorem off7_eq (i : grid0.Coords) (n : Fin (k0_t1_loop i).trips) : k0_off7 i n = ![0, (qb i n).val, 0, 0] := by
  unfold k0_off7; exact congrArg (fun n => (![0, n, 0, 0] : Fin 4 → ℕ)) (iv_eq i n)
theorem off8_eq (i : grid0.Coords) (n : Fin (k0_t1_loop i).trips) : k0_off8 i n = ![0, (qb i n).val, 1, 0] := by
  unfold k0_off8; exact congrArg (fun n => (![0, n, 1, 0] : Fin 4 → ℕ)) (iv_eq i n)
theorem off9_eq (i : grid0.Coords) (n : Fin (k0_t1_loop i).trips) : k0_off9 i n = ![(qb i n).val, 0, 0] := by
  unfold k0_off9; exact congrArg (fun n => (![n, 0, 0] : Fin 3 → ℕ)) (iv_eq i n)
theorem off10_eq (i : grid0.Coords) (n : Fin (k0_t1_loop i).trips) : k0_off10 i n = ![(qb i n).val, 1, 0] := by
  unfold k0_off10; exact congrArg (fun n => (![n, 1, 0] : Fin 3 → ℕ)) (iv_eq i n)

end Cert.KernelIdeal.FoxBwd
-- ==== Proof.Chain.lean ====
/-
  What a point of the backward attention holds after its query blocks, over the reals: the sums over the blocks so far.
-/
module

public import proofs.«01_k».proof.Proof.Windows

@[expose] public section

set_option maxRecDepth 16384

noncomputable section

namespace Cert.KernelIdeal.FoxBwd

open Idealize.ShloMosaic Idealize.ShloMosaic.TcCoe Idealize.ShloMosaic.Tactic
open Idealize.SL.Sem
open Cert.KernelIdeal.Gen

/-- The real numbers that the call's arrays hold: queries, keys, values, gradients of the output; by head cumulated log gates, log-sums, sums of do·o. -/
structure RArr where
  Q : Fin 4096 → Fin 1024 → ℝ
  K : Fin 4096 → Fin 1024 → ℝ
  V : Fin 4096 → Fin 1024 → ℝ
  G : Fin 4096 → Fin 1024 → ℝ
  C : Fin 16 → Fin 4096 → ℝ
  L : Fin 16 → Fin 4096 → ℝ
  D : Fin 16 → Fin 4096 → ℝ

/-- Lane `l` of pair `p`, head `h` of pair `p`, lane `d` of head `h`. -/
def col (p : Fin 8) (l : Fin 128) : Fin 1024 := ⟨128 * p.val + l.val, by omega⟩
def hh (p : Fin 8) (h : Fin 2) : Fin 16 := ⟨2 * p.val + h.val, by omega⟩
def hc (h : Fin 16) (d : Fin 64) : Fin 1024 := ⟨64 * h.val + d.val, by omega⟩

/-- Summing a head's lanes among the pair's 128 is summing its 64. -/
theorem sum_lanes (p : Fin 8) (h : Fin 2) (a : Fin 1024 → ℝ) :
    (∑ l : Fin 128, if inH h l then a (col p l) else 0) = ∑ d : Fin 64, a (hc (hh p h) d) := by
  rw [← Finset.sum_filter]
  symm
  refine Finset.sum_bij (fun d _ => (⟨64 * h.val + d.val, by omega⟩ : Fin 128)) ?_ ?_ ?_ ?_
  · intro d _
    simp only [Finset.mem_filter, Finset.mem_univ, true_and, inH]; omega
  · intro d _ d' _ e
    simp only [Fin.mk.injEq] at e; exact Fin.ext (by omega)
  · intro l hl
    simp only [Finset.mem_filter, Finset.mem_univ, true_and, inH] at hl
    exact ⟨⟨l.val - 64 * h.val, by omega⟩, Finset.mem_univ _, Fin.ext (by simp only; omega)⟩
  · intro d _
    congr 1
    exact Fin.ext (by simp only [hc, hh, col]; omega)

variable (R : RArr)

/-- The logit of query `q` and key `k` of head `h`, less the query's log-sum. -/
def LG (h : Fin 16) (k q : Fin 4096) : ℝ := (∑ d, R.K k (hc h d) * (R.Q q (hc h d) * (1 / 8))) + R.C h q - R.C h k - R.L h q
/-- Its probability. -/
def PR (h : Fin 16) (k q : Fin 4096) : ℝ := if k ≤ q then Real.exp (LG R h k q) else 0
/-- The gradient of its logit. -/
def DS (h : Fin 16) (k q : Fin 4096) : ℝ :=
  if k ≤ q then Real.exp (LG R h k q) * ((∑ d, R.V k (hc h d) * R.G q (hc h d)) - R.D h q) else 0

/-- Key block `j` of pair `p`, and query block `i`. -/
def rkey (p j : Fin 8) : RKey where
  k r l := R.K (row j r) (col p l)
  v r l := R.V (row j r) (col p l)
  c h r := R.C (hh p h) (row j r)
def rqry (p i : Fin 8) : RQry where
  q s l := R.Q (row i s) (col p l)
  g s l := R.G (row i s) (col p l)
  ct h s := R.C (hh p h) (row i s)
  lse h s := R.L (hh p h) (row i s)
  dd h s := R.D (hh p h) (row i s)

theorem lg_eq (p j i : Fin 8) (h : Fin 2) (r s : Fin 512) : lg (rkey R p j) (rqry R p i) h r s = LG R (hh p h) (row j r) (row i s) := by
  unfold lg LG
  simp only [rkey, rqry]
  rw [sum_lanes p h (fun x => R.K (row j r) x * (R.Q (row i s) x * (1 / 8)))]

variable (mk : Fin 512 → Fin 512 → Prop) [∀ r s, Decidable (mk r s)]

theorem pr_eq (p j i : Fin 8) (hm : ∀ r s, mk r s ↔ row j r ≤ row i s) (h : Fin 2) (r s : Fin 512) :
    pr (rkey R p j) (rqry R p i) mk h r s = PR R (hh p h) (row j r) (row i s) := by
  unfold pr PR
  simp only [lg_eq, hm]
theorem dsr_eq (p j i : Fin 8) (hm : ∀ r s, mk r s ↔ row j r ≤ row i s) (h : Fin 2) (r s : Fin 512) :
    dsr (rkey R p j) (rqry R p i) mk h r s = DS R (hh p h) (row j r) (row i s) := by
  unfold dsr DS
  simp only [lg_eq, hm]
  simp only [rkey, rqry]
  rw [sum_lanes p h (fun x => R.V (row j r) x * R.G (row i s) x)]

theorem DS_above {p j i : Fin 8} (hij : i < j) (h : Fin 16) (r s : Fin 512) : DS R h (row j r) (row i s) = 0 := if_neg (row_not_le hij)
theorem PR_above {p j i : Fin 8} (hij : i < j) (h : Fin 16) (r s : Fin 512) : PR R h (row j r) (row i s) = 0 := if_neg (row_not_le hij)

/-! ## What the blocks hold -/

/-- The blocks of the point of pair `p` and key block `j` hold the arrays' numbers. -/
structure Holds (i : grid0.Coords) (X : Ins Ideal) (p j : Fin 8) : Prop where
  pe : (i 0).val = p.val
  je : (i 1).val = j.val
  q : ∀ n l, X.q (ix2 n l) = ((R.Q n (col p l) : ℝ) : EReal)
  k : ∀ r l, X.k (ix2 r l) = ((R.K (row j r) (col p l) : ℝ) : EReal)
  v : ∀ r l, X.v (ix2 r l) = ((R.V (row j r) (col p l) : ℝ) : EReal)
  g : ∀ n l, X.g (ix2 n l) = ((R.G n (col p l) : ℝ) : EReal)
  c : ∀ r (h : Fin 16), X.c (ix2 r ⟨h.val, by omega⟩) = ((R.C h (row j r) : ℝ) : EReal)
  ct : ∀ b h s, X.ct (ix4 0 b h s) = ((R.C (hh p h) (row b s) : ℝ) : EReal)
  lse : ∀ b h s, X.lse (ix4 0 b h s) = ((R.L (hh p h) (row b s) : ℝ) : EReal)
  dd : ∀ b h s, X.dd (ix4 0 b h s) = ((R.D (hh p h) (row b s) : ℝ) : EReal)

variable {R} {i : grid0.Coords} {X : Ins Ideal} {p j : Fin 8}

theorem Holds.key (H : Holds R i X p j) : HoldsK i X (rkey R p j) where
  k := H.k
  v := H.v
  c0 r := by
    rw [ck0_at r ⟨(hh p 0).val, by omega⟩ (by simp only [hh, H.pe]; rfl)]
    exact H.c r (hh p 0)
  c1 r := by
    rw [ck1_at r ⟨(hh p 1).val, by omega⟩ (by simp only [hh, H.pe]; rfl)]
    exact H.c r (hh p 1)

theorem Holds.diag (H : Holds R i X p j) : HoldsQ (diagBlk i X) (rqry R p j) where
  q s l := (win2 X.q _ j (by rw [off1_eq, H.je]) s l).trans (H.q _ _)
  g s l := (win2 X.g _ j (by rw [off1_eq, H.je]) s l).trans (H.g _ _)
  ct0 s := (win4 X.ct _ j 0 (by rw [off2_eq, H.je]; rfl) s).trans (H.ct _ _ _)
  ct1 s := (win4 X.ct _ j 1 (by rw [off3_eq, H.je]; rfl) s).trans (H.ct _ _ _)
  lse0 s := (win4 X.lse _ j 0 (by rw [off2_eq, H.je]; rfl) s).trans (H.lse _ _ _)
  lse1 s := (win4 X.lse _ j 1 (by rw [off3_eq, H.je]; rfl) s).trans (H.lse _ _ _)
  dd0 s := (win4 X.dd _ j 0 (by rw [off2_eq, H.je]; rfl) s).trans (H.dd _ _ _)
  dd1 s := (win4 X.dd _ j 1 (by rw [off3_eq, H.je]; rfl) s).trans (H.dd _ _ _)

theorem Holds.trip (H : Holds R i X p j) (n : Fin (k0_t1_loop i).trips) : HoldsQ (tripBlk i X n) (rqry R p (qb i n)) where
  q s l := (win2 X.q _ (qb i n) (off6_eq i n) s l).trans (H.q _ _)
  g s l := (win2 X.g _ (qb i n) (off6_eq i n) s l).trans (H.g _ _)
  ct0 s := (win4 X.ct _ (qb i n) 0 (off7_eq i n) s).trans (H.ct _ _ _)
  ct1 s := (win4 X.ct _ (qb i n) 1 (off8_eq i n) s).trans (H.ct _ _ _)
  lse0 s := (win4 X.lse _ (qb i n) 0 (off7_eq i n) s).trans (H.lse _ _ _)
  lse1 s := (win4 X.lse _ (qb i n) 1 (off8_eq i n) s).trans (H.lse _ _ _)
  dd0 s := (win4 X.dd _ (qb i n) 0 (off7_eq i n) s).trans (H.dd _ _ _)
  dd1 s := (win4 X.dd _ (qb i n) 1 (off8_eq i n) s).trans (H.dd _ _ _)

/-! ## Sums over the query blocks so far -/

/-- A sum over the blocks up to `m`. -/
def upto (m : ℕ) (f : Fin 8 → ℝ) : ℝ := ∑ b : Fin 8, if b.val ≤ m then f b else 0

theorem upto_first (j : Fin 8) (f : Fin 8 → ℝ) (hf : ∀ b, b < j → f b = 0) : upto j.val f = f j := by
  unfold upto
  rw [Finset.sum_eq_single j]
  · exact if_pos (Nat.le_refl _)
  · intro b _ hb
    split
    · exact hf b (Fin.lt_def.2 (by have : b.val ≠ j.val := fun e => hb (Fin.ext e); omega))
    · rfl
  · simp

theorem upto_succ (m : ℕ) (b0 : Fin 8) (h : b0.val = m + 1) (f : Fin 8 → ℝ) : upto (m + 1) f = upto m f + f b0 := by
  unfold upto
  have e : ∀ b : Fin 8, (if b.val ≤ m + 1 then f b else 0) = (if b.val ≤ m then f b else 0) + (if b = b0 then f b else 0) := by
    intro b
    by_cases hb : b = b0
    · subst hb
      rw [if_pos (by omega), if_neg (by omega), if_pos rfl, zero_add]
    · have : b.val ≠ m + 1 := fun q => hb (Fin.ext (q.trans h.symm))
      rw [if_neg hb, add_zero]
      by_cases hm : b.val ≤ m
      · rw [if_pos hm, if_pos (by omega)]
      · rw [if_neg hm, if_neg (by omega)]
  rw [Finset.sum_congr rfl fun b _ => e b, Finset.sum_add_distrib, Finset.sum_ite_eq' Finset.univ b0 f, if_pos (Finset.mem_univ _)]

theorem upto_all (m : ℕ) (h : 7 ≤ m) (f : Fin 8 → ℝ) : upto m f = ∑ b, f b :=
  Finset.sum_congr rfl fun b _ => if_pos (by omega)

/-! ## The state after some of the query blocks -/

variable (R p j)

/-- What the key block's rows of dk, dv and dck gain from query block `b`, and query block `b`'s rows of dq and dcq from the key block. -/
def fDk (r : Fin 512) (l : Fin 128) (b : Fin 8) : ℝ := ∑ s, DS R (hh p (hd l)) (row j r) (row b s) * (R.Q (row b s) (col p l) * (1 / 8))
def fDv (r : Fin 512) (l : Fin 128) (b : Fin 8) : ℝ := ∑ s, PR R (hh p (hd l)) (row j r) (row b s) * R.G (row b s) (col p l)
def fDc (h : Fin 2) (r : Fin 512) (b : Fin 8) : ℝ := ∑ s, DS R (hh p h) (row j r) (row b s)
def fDq (b : Fin 8) (s : Fin 512) (l : Fin 128) : ℝ := ∑ r, DS R (hh p (hd l)) (row j r) (row b s) * R.K (row j r) (col p l)
def fDcq (b : Fin 8) (h : Fin 2) (s : Fin 512) : ℝ := ∑ r, DS R (hh p h) (row j r) (row b s)

/-- The state after the query blocks up to `m`, from the accumulators `s`, `t`. -/
structure Upto (m : ℕ) (s : Vec Ideal S4096x128 .f32) (t : Vec Ideal S8x2x512 .f32) (S : St Ideal) : Prop where
  dk : ∀ r l, S.acc.1 (ix2 r l) = ((upto m (fDk R p j r l) : ℝ) : EReal)
  dv : ∀ r l, S.acc.2.1 (ix2 r l) = ((upto m (fDv R p j r l) : ℝ) : EReal)
  dc0 : ∀ r, S.acc.2.2.1 (ix2 r 0) = ((-upto m (fDc R p j 0 r) : ℝ) : EReal)
  dc1 : ∀ r, S.acc.2.2.2 (ix2 r 0) = ((-upto m (fDc R p j 1 r) : ℝ) : EReal)
  dq : ∀ b q l, S.dq (ix2 (row b q) l) = s (ix2 (row b q) l) + ((if b.val ≤ m then fDq R p j b q l else 0 : ℝ) : EReal)
  dcq : ∀ b h q, S.dcq (ix3 b h q) = t (ix3 b h q) + ((if b.val ≤ m then fDcq R p j b h q else 0 : ℝ) : EReal)

variable {R p j}

theorem fDq_above {b : Fin 8} (h : b < j) (s : Fin 512) (l : Fin 128) : fDq R p j b s l = 0 :=
  Finset.sum_eq_zero fun r _ => by rw [DS_above R (p := p) h, zero_mul]
theorem fDcq_above {b : Fin 8} (h : b < j) (hd : Fin 2) (s : Fin 512) : fDcq R p j b hd s = 0 :=
  Finset.sum_eq_zero fun r _ => DS_above R (p := p) h _ _ _

theorem diag_upto (H : Holds R i X p j) (s : Vec Ideal S4096x128 .f32) (t : Vec Ideal S8x2x512 .f32) :
    Upto R p j j.val s t (diagSt i X s t) := by
  have hm : ∀ r s : Fin 512, r ≤ s ↔ row j r ≤ row j s := fun r s => row_le_same.symm
  have hD := fun h r s => dsr_eq R (fun r s : Fin 512 => r ≤ s) p j j hm h r s
  have hP := fun h r s => pr_eq R (fun r s : Fin 512 => r ≤ s) p j j hm h r s
  refine ⟨fun r l => ?_, fun r l => ?_, fun r => ?_, fun r => ?_, fun b q l => ?_, fun b h q => ?_⟩
  · rw [upto_first j (fDk R p j r l) fun b hb => Finset.sum_eq_zero fun s _ => by rw [DS_above R (p := p) hb, zero_mul]]
    refine (diagAt_dk H.key H.diag r l).trans ?_
    simp only [hD]; rfl
  · rw [upto_first j (fDv R p j r l) fun b hb => Finset.sum_eq_zero fun s _ => by rw [PR_above R (p := p) hb, zero_mul]]
    refine (diagAt_dv H.key H.diag r l).trans ?_
    simp only [hP]; rfl
  · rw [upto_first j (fDc R p j 0 r) fun b hb => Finset.sum_eq_zero fun s _ => DS_above R (p := p) hb _ _ _]
    refine (diagAt_dc0 H.key H.diag r).trans ?_
    simp only [hD, zero_sub, EReal.coe_neg]; rfl
  · rw [upto_first j (fDc R p j 1 r) fun b hb => Finset.sum_eq_zero fun s _ => DS_above R (p := p) hb _ _ _]
    refine (diagAt_dc1 H.key H.diag r).trans ?_
    simp only [hD, zero_sub, EReal.coe_neg]; rfl
  · refine (put2 s _ j (by rw [off1_eq, H.je]) b q l).trans ?_
    by_cases hb : b = j
    · subst hb
      rw [if_pos rfl, if_pos (Nat.le_refl _), diagAt_dq H.key H.diag, win2 s _ b (by rw [off1_eq, H.je])]
      simp only [hD]; rfl
    · rw [if_neg hb]
      by_cases hl : b.val ≤ j.val
      · rw [if_pos hl, fDq_above (Fin.lt_def.2 (by have : b.val ≠ j.val := fun e => hb (Fin.ext e); omega)), EReal.coe_zero, add_zero]
      · rw [if_neg hl, EReal.coe_zero, add_zero]
  · refine (put3 _ _ j 1 (by rw [off5_eq, H.je]; rfl) b h q).trans ?_
    by_cases hb : b = j
    · subst hb
      rw [if_pos (Nat.le_refl _)]
      match h with
      | ⟨0, _⟩ =>
        rw [if_neg (fun e => absurd (congrArg Fin.val e.2 : (0 : ℕ) = 1) (by decide))]
        refine (put3 t _ b 0 (by rw [off4_eq, H.je]; rfl) b 0 q).trans ?_
        rw [if_pos ⟨rfl, rfl⟩, diagAt_dcq0 H.key H.diag, win3 t _ b 0 (by rw [off4_eq, H.je]; rfl)]
        simp only [hD]; rfl
      | ⟨1, _⟩ =>
        rw [if_pos ⟨rfl, rfl⟩, diagAt_dcq1 H.key H.diag, win3 t _ b 1 (by rw [off5_eq, H.je]; rfl)]
        simp only [hD]; rfl
    · rw [if_neg (fun e => hb e.1)]
      refine (put3 t _ j 0 (by rw [off4_eq, H.je]; rfl) b h q).trans ?_
      rw [if_neg (fun e => hb e.1)]
      by_cases hl : b.val ≤ j.val
      · rw [if_pos hl, fDcq_above (Fin.lt_def.2 (by have : b.val ≠ j.val := fun e => hb (Fin.ext e); omega)), EReal.coe_zero, add_zero]
      · rw [if_neg hl, EReal.coe_zero, add_zero]

theorem trip_upto (H : Holds R i X p j) (s : Vec Ideal S4096x128 .f32) (t : Vec Ideal S8x2x512 .f32) (n : Fin (k0_t1_loop i).trips) (S : St Ideal)
    (hS : Upto R p j (j.val + n.val) s t S) : Upto R p j (j.val + (n.val + 1)) s t (tripSt i X n S) := by
  have hb0 : (qb i n).val = j.val + n.val + 1 := by simp only [qb, H.je]; omega
  have hjb : j < qb i n := Fin.lt_def.2 (by omega)
  have hm : ∀ r s : Fin 512, True ↔ row j r ≤ row (qb i n) s := fun r s => ⟨fun _ => row_le hjb, fun _ => trivial⟩
  have hD := fun h r s => dsr_eq R (fun _ _ : Fin 512 => True) p j (qb i n) hm h r s
  have hP := fun h r s => pr_eq R (fun _ _ : Fin 512 => True) p j (qb i n) hm h r s
  have up := fun f => upto_succ (j.val + n.val) (qb i n) hb0 f
  rw [← Nat.add_assoc]
  refine ⟨fun r l => ?_, fun r l => ?_, fun r => ?_, fun r => ?_, fun b q l => ?_, fun b h q => ?_⟩
  · refine (tripAt_dk H.key (H.trip n) S.acc r l).trans ?_
    rw [up, hS.dk, EReal.coe_add]
    simp only [hD]; rfl
  · refine (tripAt_dv H.key (H.trip n) S.acc r l).trans ?_
    rw [up, hS.dv, EReal.coe_add]
    simp only [hP]; rfl
  · refine (tripAt_dc0 H.key (H.trip n) S.acc r).trans ?_
    rw [up, hS.dc0, ← EReal.coe_sub, neg_add, ← sub_eq_add_neg]
    simp only [hD]; rfl
  · refine (tripAt_dc1 H.key (H.trip n) S.acc r).trans ?_
    rw [up, hS.dc1, ← EReal.coe_sub, neg_add, ← sub_eq_add_neg]
    simp only [hD]; rfl
  · refine (put2 S.dq _ (qb i n) (off6_eq i n) b q l).trans ?_
    by_cases hb : b = qb i n
    · rw [if_pos hb, tripAt_dq H.key (H.trip n), win2 S.dq _ (qb i n) (off6_eq i n), hS.dq, hb, if_neg (by omega), if_pos (by omega), EReal.coe_zero, add_zero]
      simp only [hD]; rfl
    · have hne : b.val ≠ (qb i n).val := fun e => hb (Fin.ext e)
      rw [if_neg hb, hS.dq]
      by_cases hl : b.val ≤ j.val + n.val
      · rw [if_pos hl, if_pos (by omega)]
      · rw [if_neg hl, if_neg (by omega)]
  · refine (put3 _ _ (qb i n) 1 (off10_eq i n) b h q).trans ?_
    by_cases hb : b = qb i n
    · match h with
      | ⟨0, _⟩ =>
        rw [if_neg (fun e => absurd (congrArg Fin.val e.2 : (0 : ℕ) = 1) (by decide))]
        refine (put3 S.dcq _ (qb i n) 0 (off9_eq i n) b 0 q).trans ?_
        rw [if_pos ⟨hb, rfl⟩, tripAt_dcq0 H.key (H.trip n), win3 S.dcq _ (qb i n) 0 (off9_eq i n), hS.dcq, hb, if_neg (by omega), if_pos (by omega), EReal.coe_zero, add_zero]
        simp only [hD]; rfl
      | ⟨1, _⟩ =>
        rw [if_pos ⟨hb, rfl⟩, tripAt_dcq1 H.key (H.trip n), win3 S.dcq _ (qb i n) 1 (off10_eq i n), hS.dcq, hb, if_neg (by omega), if_pos (by omega), EReal.coe_zero, add_zero]
        simp only [hD]; rfl
    · have hne : b.val ≠ (qb i n).val := fun e => hb (Fin.ext e)
      rw [if_neg (fun e => hb e.1)]
      refine (put3 S.dcq _ (qb i n) 0 (off9_eq i n) b h q).trans ?_
      rw [if_neg (fun e => hb e.1), hS.dcq]
      by_cases hl : b.val ≤ j.val + n.val
      · rw [if_pos hl, if_pos (by omega)]
      · rw [if_neg hl, if_neg (by omega)]

theorem loop_upto (H : Holds R i X p j) (s : Vec Ideal S4096x128 .f32) (t : Vec Ideal S8x2x512 .f32) :
    ∀ n, n ≤ (k0_t1_loop i).trips → Upto R p j (j.val + n) s t (loopSt i X (diagSt i X s t) n)
  | 0, _ => diag_upto H s t
  | n + 1, h => by
    rw [show loopSt i X (diagSt i X s t) (n + 1) = tripSt i X ⟨n, h⟩ (loopSt i X (diagSt i X s t) n) from dif_pos h]
    exact trip_upto H s t ⟨n, h⟩ _ (loop_upto H s t n (Nat.le_of_succ_le h))

/-- After a point: its key block's sums over all query blocks, and dq and dcq with the key block's share added. -/
theorem end_all (H : Holds R i X p j) (s : Vec Ideal S4096x128 .f32) (t : Vec Ideal S8x2x512 .f32) : Upto R p j 7 s t (endSt i X s t) := by
  have h := loop_upto H s t _ (Nat.le_refl _)
  have e : j.val + (k0_t1_loop i).trips = 7 := by have := trips_eq i; have := H.je; omega
  rw [e] at h
  exact h

end Cert.KernelIdeal.FoxBwd
-- ==== Proof.Soft.lean ====
/-
  The forgetting attention over the reals: logits, weights, probabilities, and the gradient of a logit.
-/
module

public import proofs.«01_k».proof.Proof.Chain

@[expose] public section

noncomputable section

namespace Cert.KernelIdeal.FoxBwd

open Idealize.ShloMosaic

/-- The numbers that the step gives the attention: queries, keys, values, gradients of the output, cumulated log gates. -/
structure Given where
  Q : Fin 4096 → Fin 1024 → ℝ
  K : Fin 4096 → Fin 1024 → ℝ
  V : Fin 4096 → Fin 1024 → ℝ
  G : Fin 4096 → Fin 1024 → ℝ
  C : Fin 16 → Fin 4096 → ℝ

variable (N : Given)

/-- The logit of query `q` and key `k`, and its weight: the exponential, none for a later key. -/
def sc (h : Fin 16) (q k : Fin 4096) : ℝ := (∑ d, N.Q q (hc h d) * N.K k (hc h d)) * (1 / 8) + (N.C h q - N.C h k)
def wt (h : Fin 16) (q k : Fin 4096) : ℝ := if k ≤ q then Real.exp (sc N h q k) else 0
/-- The sum of a query's weights. -/
def tot (h : Fin 16) (q : Fin 4096) : ℝ := ∑ k, wt N h q k
/-- The gradient of a probability, and the mean of a query's. -/
def dp (h : Fin 16) (q k : Fin 4096) : ℝ := ∑ d, N.G q (hc h d) * N.V k (hc h d)
def dm (h : Fin 16) (q : Fin 4096) : ℝ := ∑ k, wt N h q k / tot N h q * dp N h q k

theorem wt_nonneg (h : Fin 16) (q k : Fin 4096) : 0 ≤ wt N h q k := by
  unfold wt; split
  · exact (Real.exp_pos _).le
  · exact le_rfl

theorem tot_pos (h : Fin 16) (q : Fin 4096) : 0 < tot N h q :=
  Finset.sum_pos' (fun k _ => wt_nonneg N h q k) ⟨q, Finset.mem_univ _, by rw [wt, if_pos le_rfl]; exact Real.exp_pos _⟩

/-- The numbers that the call takes: the log-sum is the logarithm of the weights' sum, the row's number the mean. -/
def nums : RArr where
  Q := N.Q
  K := N.K
  V := N.V
  G := N.G
  C := N.C
  L h q := Real.log (tot N h q)
  D h q := dm N h q

theorem LG_nums (h : Fin 16) (k q : Fin 4096) : LG (nums N) h k q = sc N h q k - Real.log (tot N h q) := by
  unfold LG sc
  simp only [nums]
  rw [Finset.sum_mul, show (∑ d, N.K k (hc h d) * (N.Q q (hc h d) * (1 / 8))) = ∑ d, N.Q q (hc h d) * N.K k (hc h d) * (1 / 8) from
    Finset.sum_congr rfl fun d _ => by ring]
  ring

theorem exp_LG (h : Fin 16) (k q : Fin 4096) : Real.exp (LG (nums N) h k q) = Real.exp (sc N h q k) / tot N h q := by
  rw [LG_nums, Real.exp_sub, Real.exp_log (tot_pos N h q)]

/-- The probability is the weight's share. -/
theorem PR_nums (h : Fin 16) (k q : Fin 4096) : PR (nums N) h k q = wt N h q k / tot N h q := by
  unfold PR wt
  rw [exp_LG]
  split
  · rfl
  · rw [zero_div]

/-- The gradient of the logit is the probability times the probability's gradient less its mean. -/
theorem DS_nums (h : Fin 16) (k q : Fin 4096) :
    DS (nums N) h k q = if k ≤ q then wt N h q k / tot N h q * (dp N h q k - dm N h q) else 0 := by
  unfold DS
  rw [exp_LG]
  split
  · next hk =>
    rw [wt, if_pos hk, show (∑ d, (nums N).V k (hc h d) * (nums N).G q (hc h d)) = dp N h q k from
      Finset.sum_congr rfl fun d _ => mul_comm _ _]
    rfl
  · rfl

/-- A weight after the shift by `μ`. -/
def wsh (μ : ℝ) (h : Fin 16) (q k : Fin 4096) : ℝ := if k ≤ q then Real.exp (sc N h q k - μ) else 0

theorem wsh_eq (μ : ℝ) (h : Fin 16) (q k : Fin 4096) : wsh N μ h q k = wt N h q k * Real.exp (-μ) := by
  unfold wsh wt
  split
  · rw [sub_eq_add_neg, Real.exp_add]
  · rw [zero_mul]

theorem sum_wsh (μ : ℝ) (h : Fin 16) (q : Fin 4096) : (∑ k, wsh N μ h q k) = tot N h q * Real.exp (-μ) := by
  simp only [wsh_eq, tot, Finset.sum_mul]

theorem sum_wsh_pos (μ : ℝ) (h : Fin 16) (q : Fin 4096) : 0 < ∑ k, wsh N μ h q k := by
  rw [sum_wsh]; exact mul_pos (tot_pos N h q) (Real.exp_pos _)

/-- The shifted weights have the same shares, and give the log-sum back. -/
theorem wsh_div (μ : ℝ) (h : Fin 16) (q k : Fin 4096) : wsh N μ h q k / (∑ k, wsh N μ h q k) = wt N h q k / tot N h q := by
  rw [sum_wsh, wsh_eq, mul_div_mul_right _ _ (Real.exp_pos _).ne']

theorem add_log (μ : ℝ) (h : Fin 16) (q : Fin 4096) : μ + Real.log (∑ k, wsh N μ h q k) = Real.log (tot N h q) := by
  rw [sum_wsh, Real.log_mul (tot_pos N h q).ne' (Real.exp_pos _).ne', Real.log_exp]; ring

/-- The logit's gradient from the shifted weights, as the derivative of a quotient gives it. -/
theorem quot_grad (μ : ℝ) (h : Fin 16) (q k : Fin 4096) :
    (dp N h q k / (∑ k, wsh N μ h q k)
      + -∑ k, dp N h q k * (1 / ((∑ k, wsh N μ h q k) * (∑ k, wsh N μ h q k))) * wsh N μ h q k) * wsh N μ h q k
      = wt N h q k / tot N h q * (dp N h q k - dm N h q) := by
  have hl := (sum_wsh_pos N μ h q).ne'
  have e : (∑ j, dp N h q j * (1 / ((∑ k, wsh N μ h q k) * (∑ k, wsh N μ h q k))) * wsh N μ h q j)
      = dm N h q / (∑ k, wsh N μ h q k) := by
    unfold dm
    rw [Finset.sum_div]
    refine Finset.sum_congr rfl fun j _ => ?_
    rw [← wsh_div N μ h q j]
    generalize (∑ k, wsh N μ h q k) = l at hl ⊢
    field_simp
  rw [e, ← wsh_div N μ h q k]
  generalize (∑ k, wsh N μ h q k) = l at hl ⊢
  field_simp
  ring

end Cert.KernelIdeal.FoxBwd
-- ==== Proof.Logit.lean ====
/-
  The logits of the reference and their row maxima over the reals.
-/
module

public import proofs.«01_k».proof.Proof.Soft
public import proofs.«01_k».proof.Proof.Gen.ReferenceIdeal.Read
public import Idealize.ShloMosaic.PureOps.Reduce
public import Idealize.ShloMosaic.PureOps.Ideal.Laws

@[expose] public section

set_option maxRecDepth 16384

noncomputable section

namespace Cert.KernelIdeal.FoxBwd

open Idealize.ShloMosaic Idealize.ShloMosaic.TcCoe Idealize.ShloMosaic.Tactic
open Cert.ReferenceIdeal Cert.ReferenceIdeal.Gen Cert.ReferenceIdeal.Read

/-- The arguments hold the given numbers. -/
structure Holding (N : Given) (x0 : (⟨S4096x4224, .f32⟩ : BufTy).Contents (Elt Ideal)) (x1 : (⟨S4096x16, .f32⟩ : BufTy).Contents (Elt Ideal))
    (x2 : (⟨S4096x1024, .f32⟩ : BufTy).Contents (Elt Ideal)) : Prop where
  q : ∀ n (x : Fin 1024), x0 (ix2 n ⟨x.val, by omega⟩) = ((N.Q n x : ℝ) : EReal)
  k : ∀ n (x : Fin 1024), x0 (ix2 n ⟨1024 + x.val, by omega⟩) = ((N.K n x : ℝ) : EReal)
  v : ∀ n (x : Fin 1024), x0 (ix2 n ⟨2048 + x.val, by omega⟩) = ((N.V n x : ℝ) : EReal)
  g : ∀ n x, x2 (ix2 n x) = ((N.G n x : ℝ) : EReal)
  c : ∀ n h, x1 (ix2 n h) = ((N.C h n : ℝ) : EReal)

variable {N : Given} {x0 : (⟨S4096x4224, .f32⟩ : BufTy).Contents (Elt Ideal)} {x1 : (⟨S4096x16, .f32⟩ : BufTy).Contents (Elt Ideal)}
  {x2 : (⟨S4096x1024, .f32⟩ : BufTy).Contents (Elt Ideal)}

/-- Queries, keys, values and output gradients by head. -/
theorem q_at (H : Holding N x0 x1 x2) (i : S4096x16x64.Idx) : val_main_v3 (F := Ideal) x0 i = ((N.Q (i 0) (hc (i 1) (i 2)) : ℝ) : EReal) := by
  rw [val_main_v3_apply, val_main_v0_apply]
  have h0 : (i 0).val < 4096 := (i 0).isLt
  have h1 : (i 1).val < 16 := (i 1).isLt
  have h2 : (i 2).val < 64 := (i 2).isLt
  refine (congrArg x0 (funext fun a => Fin.ext ?_)).trans (H.q (i 0) (hc (i 1) (i 2)))
  match a with
  | ⟨0, _⟩ => show (((i 0).val * 16 + (i 1).val) * 64 + (i 2).val) / 1024 = (i 0).val; omega
  | ⟨1, _⟩ => show (((i 0).val * 16 + (i 1).val) * 64 + (i 2).val) % 1024 = 64 * (i 1).val + (i 2).val; omega

theorem k_at (H : Holding N x0 x1 x2) (i : S4096x16x64.Idx) : val_main_v4 (F := Ideal) x0 i = ((N.K (i 0) (hc (i 1) (i 2)) : ℝ) : EReal) := by
  rw [val_main_v4_apply, val_main_v1_apply]
  have h0 : (i 0).val < 4096 := (i 0).isLt
  have h1 : (i 1).val < 16 := (i 1).isLt
  have h2 : (i 2).val < 64 := (i 2).isLt
  refine (congrArg x0 (funext fun a => Fin.ext ?_)).trans (H.k (i 0) (hc (i 1) (i 2)))
  match a with
  | ⟨0, _⟩ => show (((i 0).val * 16 + (i 1).val) * 64 + (i 2).val) / 1024 = (i 0).val; omega
  | ⟨1, _⟩ => show 1024 + (((i 0).val * 16 + (i 1).val) * 64 + (i 2).val) % 1024 = 1024 + (64 * (i 1).val + (i 2).val); omega

theorem v_at (H : Holding N x0 x1 x2) (i : S4096x16x64.Idx) : val_main_v52 (F := Ideal) x0 i = ((N.V (i 0) (hc (i 1) (i 2)) : ℝ) : EReal) := by
  rw [val_main_v52_apply, val_main_v2_apply]
  have h0 : (i 0).val < 4096 := (i 0).isLt
  have h1 : (i 1).val < 16 := (i 1).isLt
  have h2 : (i 2).val < 64 := (i 2).isLt
  refine (congrArg x0 (funext fun a => Fin.ext ?_)).trans (H.v (i 0) (hc (i 1) (i 2)))
  match a with
  | ⟨0, _⟩ => show (((i 0).val * 16 + (i 1).val) * 64 + (i 2).val) / 1024 = (i 0).val; omega
  | ⟨1, _⟩ => show 2048 + (((i 0).val * 16 + (i 1).val) * 64 + (i 2).val) % 1024 = 2048 + (64 * (i 1).val + (i 2).val); omega

theorem g_at (H : Holding N x0 x1 x2) (i : S4096x16x64.Idx) : val_main_v56 (F := Ideal) x2 i = ((N.G (i 0) (hc (i 1) (i 2)) : ℝ) : EReal) := by
  rw [val_main_v56_apply]
  have h0 : (i 0).val < 4096 := (i 0).isLt
  have h1 : (i 1).val < 16 := (i 1).isLt
  have h2 : (i 2).val < 64 := (i 2).isLt
  refine (congrArg x2 (funext fun a => Fin.ext ?_)).trans (H.g (i 0) (hc (i 1) (i 2)))
  match a with
  | ⟨0, _⟩ => show (((i 0).val * 16 + (i 1).val) * 64 + (i 2).val) / 1024 = (i 0).val; omega
  | ⟨1, _⟩ => show (((i 0).val * 16 + (i 1).val) * 64 + (i 2).val) % 1024 = 64 * (i 1).val + (i 2).val; omega

/-- A finite sum of reals. -/
theorem sum_coe {ι : Type} [Fintype ι] (f : ι → EReal) (g : ι → ℝ) (h : ∀ k, f k = ((g k : ℝ) : EReal)) :
    (∑ k, f k) = ((∑ k, g k : ℝ) : EReal) := by
  rw [← coe_sum]
  exact Finset.sum_congr rfl fun k _ => h k

theorem ofBits_zero : Ideal.ofBits .f32 0x00000000#32 = ((0 : ℝ) : EReal) := by
  simp [Ideal.ofBits, Ideal.ieee]
theorem ofBits_eighth : Ideal.ofBits .f32 0x3E000000#32 = ((1 / 8 : ℝ) : EReal) := eighth
theorem ofBits_bot : Ideal.ofBits .f32 0xFF800000#32 = (⊥ : EReal) := by
  simp [Ideal.ofBits, Ideal.ieee]

/-- The logit before the mask. -/
theorem logit_at (H : Holding N x0 x1 x2) (i : S16x4096x4096.Idx) :
    val_main_v15 (F := Ideal) x0 x1 i = ((sc N (i 0) (i 1) (i 2) : ℝ) : EReal) := by
  have e5 : val_main_v5 (F := Ideal) x0 i = ((∑ d, N.Q (i 1) (hc (i 0) d) * N.K (i 2) (hc (i 0) d) : ℝ) : EReal) := by
    rw [val_main_v5_apply]
    refine sum_coe _ _ fun d => ?_
    rw [q_at H, k_at H, EReal.coe_mul]
    rfl
  have e9 : val_main_v12 (F := Ideal) x1 i = ((N.C (i 0) (i 1) : ℝ) : EReal) := by
    rw [val_main_v12_apply, val_main_v9_apply, val_main_v8_apply]
    refine (congrArg x1 (?_ : _ = ix2 (i 1) (i 0))).trans (H.c _ _)
    refine funext fun a => Fin.ext ?_
    match a with
    | ⟨0, _⟩ => rfl
    | ⟨1, _⟩ => rfl
  have e13 : val_main_v13 (F := Ideal) x1 i = ((N.C (i 0) (i 2) : ℝ) : EReal) := by
    rw [val_main_v13_apply, val_main_v11_apply, val_main_v10_apply]
    refine (congrArg x1 (?_ : _ = ix2 (i 2) (i 0))).trans (H.c _ _)
    refine funext fun a => Fin.ext ?_
    match a with
    | ⟨0, _⟩ => rfl
    | ⟨1, _⟩ => rfl
  rw [val_main_v15_apply, val_main_v7_apply, val_main_v14_apply, e5, e9, e13, val_main_v6_apply, val_main_cst_apply]
  simp only [Ideal.addf_def, Ideal.subf_def, Ideal.mulf_def, Ideal.ofBits_def]
  rw [ofBits_eighth, ← EReal.coe_mul, ← EReal.coe_sub, ← EReal.coe_add]
  rfl

/-- The mask: key `k` is not later than query `q`. -/
theorem mask_at (i : S16x4096x4096.Idx) : val_main_v23_1 (F := Ideal) i = if (i 2).val ≤ (i 1).val then 1#1 else 0#1 := by
  rw [val_main_v23_1_apply, val_main_v22_apply, val_main_v20_apply, val_main_v21_apply, val_main_v17_apply, val_main_v19_apply,
    val_main_v16_apply, val_main_v18_apply]
  have h1 : (i 1).val < 4096 := (i 1).isLt
  have h2 : (i 2).val < 4096 := (i 2).isLt
  show IntOp.cmpi .sge (BitVec.ofNat 32 (i 1).val) (BitVec.ofNat 32 (i 2).val) = _
  have e : (BitVec.ofNat 32 (i 2).val).sle (BitVec.ofNat 32 (i 1).val) = decide ((i 2).val ≤ (i 1).val) := by
    rw [Bool.eq_iff_iff, decide_eq_true_iff, BitVec.sle_iff_toInt_le, BitVec.toInt_eq_toNat_of_lt, BitVec.toInt_eq_toNat_of_lt]
    · simp only [BitVec.toNat_ofNat]; omega
    · simp only [BitVec.toNat_ofNat]; omega
    · simp only [BitVec.toNat_ofNat]; omega
  simp only [IntOp.cmpi, e]
  by_cases h : (i 2).val ≤ (i 1).val <;> simp [h]

theorem masked_at (H : Holding N x0 x1 x2) (i : S16x4096x4096.Idx) :
    val_main_v23_0 (F := Ideal) x0 x1 i = if (i 2).val ≤ (i 1).val then ((sc N (i 0) (i 1) (i 2) : ℝ) : EReal) else ⊥ := by
  rw [val_main_v23_0_apply, mask_at, logit_at H, val_main_call0_v2_apply, val_main_call0_v0_apply, val_main_cst_0_apply, Ideal.ofBits_def, ofBits_bot]
  unfold Scalar.select
  split <;> simp

/-- The row maximum is a real number. -/
theorem max_real (H : Holding N x0 x1 x2) (j : S16x4096.Idx) : ∃ μ : ℝ, val_main_v24 (F := Ideal) x0 x1 j = ((μ : ℝ) : EReal) := by
  have e : val_main_v24 (F := Ideal) x0 x1 j = (Finset.univ.filter fun i => reducesTo_S16x4096x4096_S16x4096_d2.drop i = j).fold max (⊥ : EReal)
      (val_main_v23_0 (F := Ideal) x0 x1) := by
    unfold val_main_v24
    rw [Host.reduce_eq_fold, val_main_cst_1_apply, Ideal.ofBits_def, ofBits_bot]
    rfl
  rw [e]
  have hlt : Finset.fold max (⊥ : EReal) (val_main_v23_0 (F := Ideal) x0 x1) (Finset.univ.filter fun i => reducesTo_S16x4096x4096_S16x4096_d2.drop i = j) < ⊤ := by
    rw [Finset.fold_max_lt]
    refine ⟨bot_lt_top, fun i _ => ?_⟩
    rw [masked_at H]
    split
    · exact EReal.coe_lt_top _
    · exact bot_lt_top
  have hgt : (⊥ : EReal) < Finset.fold max (⊥ : EReal) (val_main_v23_0 (F := Ideal) x0 x1) (Finset.univ.filter fun i => reducesTo_S16x4096x4096_S16x4096_d2.drop i = j) := by
    rw [Finset.lt_fold_max]
    refine Or.inr ⟨ix3 (j 0) (j 1) (j 1), ?_, ?_⟩
    · rw [Finset.mem_filter]
      refine ⟨Finset.mem_univ _, funext fun b => Fin.ext ?_⟩
      match b with
      | ⟨0, _⟩ => exact reducesTo_S16x4096x4096_S16x4096_d2.drop_apply_val_of_eq _ 0 0
      | ⟨1, _⟩ => exact reducesTo_S16x4096x4096_S16x4096_d2.drop_apply_val_of_eq _ 1 1
    · rw [masked_at H]
      show (⊥ : EReal) < if (j 1).val ≤ (j 1).val then ((sc N (j 0) (j 1) (j 1) : ℝ) : EReal) else ⊥
      rw [if_pos le_rfl]
      exact EReal.bot_lt_coe _
  exact ⟨_, (EReal.coe_toReal hlt.ne hgt.ne').symm⟩

end Cert.KernelIdeal.FoxBwd
-- ==== Proof.Loop.lean ====
/-
  The first loop of the backward attention's body, run by the library's recursion over its trips, ends each trip in the state
  that `loopSt` states: carried values, dq and dcq.
-/
module

public import proofs.«01_k».proof.Proof.Step

@[expose] public section

set_option maxRecDepth 16384

noncomputable section

namespace Cert.KernelIdeal.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (𝒱 : Variants) (cc : Dev nD) (bd : Option 𝒱.V) (i : grid0.Coords)
  (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S4096x128 .f32) (harg5 : arg5.IsWhole) (arg6 : Memref sig .tc .vmem S512x128 .f32) (harg6 : arg6.IsWhole) (arg7 : Memref sig .tc .vmem S1x8x2x512 .f32) (harg7 : arg7.IsWhole) (arg8 : Memref sig .tc .vmem S1x8x2x512 .f32) (harg8 : arg8.IsWhole) (arg9 : Memref sig .tc .vmem S1x8x2x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x8x2x512 .f32) (harg13 : arg13.IsWhole) (arg14 : Memref sig .tc .vmem S512x128 .f32) (harg14 : arg14.IsWhole) (arg15 : Memref sig .tc .vmem S4096x128 .f32) (harg15 : arg15.IsWhole) (arg16 : Memref sig .tc .vmem S8x2x512 .f32) (harg16 : arg16.IsWhole)
  (arg1 : BitVec 32) (v3 : IVec S1x128 32) (v44 : FVec F S512x1 .f32) (v113 v120 : FVec F S512x512 .f32) (v128 v132 : FVec F S512x128 .f32)
  (v162 : FVec F S1x1x512 .f32) (v169 : BitVec 32) (X : Ins F)
  (Y2 : BufTy.Contents (Elt F) arg2.view.ty) (Y5 : BufTy.Contents (Elt F) arg5.view.ty) (Y7 : BufTy.Contents (Elt F) arg7.view.ty)
  (Y8 : BufTy.Contents (Elt F) arg8.view.ty) (Y9 : BufTy.Contents (Elt F) arg9.view.ty)
  (G15 : BufTy.Contents (Elt F) arg15.view.ty) (G16 : BufTy.Contents (Elt F) arg16.view.ty)

/-- One trip's carried values are `tripSt`'s. -/
theorem trip_acc (h2 : arg2.view.read (Elt F) Y2 = X.q) (h5 : arg5.view.read (Elt F) Y5 = X.g) (h7 : arg7.view.read (Elt F) Y7 = X.ct)
    (h8 : arg8.view.read (Elt F) Y8 = X.lse) (h9 : arg9.view.read (Elt F) Y9 = X.dd) (n : Fin (k0_t1_loop i).trips) (a : Carry F) :
    tripR_k0_t1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 k0_pay35 k0_pay36 (kh0 X) (kh1 X) (vb X) (ck0 i X) (ck1 i X) v44 v113 v120 v128 v132 v162 v169 Y2 Y5 Y7 Y8 Y9 n a G15 G16 = tripAcc i X (tripBlk i X n) a := by
  unfold tripR_k0_t1 trip_k0_t1 tripAcc tripBlk
  rw [← h2, ← h5, ← h7, ← h8, ← h9]
  rfl

/-- One trip's stores leave `tripSt`'s dq. -/
theorem trip_dq (h2 : arg2.view.read (Elt F) Y2 = X.q) (h5 : arg5.view.read (Elt F) Y5 = X.g) (h7 : arg7.view.read (Elt F) Y7 = X.ct)
    (h8 : arg8.view.read (Elt F) Y8 = X.lse) (h9 : arg9.view.read (Elt F) Y9 = X.dd) (n : Fin (k0_t1_loop i).trips) (S : St F)
    (L : List (View.Piece (Elt F) S4096x128 .f32)) (h15 : arg15.view.read (Elt F) (arg15.view.writes (Elt F) G15 L) = S.dq) :
    arg15.view.read (Elt F) (arg15.view.writes (Elt F) G15
      ((tripL_k0_t1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 k0_pay35 k0_pay36 (kh0 X) (kh1 X) (vb X) (ck0 i X) (ck1 i X) v44 v113 v120 v128 v132 v162 v169 Y2 Y5 Y7 Y8 Y9 n S.acc (arg15.view.writes (Elt F) G15 L) G16).1 ++ L)) = (tripSt i X n S).dq := by
  have e : (tripL_k0_t1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 k0_pay35 k0_pay36 (kh0 X) (kh1 X) (vb X) (ck0 i X) (ck1 i X) v44 v113 v120 v128 v132 v162 v169 Y2 Y5 Y7 Y8 Y9 n S.acc (arg15.view.writes (Elt F) G15 L) G16).1
      = [⟨Rect.unit (s := S4096x128) (k0_off6 i n) S512x128.size (k0_off6_inb i n),
          tripDq i X (tripBlk i X n) (VecWindow.window S.dq (k0_off6 i n) S512x128.size (k0_off6_inb i n))⟩] := by
    unfold tripL_k0_t1 trip_k0_t1 tripDq tripBlk
    rw [← h2, ← h5, ← h7, ← h8, ← h9, ← h15]
    rfl
  rw [e]
  refine (View.read_writes_cons_put _ _ _ _ L rfl).trans ?_
  rw [h15]
  rfl

/-- One trip's stores leave `tripSt`'s dcq. -/
theorem trip_dcq (h2 : arg2.view.read (Elt F) Y2 = X.q) (h5 : arg5.view.read (Elt F) Y5 = X.g) (h7 : arg7.view.read (Elt F) Y7 = X.ct)
    (h8 : arg8.view.read (Elt F) Y8 = X.lse) (h9 : arg9.view.read (Elt F) Y9 = X.dd) (n : Fin (k0_t1_loop i).trips) (S : St F)
    (L : List (View.Piece (Elt F) S8x2x512 .f32)) (h16 : arg16.view.read (Elt F) (arg16.view.writes (Elt F) G16 L) = S.dcq) :
    arg16.view.read (Elt F) (arg16.view.writes (Elt F) G16
      ((tripL_k0_t1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 k0_pay35 k0_pay36 (kh0 X) (kh1 X) (vb X) (ck0 i X) (ck1 i X) v44 v113 v120 v128 v132 v162 v169 Y2 Y5 Y7 Y8 Y9 n S.acc G15 (arg16.view.writes (Elt F) G16 L)).2 ++ L)) = (tripSt i X n S).dcq := by
  have e : ∀ W : BufTy.Contents (Elt F) arg16.view.ty, (tripL_k0_t1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 k0_pay35 k0_pay36 (kh0 X) (kh1 X) (vb X) (ck0 i X) (ck1 i X) v44 v113 v120 v128 v132 v162 v169 Y2 Y5 Y7 Y8 Y9 n S.acc G15 W).2
      = [⟨Rect.unit (s := S8x2x512) (k0_off10 i n) S1x1x512.size (k0_off10_inb i n),
          k0_pay71 (tds1 i X (tripBlk i X n)) (VecWindow.window (arg16.view.read (Elt F) W) (k0_off10 i n) S1x1x512.size (k0_off10_inb i n))⟩,
         ⟨Rect.unit (s := S8x2x512) (k0_off9 i n) S1x1x512.size (k0_off9_inb i n),
          k0_pay70 (tds0 i X (tripBlk i X n)) (VecWindow.window (arg16.view.read (Elt F) W) (k0_off9 i n) S1x1x512.size (k0_off9_inb i n))⟩] := by
    intro W
    unfold tripL_k0_t1 trip_k0_t1 tripBlk
    rw [← h2, ← h5, ← h7, ← h8, ← h9]
    rfl
  rw [e]
  refine (View.read_writes_cons_put _ _ _ _ _ rfl).trans ?_
  rw [h16]
  exact congrArg (fun u : Vec F S8x2x512 .f32 => VecWindow.put u (k0_off10 i n) S1x1x512.size
      (k0_pay71 (tds1 i X (tripBlk i X n)) (VecWindow.window S.dcq (k0_off10 i n) S1x1x512.size (k0_off10_inb i n))))
    ((View.read_writes_cons_put arg16.view G16 (k0_off9_inb i n) (k0_pay70 (tds0 i X (tripBlk i X n)) (VecWindow.window S.dcq (k0_off9 i n) S1x1x512.size (k0_off9_inb i n)))
      L rfl).trans
      (congrArg (fun u : Vec F S8x2x512 .f32 => VecWindow.put u (k0_off9 i n) S1x1x512.size
        (k0_pay70 (tds0 i X (tripBlk i X n)) (VecWindow.window S.dcq (k0_off9 i n) S1x1x512.size (k0_off9_inb i n)))) h16))

/-- The recursion over the loop's trips is `loopSt`. -/
theorem st_eq (h2 : arg2.view.read (Elt F) Y2 = X.q) (h5 : arg5.view.read (Elt F) Y5 = X.g) (h7 : arg7.view.read (Elt F) Y7 = X.ct)
    (h8 : arg8.view.read (Elt F) Y8 = X.lse) (h9 : arg9.view.read (Elt F) Y9 = X.dd) (S : St F)
    (h15 : arg15.view.read (Elt F) G15 = S.dq) (h16 : arg16.view.read (Elt F) G16 = S.dcq) (n : ℕ) :
    (st_k0_t1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 k0_pay35 k0_pay36 (kh0 X) (kh1 X) (vb X) (ck0 i X) (ck1 i X) v44 v113 v120 v128 v132 v162 v169 Y2 Y5 Y7 Y8 Y9 G15 G16 S.acc n).1 = (loopSt i X S n).acc
    ∧ arg15.view.read (Elt F) (arg15.view.writes (Elt F) G15 (st_k0_t1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 k0_pay35 k0_pay36 (kh0 X) (kh1 X) (vb X) (ck0 i X) (ck1 i X) v44 v113 v120 v128 v132 v162 v169 Y2 Y5 Y7 Y8 Y9 G15 G16 S.acc n).2.1) = (loopSt i X S n).dq
    ∧ arg16.view.read (Elt F) (arg16.view.writes (Elt F) G16 (st_k0_t1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 k0_pay35 k0_pay36 (kh0 X) (kh1 X) (vb X) (ck0 i X) (ck1 i X) v44 v113 v120 v128 v132 v162 v169 Y2 Y5 Y7 Y8 Y9 G15 G16 S.acc n).2.2) = (loopSt i X S n).dcq := by
  induction n with
  | zero => exact ⟨rfl, h15, h16⟩
  | succ n ih =>
    by_cases h : n < (k0_t1_loop i).trips
    · rw [show n + 1 = (⟨n, h⟩ : Fin (k0_t1_loop i).trips).val + 1 from rfl, st_k0_t1_succ]
      obtain ⟨ih1, ih2, ih3⟩ := ih
      have e : loopSt i X S (n + 1) = tripSt i X ⟨n, h⟩ (loopSt i X S n) := dif_pos h
      rw [show (⟨n, h⟩ : Fin (k0_t1_loop i).trips).val + 1 = n + 1 from rfl, e]
      simp only [ih1]
      exact ⟨trip_acc (h2 := h2) (h5 := h5) (h7 := h7) (h8 := h8) (h9 := h9) .., trip_dq (h2 := h2) (h5 := h5) (h7 := h7) (h8 := h8) (h9 := h9) (h15 := ih2) .., trip_dcq (h2 := h2) (h5 := h5) (h7 := h7) (h8 := h8) (h9 := h9) (h16 := ih3) ..⟩
    · have e : loopSt i X S (n + 1) = loopSt i X S n := dif_neg h
      have e' : st_k0_t1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 k0_pay35 k0_pay36 (kh0 X) (kh1 X) (vb X) (ck0 i X) (ck1 i X) v44 v113 v120 v128 v132 v162 v169 Y2 Y5 Y7 Y8 Y9 G15 G16 S.acc (n + 1) = st_k0_t1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 k0_pay35 k0_pay36 (kh0 X) (kh1 X) (vb X) (ck0 i X) (ck1 i X) v44 v113 v120 v128 v132 v162 v169 Y2 Y5 Y7 Y8 Y9 G15 G16 S.acc n := by
        show st_k0_t1Step _ _ _ _ _ _ _ _ _ _ _ _ _ _ _ _ _ _ _ _ _ _ _ _ _ _ _ _ _ _ _ _ _ _ _ _ _ _ _ _ _ _ _ _ _ _ _ _ _ _ _ _ _ _ _ _ _ _ _ _ = _
        unfold st_k0_t1Step
        exact dif_neg h
      rw [e, e']
      exact ih

end Cert.KernelIdeal.FoxBwd
-- ==== Proof.End.lean ====
/-
  What the body's loop over the later query blocks leaves, over what it was entered with.
-/
module

public import proofs.«01_k».proof.Proof.Loop

@[expose] public section

set_option maxRecDepth 16384

noncomputable section

namespace Cert.KernelIdeal.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

section

variable {𝒱 : Variants} {cc : Dev nD} {bd : Option 𝒱.V}
  {arg2 : Memref sig .tc .vmem S4096x128 .f32} {harg2 : arg2.IsWhole} {arg3 : Memref sig .tc .vmem S512x128 .f32} {harg3 : arg3.IsWhole} {arg4 : Memref sig .tc .vmem S512x128 .f32} {harg4 : arg4.IsWhole} {arg5 : Memref sig .tc .vmem S4096x128 .f32} {harg5 : arg5.IsWhole} {arg6 : Memref sig .tc .vmem S512x128 .f32} {harg6 : arg6.IsWhole} {arg7 : Memref sig .tc .vmem S1x8x2x512 .f32} {harg7 : arg7.IsWhole} {arg8 : Memref sig .tc .vmem S1x8x2x512 .f32} {harg8 : arg8.IsWhole} {arg9 : Memref sig .tc .vmem S1x8x2x512 .f32} {harg9 : arg9.IsWhole} {arg10 : Memref sig .tc .vmem S4096x128 .bf16} {harg10 : arg10.IsWhole} {arg11 : Memref sig .tc .vmem S512x128 .bf16} {harg11 : arg11.IsWhole} {arg12 : Memref sig .tc .vmem S512x128 .bf16} {harg12 : arg12.IsWhole} {arg13 : Memref sig .tc .vmem S1x8x2x512 .f32} {harg13 : arg13.IsWhole} {arg14 : Memref sig .tc .vmem S512x128 .f32} {harg14 : arg14.IsWhole} {arg15 : Memref sig .tc .vmem S4096x128 .f32} {harg15 : arg15.IsWhole} {arg16 : Memref sig .tc .vmem S8x2x512 .f32} {harg16 : arg16.IsWhole}
  {arg1 : BitVec 32} {v3 : IVec S1x128 32} {v44 : FVec F S512x1 .f32} {v113 v120 : FVec F S512x512 .f32} {v128 v132 : FVec F S512x128 .f32}
  {v162 : FVec F S1x1x512 .f32} {v169 : BitVec 32}
  {Y2 : BufTy.Contents (Elt F) arg2.view.ty} {Y5 : BufTy.Contents (Elt F) arg5.view.ty} {Y7 : BufTy.Contents (Elt F) arg7.view.ty}
  {Y8 : BufTy.Contents (Elt F) arg8.view.ty} {Y9 : BufTy.Contents (Elt F) arg9.view.ty}
  {v5 v7 : IVec S1x128 1} {v13 v18 : FVec F S512x128 .bf16} {v20 : FVec F S512x128 .bf16} {v31 v40 : FVec F S512x1 .f32}
  {f15 : BufTy.Contents (Elt F) arg15.view.ty} {f16 : BufTy.Contents (Elt F) arg16.view.ty}
  {L15 : List (View.Piece (Elt F) S4096x128 .f32)} {L16 : List (View.Piece (Elt F) S8x2x512 .f32)} {a : Carry F}
  (i : grid0.Coords) (X : Ins F) (S : St F) (n1 : ℕ)
  (e5 : v5 = k0_pay35) (e7 : v7 = k0_pay36) (e13 : v13 = kh0 X) (e18 : v18 = kh1 X) (e20 : v20 = vb X) (e31 : v31 = ck0 i X) (e40 : v40 = ck1 i X) (ea : a = S.acc)
  (h2 : arg2.view.read (Elt F) Y2 = X.q) (h5 : arg5.view.read (Elt F) Y5 = X.g) (h7 : arg7.view.read (Elt F) Y7 = X.ct)
  (h8 : arg8.view.read (Elt F) Y8 = X.lse) (h9 : arg9.view.read (Elt F) Y9 = X.dd)
  (h15 : arg15.view.read (Elt F) (arg15.view.writes (Elt F) f15 L15) = S.dq) (h16 : arg16.view.read (Elt F) (arg16.view.writes (Elt F) f16 L16) = S.dcq)

include e5 e7 e13 e18 e20 e31 e40 ea h2 h5 h7 h8 h9 h15 h16

/-- The carried values after the loop. -/
theorem fin_acc : (st_k0_t1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v5 v7 v13 v18 v20 v31 v40 v44 v113 v120 v128 v132 v162 v169 Y2 Y5 Y7 Y8 Y9 (arg15.view.writes (Elt F) f15 L15) (arg16.view.writes (Elt F) f16 L16) a n1).1 = (loopSt i X S n1).acc := by
  subst e5 e7 e13 e18 e20 e31 e40 ea
  exact (st_eq (h2 := h2) (h5 := h5) (h7 := h7) (h8 := h8) (h9 := h9) (h15 := h15) (h16 := h16) (n := n1) ..).1

/-- dq after the loop, over the stores `L15` before it. -/
theorem fin_dq : arg15.view.read (Elt F) (arg15.view.writes (Elt F) f15 ((st_k0_t1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v5 v7 v13 v18 v20 v31 v40 v44 v113 v120 v128 v132 v162 v169 Y2 Y5 Y7 Y8 Y9 (arg15.view.writes (Elt F) f15 L15) (arg16.view.writes (Elt F) f16 L16) a n1).2.1 ++ L15)) = (loopSt i X S n1).dq := by
  subst e5 e7 e13 e18 e20 e31 e40 ea
  rw [View.writes_append]
  exact (st_eq (h2 := h2) (h5 := h5) (h7 := h7) (h8 := h8) (h9 := h9) (h15 := h15) (h16 := h16) (n := n1) ..).2.1

/-- dcq after the loop, over the stores `L16` before it. -/
theorem fin_dcq : arg16.view.read (Elt F) (arg16.view.writes (Elt F) f16 ((st_k0_t1 𝒱 cc bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v5 v7 v13 v18 v20 v31 v40 v44 v113 v120 v128 v132 v162 v169 Y2 Y5 Y7 Y8 Y9 (arg15.view.writes (Elt F) f15 L15) (arg16.view.writes (Elt F) f16 L16) a n1).2.2 ++ L16)) = (loopSt i X S n1).dcq := by
  subst e5 e7 e13 e18 e20 e31 e40 ea
  rw [View.writes_append]
  exact (st_eq (h2 := h2) (h5 := h5) (h7 := h7) (h8 := h8) (h9 := h9) (h15 := h15) (h16 := h16) (n := n1) ..).2.2

end

/-- dq after the diagonal block's store, over any stores before it. -/
theorem diag_dq (i : grid0.Coords) (X : Ins F) {sp : Space} (v : View sig .tc sp S4096x128 .f32) (f : BufTy.Contents (Elt F) v.ty) (L : List (View.Piece (Elt F) S4096x128 .f32))
    (s : Vec F S4096x128 .f32) (r : Vec F S8x2x512 .f32) (hs : v.read (Elt F) (v.writes (Elt F) f L) = s) :
    v.read (Elt F) (v.writes (Elt F) f (⟨Rect.unit (s := S4096x128) (k0_off1 i) S512x128.size (k0_off1_inb i),
      diagDq i X (diagBlk i X) (VecWindow.window s (k0_off1 i) S512x128.size (k0_off1_inb i))⟩ :: L)) = (diagSt i X s r).dq := by
  refine (View.read_writes_cons_put v f (k0_off1_inb i) _ L rfl).trans ?_
  rw [hs]
  rfl

/-- dcq after the diagonal block's two stores, over any stores before them. -/
theorem diag_dcq (i : grid0.Coords) (X : Ins F) {sp : Space} (v : View sig .tc sp S8x2x512 .f32) (f : BufTy.Contents (Elt F) v.ty) (L : List (View.Piece (Elt F) S8x2x512 .f32))
    (s : Vec F S4096x128 .f32) (r : Vec F S8x2x512 .f32) (hr : v.read (Elt F) (v.writes (Elt F) f L) = r) :
    v.read (Elt F) (v.writes (Elt F) f (⟨Rect.unit (s := S8x2x512) (k0_off5 i) S1x1x512.size (k0_off5_inb i),
        diagDcq1 i X (diagBlk i X) (VecWindow.window r (k0_off5 i) S1x1x512.size (k0_off5_inb i))⟩
      :: ⟨Rect.unit (s := S8x2x512) (k0_off4 i) S1x1x512.size (k0_off4_inb i),
        diagDcq0 i X (diagBlk i X) (VecWindow.window r (k0_off4 i) S1x1x512.size (k0_off4_inb i))⟩ :: L)) = (diagSt i X s r).dcq := by
  refine (View.read_writes_cons_put v f (k0_off5_inb i) _ _ rfl).trans ?_
  exact congrArg (fun u : Vec F S8x2x512 .f32 => VecWindow.put u (k0_off5 i) S1x1x512.size
      (diagDcq1 i X (diagBlk i X) (VecWindow.window r (k0_off5 i) S1x1x512.size (k0_off5_inb i))))
    ((View.read_writes_cons_put v f (k0_off4_inb i) _ L rfl).trans
      (congrArg (fun u : Vec F S8x2x512 .f32 => VecWindow.put u (k0_off4 i) S1x1x512.size
        (diagDcq0 i X (diagBlk i X) (VecWindow.window r (k0_off4 i) S1x1x512.size (k0_off4_inb i)))) hr))

end Cert.KernelIdeal.FoxBwd
-- ==== Proof.RunDefs.lean ====
/-
  Names for the body of the backward attention: the two cases of a point, the blocks that the staging buffers hold, the remainder loop.
-/
module

public import proofs.«01_k».proof.Proof.End
public import Idealize.ShloMosaic.Lib.LoopRemainder
public import proofs.«01_k».proof.Proof.Gen.KernelIdeal.Launch
public import proofs.«01_k».proof.Proof.Gen.KernelIdeal.Frame
public import Idealize.ShloMosaic.Lib.Tactic
public import Idealize.ShloMosaic.Lib.Pipeline.FrameBody
public import Idealize.ShloMosaic.Lib.WordCmp

@[expose] public section

set_option maxRecDepth 16384

noncomputable section

namespace Cert.KernelIdeal.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The point is one of the first key block; of the last. -/
abbrev first (i : grid0.Coords) : Prop := (Scalar.cmpi .ne (Scalar.extui (Scalar.cmpi .eq (BitVec.ofNat 32 (i 1).val) 0#32)) 0#32) = 1#1
abbrev last (i : grid0.Coords) : Prop := k0_cond2 i = 1#1

/-- jax's remainder loop after the loop over the later query blocks has no trip: the carried values are the initial ones. -/
@[instance_reducible, sl_loop] def noRemainder {M : Type} [RA.URA M] {Mask : Type} {E : Type → Type} (Fr : Mask → sProp M) (wpE : Mask → ∀ ⦃β : Type⦄, E β → sWPT M β) (Es : Mask)
    [∀ ⦃β : Type⦄ (e : E β), sWPT.Frameable (wpE Es e)] {σ : Type} (a x : BitVec 32)
    (hok : Scf.OK (Scalar.addi a (Scalar.muli (Scalar.divsi x 1#32) 1#32)) (Scalar.addi a x) 1#32) (init : σ)
    (body : Fin (Scf.trips (Scalar.addi a (Scalar.muli (Scalar.divsi x 1#32) 1#32)) (Scalar.addi a x) 1#32) → σ → Prog E σ) :
    LoopInv Fr wpE Es (Scalar.addi a (Scalar.muli (Scalar.divsi x 1#32) 1#32)) (Scalar.addi a x) 1#32 hok init body :=
  LoopInv.ofRemainder Fr wpE Es a x hok init body

/-- The blocks that the staging buffers hold. -/
abbrev insOf {arg2 : Memref sig .tc .vmem S4096x128 .f32} {arg3 arg4 : Memref sig .tc .vmem S512x128 .f32} {arg5 : Memref sig .tc .vmem S4096x128 .f32}
    {arg6 : Memref sig .tc .vmem S512x128 .f32} {arg7 arg8 arg9 : Memref sig .tc .vmem S1x8x2x512 .f32}
    (f0 : arg2.view.ty.Contents (Elt F)) (f1 : arg3.view.ty.Contents (Elt F)) (f2 : arg4.view.ty.Contents (Elt F)) (f3 : arg5.view.ty.Contents (Elt F))
    (f4 : arg6.view.ty.Contents (Elt F)) (f5 : arg7.view.ty.Contents (Elt F)) (f6 : arg8.view.ty.Contents (Elt F)) (f7 : arg9.view.ty.Contents (Elt F)) : Ins F where
  q := arg2.view.read (Elt F) f0
  k := arg3.view.readAt (Elt F) (Rect.unit (s := S512x128) ![0, 0] S512x128.size inb_S512x128_S512x128_0_0).toLoadRect f1
  v := arg4.view.readAt (Elt F) (Rect.unit (s := S512x128) ![0, 0] S512x128.size inb_S512x128_S512x128_0_0).toLoadRect f2
  g := arg5.view.read (Elt F) f3
  c := arg6.view.readAt (Elt F) (Rect.unit (s := S512x128) ![0, 0] S512x128.size inb_S512x128_S512x128_0_0).toLoadRect f4
  ct := arg7.view.read (Elt F) f5
  lse := arg8.view.read (Elt F) f6
  dd := arg9.view.read (Elt F) f7

/-- They are the blocks that the buffers were said to hold. -/
theorem insOf_eq {arg2 : Memref sig .tc .vmem S4096x128 .f32} {arg3 arg4 : Memref sig .tc .vmem S512x128 .f32} {arg5 : Memref sig .tc .vmem S4096x128 .f32}
    {arg6 : Memref sig .tc .vmem S512x128 .f32} {arg7 arg8 arg9 : Memref sig .tc .vmem S1x8x2x512 .f32}
    {f0 : arg2.view.ty.Contents (Elt F)} {f1 : arg3.view.ty.Contents (Elt F)} {f2 : arg4.view.ty.Contents (Elt F)} {f3 : arg5.view.ty.Contents (Elt F)}
    {f4 : arg6.view.ty.Contents (Elt F)} {f5 : arg7.view.ty.Contents (Elt F)} {f6 : arg8.view.ty.Contents (Elt F)} {f7 : arg9.view.ty.Contents (Elt F)} {X : Ins F}
    (h0 : arg2.view.read (Elt F) f0 = X.q) (h1 : arg3.view.read (Elt F) f1 = X.k) (h2 : arg4.view.read (Elt F) f2 = X.v) (h3 : arg5.view.read (Elt F) f3 = X.g)
    (h4 : arg6.view.read (Elt F) f4 = X.c) (h5 : arg7.view.read (Elt F) f5 = X.ct) (h6 : arg8.view.read (Elt F) f6 = X.lse) (h7 : arg9.view.read (Elt F) f7 = X.dd) :
    insOf f0 f1 f2 f3 f4 f5 f6 f7 = X := by
  obtain ⟨xq, xk, xv, xg, xc, xct, xl, xd⟩ := X
  simp only [insOf, View.readAt_full] at *
  subst h0 h1 h2 h3 h4 h5 h6 h7
  congr 1 <;> exact View.readAt_full _ _ _

/-- The diagonal block's stores into dq and into dcq, over the stores `L` before them. -/
abbrev pieces15 (i : grid0.Coords) (X : Ins F) (s : Vec F S4096x128 .f32) (L : List (View.Piece (Elt F) S4096x128 .f32)) : List (View.Piece (Elt F) S4096x128 .f32) :=
  ⟨Rect.unit (s := S4096x128) (k0_off1 i) S512x128.size (k0_off1_inb i),
    diagDq i X (diagBlk i X) (VecWindow.window s (k0_off1 i) S512x128.size (k0_off1_inb i))⟩ :: L
abbrev pieces16 (i : grid0.Coords) (X : Ins F) (r : Vec F S8x2x512 .f32) (L : List (View.Piece (Elt F) S8x2x512 .f32)) : List (View.Piece (Elt F) S8x2x512 .f32) :=
  ⟨Rect.unit (s := S8x2x512) (k0_off5 i) S1x1x512.size (k0_off5_inb i),
      diagDcq1 i X (diagBlk i X) (VecWindow.window r (k0_off5 i) S1x1x512.size (k0_off5_inb i))⟩
    :: ⟨Rect.unit (s := S8x2x512) (k0_off4 i) S1x1x512.size (k0_off4_inb i),
      diagDcq0 i X (diagBlk i X) (VecWindow.window r (k0_off4 i) S1x1x512.size (k0_off4_inb i))⟩ :: L

end Cert.KernelIdeal.FoxBwd
-- ==== Proof.State.lean ====
/-
  What the backward attention's accumulators hold after each point of the grid.
-/
module

public import proofs.«01_k».proof.Proof.RunDefs
public import Idealize.ShloMosaic.Lib.WordCmp

@[expose] public section

set_option maxRecDepth 16384

noncomputable section

namespace Cert.KernelIdeal.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The first key block's points are those divisible by 8. -/
theorem first_iff (t : Fin cfg0.N) : first (grid0.coords t) ↔ t.val % 8 = 0 := by
  have ht : t.val < 64 := Nat.lt_of_lt_of_eq t.isLt N_0
  have e1 : (grid0.coords t 1).val = t.val / 1 % 8 := Pipeline.Grid.coords_val t 1 (by decide) rfl
  simp only [first, e1]
  word_cmp

/-- The last key block's points are those with remainder 7. -/
theorem last_iff (t : Fin cfg0.N) : last (grid0.coords t) ↔ t.val % 8 = 7 := by
  have ht : t.val < 64 := Nat.lt_of_lt_of_eq t.isLt N_0
  have e1 : (grid0.coords t 1).val = t.val / 1 % 8 := Pipeline.Grid.coords_val t 1 (by decide) rfl
  simp only [last, k0_cond2, e1]
  word_cmp

/-! ## What the accumulators hold after each point -/

/-- The blocks of point `t`. -/
abbrev insAt (c : Dev nD) (t : Fin cfg0.N) : Ins F where
  q := iblk m c 0 t
  k := iblk m c 1 t
  v := iblk m c 2 t
  g := iblk m c 3 t
  c := iblk m c 4 t
  ct := iblk m c 5 t
  lse := iblk m c 6 t
  dd := iblk m c 7 t

/-- The state after point `n`: from zero at the first key block of a pair of heads, else from what the point before left. -/
def stAt (c : Dev nD) : (n : ℕ) → n < cfg0.N → St F
  | 0, h => endSt (grid0.coords ⟨0, h⟩) (insAt m c ⟨0, h⟩) (k0_pay33 (F := F)) (k0_pay34 (F := F))
  | n + 1, h =>
    if (n + 1) % 8 = 0 then endSt (grid0.coords ⟨n + 1, h⟩) (insAt m c ⟨n + 1, h⟩) (k0_pay33 (F := F)) (k0_pay34 (F := F))
    else endSt (grid0.coords ⟨n + 1, h⟩) (insAt m c ⟨n + 1, h⟩) (stAt c n (Nat.lt_of_succ_lt h)).dq (stAt c n (Nat.lt_of_succ_lt h)).dcq

theorem stAt_first (c : Dev nD) (t : Fin cfg0.N) (h : t.val % 8 = 0) :
    stAt m c t.val t.isLt = endSt (grid0.coords t) (insAt m c t) (k0_pay33 (F := F)) (k0_pay34 (F := F)) := by
  obtain ⟨n, hn⟩ := t
  cases n with
  | zero => rfl
  | succ n => exact if_pos h

theorem stAt_next (c : Dev nD) (t : Fin cfg0.N) (h : ¬ t.val % 8 = 0) :
    stAt m c t.val t.isLt = endSt (grid0.coords t) (insAt m c t)
      (stAt m c (t.val - 1) (Nat.lt_of_le_of_lt (Nat.sub_le _ _) t.isLt)).dq (stAt m c (t.val - 1) (Nat.lt_of_le_of_lt (Nat.sub_le _ _) t.isLt)).dcq := by
  obtain ⟨n, hn⟩ := t
  cases n with
  | zero => exact absurd (Nat.zero_mod _) h
  | succ n => exact if_neg h

end Cert.KernelIdeal.FoxBwd
-- ==== Proof.RunFirst.lean ====
/-
  The body of the backward attention at a point of the first key block.
-/
module

public import proofs.«01_k».proof.Proof.RunDefs

@[expose] public section

set_option maxRecDepth 16384

noncomputable section

namespace Cert.KernelIdeal.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The load of the other head's row passes over the store into the first head's. -/
theorem load5 (i : grid0.Coords) {sp : Space} (v : View sig .tc sp S8x2x512 .f32) (f : BufTy.Contents (Elt F) v.ty) (w : S1x1x512.Idx → Elt F .f32) (L : List (View.Piece (Elt F) S8x2x512 .f32)) :
    v.readAt (Elt F) (Rect.unit (s := S8x2x512) (k0_off5 i) S1x1x512.size (k0_off5_inb i)).toLoadRect
      (v.writes (Elt F) f (⟨Rect.unit (s := S8x2x512) (k0_off4 i) S1x1x512.size (k0_off4_inb i), w⟩ :: L))
      = VecWindow.window (v.read (Elt F) (v.writes (Elt F) f L)) (k0_off5 i) S1x1x512.size (k0_off5_inb i) := by
  refine (View.readAt_unit v _ (k0_off5_inb i) rfl (k0_off5_inb i)).trans ?_
  rw [View.read_writes_cons_put v f (k0_off4_inb i) _ L rfl]
  exact VecWindow.window_put_of_disjoint _ _ _ _ _ _ _ (1 : Fin 3) (Or.inr (Nat.le_refl 1))

set_option maxHeartbeats 2000000 in
/-- At a point of the first key block the accumulators are zeroed first: the point ends in `endSt` from zero. dq and dcq are not stored. -/
theorem run_first (c : Dev nD) (i : grid0.Coords)
  (arg2 : Memref sig .tc .vmem S4096x128 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S4096x128 .f32) (harg5 : arg5.IsWhole)
  (arg6 : Memref sig .tc .vmem S512x128 .f32) (harg6 : arg6.IsWhole)
  (arg7 : Memref sig .tc .vmem S1x8x2x512 .f32) (harg7 : arg7.IsWhole)
  (arg8 : Memref sig .tc .vmem S1x8x2x512 .f32) (harg8 : arg8.IsWhole)
  (arg9 : Memref sig .tc .vmem S1x8x2x512 .f32) (harg9 : arg9.IsWhole)
  (arg10 : Memref sig .tc .vmem S4096x128 .bf16) (harg10 : arg10.IsWhole)
  (arg11 : Memref sig .tc .vmem S512x128 .bf16) (harg11 : arg11.IsWhole)
  (arg12 : Memref sig .tc .vmem S512x128 .bf16) (harg12 : arg12.IsWhole)
  (arg13 : Memref sig .tc .vmem S1x8x2x512 .f32) (harg13 : arg13.IsWhole)
  (arg14 : Memref sig .tc .vmem S512x128 .f32) (harg14 : arg14.IsWhole)
  (arg15 : Memref sig .tc .vmem S4096x128 .f32) (harg15 : arg15.IsWhole)
  (arg16 : Memref sig .tc .vmem S8x2x512 .f32) (harg16 : arg16.IsWhole)
    (hc0 : first i) (hc1 : ¬ last i) (X : Ins F)
    (y8 : Vec F S4096x128 .bf16) (y11 : Vec F S1x8x2x512 .f32) (E : Set ℕ) (K : PUnit → sProp 𝕄) :
    iprop(owns (c : Thread nD τ) arg2 fullShare X.q ∗ owns (c : Thread nD τ) arg3 fullShare X.k ∗ owns (c : Thread nD τ) arg4 fullShare X.v ∗ owns (c : Thread nD τ) arg5 fullShare X.g ∗ owns (c : Thread nD τ) arg6 fullShare X.c ∗ owns (c : Thread nD τ) arg7 fullShare X.ct ∗ owns (c : Thread nD τ) arg8 fullShare X.lse ∗ owns (c : Thread nD τ) arg9 fullShare X.dd ∗ owns (c : Thread nD τ) arg10 fullShare y8 ∗ (∃ d, owns (c : Thread nD τ) arg11 fullShare d) ∗ (∃ d, owns (c : Thread nD τ) arg12 fullShare d) ∗ owns (c : Thread nD τ) arg13 fullShare y11 ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg2 fullShare X.q ∗ owns (c : Thread nD τ) arg3 fullShare X.k ∗ owns (c : Thread nD τ) arg4 fullShare X.v ∗ owns (c : Thread nD τ) arg5 fullShare X.g ∗ owns (c : Thread nD τ) arg6 fullShare X.c ∗ owns (c : Thread nD τ) arg7 fullShare X.ct ∗ owns (c : Thread nD τ) arg8 fullShare X.lse ∗ owns (c : Thread nD τ) arg9 fullShare X.dd ∗ owns (c : Thread nD τ) arg10 fullShare y8 ∗ owns (c : Thread nD τ) arg11 fullShare (outDk (endSt i X (k0_pay33 (F := F)) (k0_pay34 (F := F)))) ∗ owns (c : Thread nD τ) arg12 fullShare (outDv (endSt i X (k0_pay33 (F := F)) (k0_pay34 (F := F)))) ∗ owns (c : Thread nD τ) arg13 fullShare y11 ∗ owns (c : Thread nD τ) arg14 fullShare (outDck (endSt i X (k0_pay33 (F := F)) (k0_pay34 (F := F)))) ∗ owns (c : Thread nD τ) arg15 fullShare (endSt i X (k0_pay33 (F := F)) (k0_pay34 (F := F))).dq ∗ owns (c : Thread nD τ) arg16 fullShare (endSt i X (k0_pay33 (F := F)) (k0_pay34 (F := F))).dcq) -∗ K ⟨⟩))
    ⊢ wp frame (wpE (defs₀ (F := F)) Variants.none c none) E (cc0_fox_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_attn_bwd_eq_skeleton]; unfold cc0_fox_attn_bwd_skel
  simp only [k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, ⟨%es0, %fs0, -, HS0⟩, ⟨%es1, %fs1, -, HS1⟩, Hk⟩
  sl_exec (disch := first | sl_exact hc0 | sl_exact hc1)
  sl_step
  obtain rfl := insOf_eq hf0 hf1 hf2 hf3 hf4 hf5 hf6 hf7
  have hE : endSt i (insOf f0 f1 f2 f3 f4 f5 f6 f7) (arg15.view.read (Elt F) (arg15.view.writes (Elt F) arg15.view.junk run_first.sl.HS0_1)) (arg16.view.read (Elt F) (arg16.view.writes (Elt F) arg16.view.junk run_first.sl.HS1_1)) = loopSt i (insOf f0 f1 f2 f3 f4 f5 f6 f7) (diagSt i (insOf f0 f1 f2 f3 f4 f5 f6 f7) (arg15.view.read (Elt F) (arg15.view.writes (Elt F) arg15.view.junk run_first.sl.HS0_1)) (arg16.view.read (Elt F) (arg16.view.writes (Elt F) arg16.view.junk run_first.sl.HS1_1))) (Scf.trips (k0_t1_loop i).lb (k0_t1_loop i).ub (k0_t1_loop i).st) := rfl
  have hz0 : (arg15.view.read (Elt F) (arg15.view.writes (Elt F) arg15.view.junk run_first.sl.HS0_1)) = k0_pay33 (F := F) := View.read_writes_full _ _ _ _ _
  have hz1 : (arg16.view.read (Elt F) (arg16.view.writes (Elt F) arg16.view.junk run_first.sl.HS1_1)) = k0_pay34 (F := F) := View.read_writes_full _ _ _ _ _
  rw [← hz0, ← hz1]
  rw [hE]
  iapply Hk
  have e13 : (run_first.sl.r c arg3 f1) = kh0 (insOf f0 f1 f2 f3 f4 f5 f6 f7) := rfl
  have e18 : (run_first.sl.r_1 c arg3 f1) = kh1 (insOf f0 f1 f2 f3 f4 f5 f6 f7) := rfl
  have e20 : (run_first.sl.r_2 c arg4 f2) = vb (insOf f0 f1 f2 f3 f4 f5 f6 f7) := rfl
  have e31 : (run_first.sl.r_4 c i arg6 f4) = ck0 i (insOf f0 f1 f2 f3 f4 f5 f6 f7) := rfl
  have e40 : (run_first.sl.r_5 c i arg6 f4) = ck1 i (insOf f0 f1 f2 f3 f4 f5 f6 f7) := rfl
  have d0 : (run_first.sl.r_12 c i arg2 arg3 arg4 arg5 arg6 arg7 arg8 arg9 f0 f1 f2 f3 f4 f5 f6 f7) = ds0 i (insOf f0 f1 f2 f3 f4 f5 f6 f7) (diagBlk i (insOf f0 f1 f2 f3 f4 f5 f6 f7)) := rfl
  have d1 : (run_first.sl.r_13 c i arg2 arg3 arg4 arg5 arg6 arg7 arg8 arg9 f0 f1 f2 f3 f4 f5 f6 f7) = ds1 i (insOf f0 f1 f2 f3 f4 f5 f6 f7) (diagBlk i (insOf f0 f1 f2 f3 f4 f5 f6 f7)) := rfl
  have ea : (((run_first.sl.r_17 c i arg2 arg3 arg4 arg5 arg6 arg7 arg8 arg9 f0 f1 f2 f3 f4 f5 f6 f7), (run_first.sl.r_16 c i arg2 arg3 arg5 arg6 arg7 arg8 f0 f1 f3 f4 f5 f6), k0_pay67 (k0_pay46 (F := F)) (run_first.sl.r_12 c i arg2 arg3 arg4 arg5 arg6 arg7 arg8 arg9 f0 f1 f2 f3 f4 f5 f6 f7), k0_pay68 (k0_pay46 (F := F)) (run_first.sl.r_13 c i arg2 arg3 arg4 arg5 arg6 arg7 arg8 arg9 f0 f1 f2 f3 f4 f5 f6 f7)) : Carry F)
      = (diagSt i (insOf f0 f1 f2 f3 f4 f5 f6 f7) (arg15.view.read (Elt F) (arg15.view.writes (Elt F) arg15.view.junk run_first.sl.HS0_1)) (arg16.view.read (Elt F) (arg16.view.writes (Elt F) arg16.view.junk run_first.sl.HS1_1))).acc := rfl
  have h15 : arg15.view.read (Elt F) (arg15.view.writes (Elt F) arg15.view.junk (⟨Rect.unit (s := S4096x128) (k0_off1 i) S512x128.size (k0_off1_inb i),
      k0_pay64 (run_first.sl.r c arg3 f1) (run_first.sl.r_1 c arg3 f1) (run_first.sl.r_12 c i arg2 arg3 arg4 arg5 arg6 arg7 arg8 arg9 f0 f1 f2 f3 f4 f5 f6 f7) (run_first.sl.r_13 c i arg2 arg3 arg4 arg5 arg6 arg7 arg8 arg9 f0 f1 f2 f3 f4 f5 f6 f7) (View.readAt (Elt F) arg15.view (Rect.unit (s := S4096x128) (k0_off1 i) S512x128.size (k0_off1_inb i)).toLoadRect (arg15.view.writes (Elt F) arg15.view.junk run_first.sl.HS0_1))⟩ :: run_first.sl.HS0_1)) = (diagSt i (insOf f0 f1 f2 f3 f4 f5 f6 f7) (arg15.view.read (Elt F) (arg15.view.writes (Elt F) arg15.view.junk run_first.sl.HS0_1)) (arg16.view.read (Elt F) (arg16.view.writes (Elt F) arg16.view.junk run_first.sl.HS1_1))).dq := by
    rw [e13, e18, d0, d1]
    exact diag_dq i (insOf f0 f1 f2 f3 f4 f5 f6 f7) arg15.view arg15.view.junk run_first.sl.HS0_1 (arg15.view.read (Elt F) (arg15.view.writes (Elt F) arg15.view.junk run_first.sl.HS0_1)) (arg16.view.read (Elt F) (arg16.view.writes (Elt F) arg16.view.junk run_first.sl.HS1_1)) rfl
  have h16 : arg16.view.read (Elt F) (arg16.view.writes (Elt F) arg16.view.junk (⟨Rect.unit (s := S8x2x512) (k0_off5 i) S1x1x512.size (k0_off5_inb i), (run_first.sl.r_18 c i arg2 arg3 arg4 arg5 arg6 arg7 arg8 arg9 arg16 f0 f1 f2 f3 f4 f5 f6 f7)⟩ :: run_first.sl.HS1_2 c i arg2 arg3 arg4 arg5 arg6 arg7 arg8 arg9 arg16 f0 f1 f2 f3 f4 f5 f6 f7)) = (diagSt i (insOf f0 f1 f2 f3 f4 f5 f6 f7) (arg15.view.read (Elt F) (arg15.view.writes (Elt F) arg15.view.junk run_first.sl.HS0_1)) (arg16.view.read (Elt F) (arg16.view.writes (Elt F) arg16.view.junk run_first.sl.HS1_1))).dcq := by
    have hv : run_first.sl.v154 c i arg2 arg3 arg4 arg5 arg6 arg7 arg8 arg9 arg16 f0 f1 f2 f3 f4 f5 f6 f7 = VecWindow.window (arg16.view.read (Elt F) (arg16.view.writes (Elt F) arg16.view.junk run_first.sl.HS1_1)) (k0_off5 i) S1x1x512.size (k0_off5_inb i) := by
      delta run_first.sl.v154
      delta run_first.sl.HS1_2
      exact load5 i arg16.view arg16.view.junk _ run_first.sl.HS1_1
    delta run_first.sl.HS1_2 run_first.sl.r_18
    rw [d0, d1, hv]
    exact diag_dcq i (insOf f0 f1 f2 f3 f4 f5 f6 f7) arg16.view arg16.view.junk run_first.sl.HS1_1 (arg15.view.read (Elt F) (arg15.view.writes (Elt F) arg15.view.junk run_first.sl.HS0_1)) (arg16.view.read (Elt F) (arg16.view.writes (Elt F) arg16.view.junk run_first.sl.HS1_1)) rfl
  isplitl [H0]
  · iexists f0; isplitr
    · ipureintro; exact rfl
    · iexact H0
  isplitl [H1]
  · iexists f1; isplitr
    · ipureintro; exact (View.readAt_full _ _ _).symm
    · iexact H1
  isplitl [H2]
  · iexists f2; isplitr
    · ipureintro; exact (View.readAt_full _ _ _).symm
    · iexact H2
  isplitl [H3]
  · iexists f3; isplitr
    · ipureintro; exact rfl
    · iexact H3
  isplitl [H4]
  · iexists f4; isplitr
    · ipureintro; exact (View.readAt_full _ _ _).symm
    · iexact H4
  isplitl [H5]
  · iexists f5; isplitr
    · ipureintro; exact rfl
    · iexact H5
  isplitl [H6]
  · iexists f6; isplitr
    · ipureintro; exact rfl
    · iexact H6
  isplitl [H7]
  · iexists f7; isplitr
    · ipureintro; exact rfl
    · iexact H7
  isplitl [H8]
  · iexists f8; isplitr
    · ipureintro; exact hf8
    · iexact H8
  isplitl [H9]
  · iexists _; isplitr; swap
    · iexact H9
    · ipureintro
      exact (View.read_writes_full _ _ _ _ _).trans (congrArg (fun a : Carry F => k0_pay79 a.1) (fin_acc i (insOf f0 f1 f2 f3 f4 f5 f6 f7) (diagSt i (insOf f0 f1 f2 f3 f4 f5 f6 f7) (arg15.view.read (Elt F) (arg15.view.writes (Elt F) arg15.view.junk run_first.sl.HS0_1)) (arg16.view.read (Elt F) (arg16.view.writes (Elt F) arg16.view.junk run_first.sl.HS1_1))) _ rfl rfl e13 e18 e20 e31 e40 ea rfl rfl rfl rfl rfl h15 h16))
  isplitl [H10]
  · iexists _; isplitr; swap
    · iexact H10
    · ipureintro
      exact (View.read_writes_full _ _ _ _ _).trans (congrArg (fun a : Carry F => k0_pay80 a.2.1) (fin_acc i (insOf f0 f1 f2 f3 f4 f5 f6 f7) (diagSt i (insOf f0 f1 f2 f3 f4 f5 f6 f7) (arg15.view.read (Elt F) (arg15.view.writes (Elt F) arg15.view.junk run_first.sl.HS0_1)) (arg16.view.read (Elt F) (arg16.view.writes (Elt F) arg16.view.junk run_first.sl.HS1_1))) _ rfl rfl e13 e18 e20 e31 e40 ea rfl rfl rfl rfl rfl h15 h16))
  isplitl [H11]
  · iexists f11; isplitr
    · ipureintro; exact hf11
    · iexact H11
  isplitl [H12]
  · iexists _; isplitr; swap
    · iexact H12
    · ipureintro
      exact (View.read_writes_full _ _ _ _ _).trans (congrArg (fun a : Carry F => k0_pay81 (iota .tc S1x128 32 [1] iota_S1x128_d1_w32) a.2.2.1 a.2.2.2) (fin_acc i (insOf f0 f1 f2 f3 f4 f5 f6 f7) (diagSt i (insOf f0 f1 f2 f3 f4 f5 f6 f7) (arg15.view.read (Elt F) (arg15.view.writes (Elt F) arg15.view.junk run_first.sl.HS0_1)) (arg16.view.read (Elt F) (arg16.view.writes (Elt F) arg16.view.junk run_first.sl.HS1_1))) _ rfl rfl e13 e18 e20 e31 e40 ea rfl rfl rfl rfl rfl h15 h16))
  isplitl [HS0]
  · iexists _; isplitr; swap
    · iexact HS0
    · ipureintro
      exact fin_dq i (insOf f0 f1 f2 f3 f4 f5 f6 f7) (diagSt i (insOf f0 f1 f2 f3 f4 f5 f6 f7) (arg15.view.read (Elt F) (arg15.view.writes (Elt F) arg15.view.junk run_first.sl.HS0_1)) (arg16.view.read (Elt F) (arg16.view.writes (Elt F) arg16.view.junk run_first.sl.HS1_1))) _ rfl rfl e13 e18 e20 e31 e40 ea rfl rfl rfl rfl rfl h15 h16
  iexists _; isplitr; swap
  · iexact HS1
  · ipureintro
    exact fin_dcq i (insOf f0 f1 f2 f3 f4 f5 f6 f7) (diagSt i (insOf f0 f1 f2 f3 f4 f5 f6 f7) (arg15.view.read (Elt F) (arg15.view.writes (Elt F) arg15.view.junk run_first.sl.HS0_1)) (arg16.view.read (Elt F) (arg16.view.writes (Elt F) arg16.view.junk run_first.sl.HS1_1))) _ rfl rfl e13 e18 e20 e31 e40 ea rfl rfl rfl rfl rfl h15 h16

end Cert.KernelIdeal.FoxBwd
-- ==== Proof.RunMid.lean ====
/-
  The body of the backward attention at a point between the first key block and the last.
-/
module

public import proofs.«01_k».proof.Proof.RunDefs

@[expose] public section

set_option maxRecDepth 16384

noncomputable section

namespace Cert.KernelIdeal.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- At a point between the first key block and the last the accumulators go on from what they held. dq and dcq are not stored. -/
theorem run_mid (c : Dev nD) (i : grid0.Coords)
  (arg2 : Memref sig .tc .vmem S4096x128 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S4096x128 .f32) (harg5 : arg5.IsWhole)
  (arg6 : Memref sig .tc .vmem S512x128 .f32) (harg6 : arg6.IsWhole)
  (arg7 : Memref sig .tc .vmem S1x8x2x512 .f32) (harg7 : arg7.IsWhole)
  (arg8 : Memref sig .tc .vmem S1x8x2x512 .f32) (harg8 : arg8.IsWhole)
  (arg9 : Memref sig .tc .vmem S1x8x2x512 .f32) (harg9 : arg9.IsWhole)
  (arg10 : Memref sig .tc .vmem S4096x128 .bf16) (harg10 : arg10.IsWhole)
  (arg11 : Memref sig .tc .vmem S512x128 .bf16) (harg11 : arg11.IsWhole)
  (arg12 : Memref sig .tc .vmem S512x128 .bf16) (harg12 : arg12.IsWhole)
  (arg13 : Memref sig .tc .vmem S1x8x2x512 .f32) (harg13 : arg13.IsWhole)
  (arg14 : Memref sig .tc .vmem S512x128 .f32) (harg14 : arg14.IsWhole)
  (arg15 : Memref sig .tc .vmem S4096x128 .f32) (harg15 : arg15.IsWhole)
  (arg16 : Memref sig .tc .vmem S8x2x512 .f32) (harg16 : arg16.IsWhole)
    (hc0 : ¬ first i) (hc1 : ¬ last i) (X : Ins F) (s : Vec F S4096x128 .f32) (r : Vec F S8x2x512 .f32)
    (y8 : Vec F S4096x128 .bf16) (y11 : Vec F S1x8x2x512 .f32) (E : Set ℕ) (K : PUnit → sProp 𝕄) :
    iprop(owns (c : Thread nD τ) arg2 fullShare X.q ∗ owns (c : Thread nD τ) arg3 fullShare X.k ∗ owns (c : Thread nD τ) arg4 fullShare X.v ∗ owns (c : Thread nD τ) arg5 fullShare X.g ∗ owns (c : Thread nD τ) arg6 fullShare X.c ∗ owns (c : Thread nD τ) arg7 fullShare X.ct ∗ owns (c : Thread nD τ) arg8 fullShare X.lse ∗ owns (c : Thread nD τ) arg9 fullShare X.dd ∗ owns (c : Thread nD τ) arg10 fullShare y8 ∗ (∃ d, owns (c : Thread nD τ) arg11 fullShare d) ∗ (∃ d, owns (c : Thread nD τ) arg12 fullShare d) ∗ owns (c : Thread nD τ) arg13 fullShare y11 ∗ (∃ d, owns (c : Thread nD τ) arg14 fullShare d) ∗ owns (c : Thread nD τ) arg15 fullShare s ∗ owns (c : Thread nD τ) arg16 fullShare r
      ∗ (iprop(owns (c : Thread nD τ) arg2 fullShare X.q ∗ owns (c : Thread nD τ) arg3 fullShare X.k ∗ owns (c : Thread nD τ) arg4 fullShare X.v ∗ owns (c : Thread nD τ) arg5 fullShare X.g ∗ owns (c : Thread nD τ) arg6 fullShare X.c ∗ owns (c : Thread nD τ) arg7 fullShare X.ct ∗ owns (c : Thread nD τ) arg8 fullShare X.lse ∗ owns (c : Thread nD τ) arg9 fullShare X.dd ∗ owns (c : Thread nD τ) arg10 fullShare y8 ∗ owns (c : Thread nD τ) arg11 fullShare (outDk (endSt i X s r)) ∗ owns (c : Thread nD τ) arg12 fullShare (outDv (endSt i X s r)) ∗ owns (c : Thread nD τ) arg13 fullShare y11 ∗ owns (c : Thread nD τ) arg14 fullShare (outDck (endSt i X s r)) ∗ owns (c : Thread nD τ) arg15 fullShare (endSt i X s r).dq ∗ owns (c : Thread nD τ) arg16 fullShare (endSt i X s r).dcq) -∗ K ⟨⟩))
    ⊢ wp frame (wpE (defs₀ (F := F)) Variants.none c none) E (cc0_fox_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_attn_bwd_eq_skeleton]; unfold cc0_fox_attn_bwd_skel
  simp only [k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, ⟨%fs0, %hfs0, HS0⟩, ⟨%fs1, %hfs1, HS1⟩, Hk⟩
  sl_exec (disch := first | sl_exact hc0 | sl_exact hc1)
  sl_step
  obtain rfl := insOf_eq hf0 hf1 hf2 hf3 hf4 hf5 hf6 hf7
  obtain rfl := hfs0
  obtain rfl := hfs1
  have hE : endSt i (insOf f0 f1 f2 f3 f4 f5 f6 f7) (arg15.view.read (Elt F) fs0) (arg16.view.read (Elt F) fs1) = loopSt i (insOf f0 f1 f2 f3 f4 f5 f6 f7) (diagSt i (insOf f0 f1 f2 f3 f4 f5 f6 f7) (arg15.view.read (Elt F) fs0) (arg16.view.read (Elt F) fs1)) (Scf.trips (k0_t1_loop i).lb (k0_t1_loop i).ub (k0_t1_loop i).st) := rfl
  rw [hE]
  iapply Hk
  have e13 : (run_mid.sl.r c arg3 f1) = kh0 (insOf f0 f1 f2 f3 f4 f5 f6 f7) := rfl
  have e18 : (run_mid.sl.r_1 c arg3 f1) = kh1 (insOf f0 f1 f2 f3 f4 f5 f6 f7) := rfl
  have e20 : (run_mid.sl.r_2 c arg4 f2) = vb (insOf f0 f1 f2 f3 f4 f5 f6 f7) := rfl
  have e31 : (run_mid.sl.r_4 c i arg6 f4) = ck0 i (insOf f0 f1 f2 f3 f4 f5 f6 f7) := rfl
  have e40 : (run_mid.sl.r_5 c i arg6 f4) = ck1 i (insOf f0 f1 f2 f3 f4 f5 f6 f7) := rfl
  have d0 : (run_mid.sl.r_12 c i arg2 arg3 arg4 arg5 arg6 arg7 arg8 arg9 f0 f1 f2 f3 f4 f5 f6 f7) = ds0 i (insOf f0 f1 f2 f3 f4 f5 f6 f7) (diagBlk i (insOf f0 f1 f2 f3 f4 f5 f6 f7)) := rfl
  have d1 : (run_mid.sl.r_13 c i arg2 arg3 arg4 arg5 arg6 arg7 arg8 arg9 f0 f1 f2 f3 f4 f5 f6 f7) = ds1 i (insOf f0 f1 f2 f3 f4 f5 f6 f7) (diagBlk i (insOf f0 f1 f2 f3 f4 f5 f6 f7)) := rfl
  have ea : (((run_mid.sl.r_17 c i arg2 arg3 arg4 arg5 arg6 arg7 arg8 arg9 f0 f1 f2 f3 f4 f5 f6 f7), (run_mid.sl.r_16 c i arg2 arg3 arg5 arg6 arg7 arg8 f0 f1 f3 f4 f5 f6), k0_pay67 (k0_pay46 (F := F)) (run_mid.sl.r_12 c i arg2 arg3 arg4 arg5 arg6 arg7 arg8 arg9 f0 f1 f2 f3 f4 f5 f6 f7), k0_pay68 (k0_pay46 (F := F)) (run_mid.sl.r_13 c i arg2 arg3 arg4 arg5 arg6 arg7 arg8 arg9 f0 f1 f2 f3 f4 f5 f6 f7)) : Carry F)
      = (diagSt i (insOf f0 f1 f2 f3 f4 f5 f6 f7) (arg15.view.read (Elt F) fs0) (arg16.view.read (Elt F) fs1)).acc := rfl
  have h15 : arg15.view.read (Elt F) (arg15.view.writes (Elt F) fs0 ([⟨Rect.unit (s := S4096x128) (k0_off1 i) S512x128.size (k0_off1_inb i),
      k0_pay64 (run_mid.sl.r c arg3 f1) (run_mid.sl.r_1 c arg3 f1) (run_mid.sl.r_12 c i arg2 arg3 arg4 arg5 arg6 arg7 arg8 arg9 f0 f1 f2 f3 f4 f5 f6 f7) (run_mid.sl.r_13 c i arg2 arg3 arg4 arg5 arg6 arg7 arg8 arg9 f0 f1 f2 f3 f4 f5 f6 f7) (View.readAt (Elt F) arg15.view (Rect.unit (s := S4096x128) (k0_off1 i) S512x128.size (k0_off1_inb i)).toLoadRect fs0)⟩])) = (diagSt i (insOf f0 f1 f2 f3 f4 f5 f6 f7) (arg15.view.read (Elt F) fs0) (arg16.view.read (Elt F) fs1)).dq := by
    rw [e13, e18, d0, d1]
    exact diag_dq i (insOf f0 f1 f2 f3 f4 f5 f6 f7) arg15.view fs0 [] (arg15.view.read (Elt F) fs0) (arg16.view.read (Elt F) fs1) rfl
  have h16 : arg16.view.read (Elt F) (arg16.view.writes (Elt F) fs1 [⟨Rect.unit (s := S8x2x512) (k0_off5 i) S1x1x512.size (k0_off5_inb i), (run_mid.sl.r_18 c i arg2 arg3 arg4 arg5 arg6 arg7 arg8 arg9 arg16 f0 f1 f2 f3 f4 f5 f6 f7 fs1)⟩,
      ⟨Rect.unit (s := S8x2x512) (k0_off4 i) S1x1x512.size (k0_off4_inb i), k0_pay65 (run_mid.sl.r_12 c i arg2 arg3 arg4 arg5 arg6 arg7 arg8 arg9 f0 f1 f2 f3 f4 f5 f6 f7) (View.readAt (Elt F) arg16.view (Rect.unit (s := S8x2x512) (k0_off4 i) S1x1x512.size (k0_off4_inb i)).toLoadRect fs1)⟩]) = (diagSt i (insOf f0 f1 f2 f3 f4 f5 f6 f7) (arg15.view.read (Elt F) fs0) (arg16.view.read (Elt F) fs1)).dcq := by
    rw [d0]
    exact diag_dcq i (insOf f0 f1 f2 f3 f4 f5 f6 f7) arg16.view fs1 [] (arg15.view.read (Elt F) fs0) (arg16.view.read (Elt F) fs1) rfl
  isplitl [H0]
  · iexists f0; isplitr
    · ipureintro; exact rfl
    · iexact H0
  isplitl [H1]
  · iexists f1; isplitr
    · ipureintro; exact (View.readAt_full _ _ _).symm
    · iexact H1
  isplitl [H2]
  · iexists f2; isplitr
    · ipureintro; exact (View.readAt_full _ _ _).symm
    · iexact H2
  isplitl [H3]
  · iexists f3; isplitr
    · ipureintro; exact rfl
    · iexact H3
  isplitl [H4]
  · iexists f4; isplitr
    · ipureintro; exact (View.readAt_full _ _ _).symm
    · iexact H4
  isplitl [H5]
  · iexists f5; isplitr
    · ipureintro; exact rfl
    · iexact H5
  isplitl [H6]
  · iexists f6; isplitr
    · ipureintro; exact rfl
    · iexact H6
  isplitl [H7]
  · iexists f7; isplitr
    · ipureintro; exact rfl
    · iexact H7
  isplitl [H8]
  · iexists f8; isplitr
    · ipureintro; exact hf8
    · iexact H8
  isplitl [H9]
  · iexists _; isplitr; swap
    · iexact H9
    · ipureintro
      exact (View.read_writes_full _ _ _ _ _).trans (congrArg (fun a : Carry F => k0_pay79 a.1) (fin_acc i (insOf f0 f1 f2 f3 f4 f5 f6 f7) (diagSt i (insOf f0 f1 f2 f3 f4 f5 f6 f7) (arg15.view.read (Elt F) fs0) (arg16.view.read (Elt F) fs1)) _ rfl rfl e13 e18 e20 e31 e40 ea rfl rfl rfl rfl rfl h15 h16))
  isplitl [H10]
  · iexists _; isplitr; swap
    · iexact H10
    · ipureintro
      exact (View.read_writes_full _ _ _ _ _).trans (congrArg (fun a : Carry F => k0_pay80 a.2.1) (fin_acc i (insOf f0 f1 f2 f3 f4 f5 f6 f7) (diagSt i (insOf f0 f1 f2 f3 f4 f5 f6 f7) (arg15.view.read (Elt F) fs0) (arg16.view.read (Elt F) fs1)) _ rfl rfl e13 e18 e20 e31 e40 ea rfl rfl rfl rfl rfl h15 h16))
  isplitl [H11]
  · iexists f11; isplitr
    · ipureintro; exact hf11
    · iexact H11
  isplitl [H12]
  · iexists _; isplitr; swap
    · iexact H12
    · ipureintro
      exact (View.read_writes_full _ _ _ _ _).trans (congrArg (fun a : Carry F => k0_pay81 (iota .tc S1x128 32 [1] iota_S1x128_d1_w32) a.2.2.1 a.2.2.2) (fin_acc i (insOf f0 f1 f2 f3 f4 f5 f6 f7) (diagSt i (insOf f0 f1 f2 f3 f4 f5 f6 f7) (arg15.view.read (Elt F) fs0) (arg16.view.read (Elt F) fs1)) _ rfl rfl e13 e18 e20 e31 e40 ea rfl rfl rfl rfl rfl h15 h16))
  isplitl [HS0]
  · iexists _; isplitr; swap
    · iexact HS0
    · ipureintro
      exact fin_dq i (insOf f0 f1 f2 f3 f4 f5 f6 f7) (diagSt i (insOf f0 f1 f2 f3 f4 f5 f6 f7) (arg15.view.read (Elt F) fs0) (arg16.view.read (Elt F) fs1)) _ rfl rfl e13 e18 e20 e31 e40 ea rfl rfl rfl rfl rfl h15 h16
  iexists _; isplitr; swap
  · iexact HS1
  · ipureintro
    exact fin_dcq i (insOf f0 f1 f2 f3 f4 f5 f6 f7) (diagSt i (insOf f0 f1 f2 f3 f4 f5 f6 f7) (arg15.view.read (Elt F) fs0) (arg16.view.read (Elt F) fs1)) _ rfl rfl e13 e18 e20 e31 e40 ea rfl rfl rfl rfl rfl h15 h16

end Cert.KernelIdeal.FoxBwd
-- ==== Proof.RunLast.lean ====
/-
  The body of the backward attention at a point of the last key block.
-/
module

public import proofs.«01_k».proof.Proof.RunDefs

@[expose] public section

set_option maxRecDepth 16384

noncomputable section

namespace Cert.KernelIdeal.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- At a point of the last key block the accumulators go on from what they held, and dq and dcq are stored. -/
theorem run_last (c : Dev nD) (i : grid0.Coords)
  (arg2 : Memref sig .tc .vmem S4096x128 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S4096x128 .f32) (harg5 : arg5.IsWhole)
  (arg6 : Memref sig .tc .vmem S512x128 .f32) (harg6 : arg6.IsWhole)
  (arg7 : Memref sig .tc .vmem S1x8x2x512 .f32) (harg7 : arg7.IsWhole)
  (arg8 : Memref sig .tc .vmem S1x8x2x512 .f32) (harg8 : arg8.IsWhole)
  (arg9 : Memref sig .tc .vmem S1x8x2x512 .f32) (harg9 : arg9.IsWhole)
  (arg10 : Memref sig .tc .vmem S4096x128 .bf16) (harg10 : arg10.IsWhole)
  (arg11 : Memref sig .tc .vmem S512x128 .bf16) (harg11 : arg11.IsWhole)
  (arg12 : Memref sig .tc .vmem S512x128 .bf16) (harg12 : arg12.IsWhole)
  (arg13 : Memref sig .tc .vmem S1x8x2x512 .f32) (harg13 : arg13.IsWhole)
  (arg14 : Memref sig .tc .vmem S512x128 .f32) (harg14 : arg14.IsWhole)
  (arg15 : Memref sig .tc .vmem S4096x128 .f32) (harg15 : arg15.IsWhole)
  (arg16 : Memref sig .tc .vmem S8x2x512 .f32) (harg16 : arg16.IsWhole)
    (hc0 : ¬ first i) (hc1 : last i) (X : Ins F) (s : Vec F S4096x128 .f32) (r : Vec F S8x2x512 .f32)
    (E : Set ℕ) (K : PUnit → sProp 𝕄) :
    iprop(owns (c : Thread nD τ) arg2 fullShare X.q ∗ owns (c : Thread nD τ) arg3 fullShare X.k ∗ owns (c : Thread nD τ) arg4 fullShare X.v ∗ owns (c : Thread nD τ) arg5 fullShare X.g ∗ owns (c : Thread nD τ) arg6 fullShare X.c ∗ owns (c : Thread nD τ) arg7 fullShare X.ct ∗ owns (c : Thread nD τ) arg8 fullShare X.lse ∗ owns (c : Thread nD τ) arg9 fullShare X.dd ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare s ∗ owns (c : Thread nD τ) arg16 fullShare r
      ∗ (iprop(owns (c : Thread nD τ) arg2 fullShare X.q ∗ owns (c : Thread nD τ) arg3 fullShare X.k ∗ owns (c : Thread nD τ) arg4 fullShare X.v ∗ owns (c : Thread nD τ) arg5 fullShare X.g ∗ owns (c : Thread nD τ) arg6 fullShare X.c ∗ owns (c : Thread nD τ) arg7 fullShare X.ct ∗ owns (c : Thread nD τ) arg8 fullShare X.lse ∗ owns (c : Thread nD τ) arg9 fullShare X.dd ∗ owns (c : Thread nD τ) arg10 fullShare (outDq (endSt i X s r)) ∗ owns (c : Thread nD τ) arg11 fullShare (outDk (endSt i X s r)) ∗ owns (c : Thread nD τ) arg12 fullShare (outDv (endSt i X s r)) ∗ owns (c : Thread nD τ) arg13 fullShare (outDcq (endSt i X s r)) ∗ owns (c : Thread nD τ) arg14 fullShare (outDck (endSt i X s r)) ∗ owns (c : Thread nD τ) arg15 fullShare (endSt i X s r).dq ∗ owns (c : Thread nD τ) arg16 fullShare (endSt i X s r).dcq) -∗ K ⟨⟩))
    ⊢ wp frame (wpE (defs₀ (F := F)) Variants.none c none) E (cc0_fox_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_attn_bwd_eq_skeleton]; unfold cc0_fox_attn_bwd_skel
  simp only [k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, ⟨%fs1, %hfs1, HS1⟩, Hk⟩
  sl_exec (disch := first | sl_exact hc0 | sl_exact hc1)
  sl_step
  obtain rfl := insOf_eq hf0 hf1 hf2 hf3 hf4 hf5 hf6 hf7
  obtain rfl := hfs0
  obtain rfl := hfs1
  have hE : endSt i (insOf f0 f1 f2 f3 f4 f5 f6 f7) (arg15.view.read (Elt F) fs0) (arg16.view.read (Elt F) fs1) = loopSt i (insOf f0 f1 f2 f3 f4 f5 f6 f7) (diagSt i (insOf f0 f1 f2 f3 f4 f5 f6 f7) (arg15.view.read (Elt F) fs0) (arg16.view.read (Elt F) fs1)) (Scf.trips (k0_t1_loop i).lb (k0_t1_loop i).ub (k0_t1_loop i).st) := rfl
  rw [hE]
  iapply Hk
  have e13 : (run_last.sl.r c arg3 f1) = kh0 (insOf f0 f1 f2 f3 f4 f5 f6 f7) := rfl
  have e18 : (run_last.sl.r_1 c arg3 f1) = kh1 (insOf f0 f1 f2 f3 f4 f5 f6 f7) := rfl
  have e20 : (run_last.sl.r_2 c arg4 f2) = vb (insOf f0 f1 f2 f3 f4 f5 f6 f7) := rfl
  have e31 : (run_last.sl.r_4 c i arg6 f4) = ck0 i (insOf f0 f1 f2 f3 f4 f5 f6 f7) := rfl
  have e40 : (run_last.sl.r_5 c i arg6 f4) = ck1 i (insOf f0 f1 f2 f3 f4 f5 f6 f7) := rfl
  have d0 : (run_last.sl.r_12 c i arg2 arg3 arg4 arg5 arg6 arg7 arg8 arg9 f0 f1 f2 f3 f4 f5 f6 f7) = ds0 i (insOf f0 f1 f2 f3 f4 f5 f6 f7) (diagBlk i (insOf f0 f1 f2 f3 f4 f5 f6 f7)) := rfl
  have d1 : (run_last.sl.r_13 c i arg2 arg3 arg4 arg5 arg6 arg7 arg8 arg9 f0 f1 f2 f3 f4 f5 f6 f7) = ds1 i (insOf f0 f1 f2 f3 f4 f5 f6 f7) (diagBlk i (insOf f0 f1 f2 f3 f4 f5 f6 f7)) := rfl
  have ea : (((run_last.sl.r_17 c i arg2 arg3 arg4 arg5 arg6 arg7 arg8 arg9 f0 f1 f2 f3 f4 f5 f6 f7), (run_last.sl.r_16 c i arg2 arg3 arg5 arg6 arg7 arg8 f0 f1 f3 f4 f5 f6), k0_pay67 (k0_pay46 (F := F)) (run_last.sl.r_12 c i arg2 arg3 arg4 arg5 arg6 arg7 arg8 arg9 f0 f1 f2 f3 f4 f5 f6 f7), k0_pay68 (k0_pay46 (F := F)) (run_last.sl.r_13 c i arg2 arg3 arg4 arg5 arg6 arg7 arg8 arg9 f0 f1 f2 f3 f4 f5 f6 f7)) : Carry F)
      = (diagSt i (insOf f0 f1 f2 f3 f4 f5 f6 f7) (arg15.view.read (Elt F) fs0) (arg16.view.read (Elt F) fs1)).acc := rfl
  have h15 : arg15.view.read (Elt F) (arg15.view.writes (Elt F) fs0 ([⟨Rect.unit (s := S4096x128) (k0_off1 i) S512x128.size (k0_off1_inb i),
      k0_pay64 (run_last.sl.r c arg3 f1) (run_last.sl.r_1 c arg3 f1) (run_last.sl.r_12 c i arg2 arg3 arg4 arg5 arg6 arg7 arg8 arg9 f0 f1 f2 f3 f4 f5 f6 f7) (run_last.sl.r_13 c i arg2 arg3 arg4 arg5 arg6 arg7 arg8 arg9 f0 f1 f2 f3 f4 f5 f6 f7) (View.readAt (Elt F) arg15.view (Rect.unit (s := S4096x128) (k0_off1 i) S512x128.size (k0_off1_inb i)).toLoadRect fs0)⟩])) = (diagSt i (insOf f0 f1 f2 f3 f4 f5 f6 f7) (arg15.view.read (Elt F) fs0) (arg16.view.read (Elt F) fs1)).dq := by
    rw [e13, e18, d0, d1]
    exact diag_dq i (insOf f0 f1 f2 f3 f4 f5 f6 f7) arg15.view fs0 [] (arg15.view.read (Elt F) fs0) (arg16.view.read (Elt F) fs1) rfl
  have h16 : arg16.view.read (Elt F) (arg16.view.writes (Elt F) fs1 [⟨Rect.unit (s := S8x2x512) (k0_off5 i) S1x1x512.size (k0_off5_inb i), (run_last.sl.r_18 c i arg2 arg3 arg4 arg5 arg6 arg7 arg8 arg9 arg16 f0 f1 f2 f3 f4 f5 f6 f7 fs1)⟩,
      ⟨Rect.unit (s := S8x2x512) (k0_off4 i) S1x1x512.size (k0_off4_inb i), k0_pay65 (run_last.sl.r_12 c i arg2 arg3 arg4 arg5 arg6 arg7 arg8 arg9 f0 f1 f2 f3 f4 f5 f6 f7) (View.readAt (Elt F) arg16.view (Rect.unit (s := S8x2x512) (k0_off4 i) S1x1x512.size (k0_off4_inb i)).toLoadRect fs1)⟩]) = (diagSt i (insOf f0 f1 f2 f3 f4 f5 f6 f7) (arg15.view.read (Elt F) fs0) (arg16.view.read (Elt F) fs1)).dcq := by
    rw [d0]
    exact diag_dcq i (insOf f0 f1 f2 f3 f4 f5 f6 f7) arg16.view fs1 [] (arg15.view.read (Elt F) fs0) (arg16.view.read (Elt F) fs1) rfl
  isplitl [H0]
  · iexists f0; isplitr
    · ipureintro; exact rfl
    · iexact H0
  isplitl [H1]
  · iexists f1; isplitr
    · ipureintro; exact (View.readAt_full _ _ _).symm
    · iexact H1
  isplitl [H2]
  · iexists f2; isplitr
    · ipureintro; exact (View.readAt_full _ _ _).symm
    · iexact H2
  isplitl [H3]
  · iexists f3; isplitr
    · ipureintro; exact rfl
    · iexact H3
  isplitl [H4]
  · iexists f4; isplitr
    · ipureintro; exact (View.readAt_full _ _ _).symm
    · iexact H4
  isplitl [H5]
  · iexists f5; isplitr
    · ipureintro; exact rfl
    · iexact H5
  isplitl [H6]
  · iexists f6; isplitr
    · ipureintro; exact rfl
    · iexact H6
  isplitl [H7]
  · iexists f7; isplitr
    · ipureintro; exact rfl
    · iexact H7
  isplitl [H8]
  · iexists _; isplitr; swap
    · iexact H8
    · ipureintro
      exact (View.read_writes_full _ _ _ _ _).trans (congrArg k0_pay82 ((View.readAt_full _ _ _).trans (fin_dq i (insOf f0 f1 f2 f3 f4 f5 f6 f7) (diagSt i (insOf f0 f1 f2 f3 f4 f5 f6 f7) (arg15.view.read (Elt F) fs0) (arg16.view.read (Elt F) fs1)) _ rfl rfl e13 e18 e20 e31 e40 ea rfl rfl rfl rfl rfl h15 h16)))
  isplitl [H9]
  · iexists _; isplitr; swap
    · iexact H9
    · ipureintro
      exact (View.read_writes_full _ _ _ _ _).trans (congrArg (fun a : Carry F => k0_pay79 a.1) (fin_acc i (insOf f0 f1 f2 f3 f4 f5 f6 f7) (diagSt i (insOf f0 f1 f2 f3 f4 f5 f6 f7) (arg15.view.read (Elt F) fs0) (arg16.view.read (Elt F) fs1)) _ rfl rfl e13 e18 e20 e31 e40 ea rfl rfl rfl rfl rfl h15 h16))
  isplitl [H10]
  · iexists _; isplitr; swap
    · iexact H10
    · ipureintro
      exact (View.read_writes_full _ _ _ _ _).trans (congrArg (fun a : Carry F => k0_pay80 a.2.1) (fin_acc i (insOf f0 f1 f2 f3 f4 f5 f6 f7) (diagSt i (insOf f0 f1 f2 f3 f4 f5 f6 f7) (arg15.view.read (Elt F) fs0) (arg16.view.read (Elt F) fs1)) _ rfl rfl e13 e18 e20 e31 e40 ea rfl rfl rfl rfl rfl h15 h16))
  isplitl [H11]
  · iexists _; isplitr; swap
    · iexact H11
    · ipureintro
      exact (View.read_writes_full _ _ _ _ _).trans (congrArg k0_pay83 ((View.readAt_full _ _ _).trans (fin_dcq i (insOf f0 f1 f2 f3 f4 f5 f6 f7) (diagSt i (insOf f0 f1 f2 f3 f4 f5 f6 f7) (arg15.view.read (Elt F) fs0) (arg16.view.read (Elt F) fs1)) _ rfl rfl e13 e18 e20 e31 e40 ea rfl rfl rfl rfl rfl h15 h16)))
  isplitl [H12]
  · iexists _; isplitr; swap
    · iexact H12
    · ipureintro
      exact (View.read_writes_full _ _ _ _ _).trans (congrArg (fun a : Carry F => k0_pay81 (iota .tc S1x128 32 [1] iota_S1x128_d1_w32) a.2.2.1 a.2.2.2) (fin_acc i (insOf f0 f1 f2 f3 f4 f5 f6 f7) (diagSt i (insOf f0 f1 f2 f3 f4 f5 f6 f7) (arg15.view.read (Elt F) fs0) (arg16.view.read (Elt F) fs1)) _ rfl rfl e13 e18 e20 e31 e40 ea rfl rfl rfl rfl rfl h15 h16))
  isplitl [HS0]
  · iexists _; isplitr; swap
    · iexact HS0
    · ipureintro
      exact fin_dq i (insOf f0 f1 f2 f3 f4 f5 f6 f7) (diagSt i (insOf f0 f1 f2 f3 f4 f5 f6 f7) (arg15.view.read (Elt F) fs0) (arg16.view.read (Elt F) fs1)) _ rfl rfl e13 e18 e20 e31 e40 ea rfl rfl rfl rfl rfl h15 h16
  iexists _; isplitr; swap
  · iexact HS1
  · ipureintro
    exact fin_dcq i (insOf f0 f1 f2 f3 f4 f5 f6 f7) (diagSt i (insOf f0 f1 f2 f3 f4 f5 f6 f7) (arg15.view.read (Elt F) fs0) (arg16.view.read (Elt F) fs1)) _ rfl rfl e13 e18 e20 e31 e40 ea rfl rfl rfl rfl rfl h15 h16

end Cert.KernelIdeal.FoxBwd
-- ==== Proof.Launch.lean ====
/-
  The launch of the backward attention: what the accumulators hold after each point, the pipeline's data, the frame.
-/
module

public import Idealize.ShloMosaic.Lib.Claim
public import proofs.«01_k».proof.Proof.State
public import proofs.«01_k».proof.Proof.RunFirst
public import proofs.«01_k».proof.Proof.RunMid
public import proofs.«01_k».proof.Proof.RunLast

@[expose] public section

set_option maxRecDepth 16384

noncomputable section

namespace Cert.KernelIdeal.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Away from the last key block dq and dcq are neither stored nor written back; there they are stored. -/
theorem idle8 : ∀ t : Fin cfg0.N, ¬ t.val % 8 = 7 → cfg0.idle 8 (grid0.coords t) = true := by decide +kernel
theorem idle11 : ∀ t : Fin cfg0.N, ¬ t.val % 8 = 7 → cfg0.idle 11 (grid0.coords t) = true := by decide +kernel
theorem keep8 : ∀ t : Fin cfg0.N, ¬ t.val % 8 = 7 → (cfg0.win 8).flush t = false := by decide +kernel
theorem keep11 : ∀ t : Fin cfg0.N, ¬ t.val % 8 = 7 → (cfg0.win 11).flush t = false := by decide +kernel
theorem live8 : ∀ t : Fin cfg0.N, t.val % 8 = 7 → cfg0.idle 8 (grid0.coords t) = false := by decide +kernel
theorem live11 : ∀ t : Fin cfg0.N, t.val % 8 = 7 → cfg0.idle 11 (grid0.coords t) = false := by decide +kernel

/-- The accumulators as buffers. -/
abbrev accDq : Memref sig .tc .vmem S4096x128 .f32 := Memref.whole cc0_scratch0
abbrev accDcq : Memref sig .tc .vmem S8x2x512 .f32 := Memref.whole cc0_scratch1

theorem scratch_eq (c : Dev nD) :
    (Pipeline.ΦA spec0 c : sProp 𝕄)
      = iprop(iprop((∃ d, owns (c : Thread nD τ) accDq fullShare d) ∗ (∃ d, owns (c : Thread nD τ) accDcq fullShare d)) ∗ (∃ r, prngReg c r)) := by
  unfold Pipeline.ΦA
  rw [scopedRest0_eq]
  simp only [accDq, accDcq, owns_whole]
  try rfl

/-- What the accumulators hold between points: anything before the first, then what the point before left. -/
def between (c : Dev nD) : (n : ℕ) → n ≤ cfg0.N → sProp 𝕄
  | 0, _ => Pipeline.ΦA spec0 c
  | n + 1, h => iprop(iprop(owns (c : Thread nD τ) accDq fullShare (stAt m c n h).dq ∗ owns (c : Thread nD τ) accDcq fullShare (stAt m c n h).dcq) ∗ (∃ r, prngReg c r))

theorem between_zero (c : Dev nD) (n : ℕ) (h : n ≤ cfg0.N) (hz : n = 0) : between m c n h = Pipeline.ΦA spec0 c := by
  subst hz
  rfl

theorem between_pos (c : Dev nD) (n : ℕ) (h : n ≤ cfg0.N) (hz : n ≠ 0) :
    between m c n h = iprop(iprop(owns (c : Thread nD τ) accDq fullShare (stAt m c (n - 1) (by omega)).dq
      ∗ owns (c : Thread nD τ) accDcq fullShare (stAt m c (n - 1) (by omega)).dcq) ∗ (∃ r, prngReg c r)) := by
  cases n with
  | zero => exact absurd rfl hz
  | succ n => rfl

/-- Whatever they hold, they hold something. -/
theorem between_some (c : Dev nD) (n : ℕ) (h : n ≤ cfg0.N) :
    between m c n h ⊢ iprop(iprop((∃ d, owns (c : Thread nD τ) accDq fullShare d) ∗ (∃ d, owns (c : Thread nD τ) accDcq fullShare d)) ∗ (∃ r, prngReg c r)) := by
  by_cases hz : n = 0
  · rw [between_zero m c n h hz, scratch_eq]
  · rw [between_pos m c n h hz]
    iintro ⟨⟨H0, H1⟩, Hg⟩
    isplitl [H0 H1]
    · isplitl [H0]
      · iexists _; iexact H0
      iexists _; iexact H1
    iexact Hg

/-! ## The pipeline's data -/

/-- What each window's buffer holds after the body at a point: an input's its block, an output's what the point's state says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outDq (stAt m c t.val t.isLt)
    | ⟨9, _⟩ => outDk (stAt m c t.val t.isLt)
    | ⟨10, _⟩ => outDv (stAt m c t.val t.isLt)
    | ⟨11, _⟩ => outDcq (stAt m c t.val t.isLt)
    | ⟨12, _⟩ => outDck (stAt m c t.val t.isLt)
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outDq (stAt m c t.val t.isLt) := by dsimp only [dats]
theorem after_9 (c : Dev nD) (t : Fin cfg0.N) : (dats m 0 c).after 9 t = outDk (stAt m c t.val t.isLt) := by dsimp only [dats]
theorem after_10 (c : Dev nD) (t : Fin cfg0.N) : (dats m 0 c).after 10 t = outDv (stAt m c t.val t.isLt) := by dsimp only [dats]
theorem after_11 (c : Dev nD) (t : Fin cfg0.N) : (dats m 0 c).after 11 t = outDcq (stAt m c t.val t.isLt) := by dsimp only [dats]
theorem after_12 (c : Dev nD) (t : Fin cfg0.N) : (dats m 0 c).after 12 t = outDck (stAt m c t.val t.isLt) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Each window's buffer at a point. -/
abbrev buf0 (t : Fin cfg0.N) : Memref sig .tc .vmem S4096x128 .f32 := win0_0.stage (cfg0.slots t 0)
abbrev buf1 (t : Fin cfg0.N) : Memref sig .tc .vmem S512x128 .f32 := win0_1.stage (cfg0.slots t 1)
abbrev buf2 (t : Fin cfg0.N) : Memref sig .tc .vmem S512x128 .f32 := win0_2.stage (cfg0.slots t 2)
abbrev buf3 (t : Fin cfg0.N) : Memref sig .tc .vmem S4096x128 .f32 := win0_3.stage (cfg0.slots t 3)
abbrev buf4 (t : Fin cfg0.N) : Memref sig .tc .vmem S512x128 .f32 := win0_4.stage (cfg0.slots t 4)
abbrev buf5 (t : Fin cfg0.N) : Memref sig .tc .vmem S1x8x2x512 .f32 := win0_5.stage (cfg0.slots t 5)
abbrev buf6 (t : Fin cfg0.N) : Memref sig .tc .vmem S1x8x2x512 .f32 := win0_6.stage (cfg0.slots t 6)
abbrev buf7 (t : Fin cfg0.N) : Memref sig .tc .vmem S1x8x2x512 .f32 := win0_7.stage (cfg0.slots t 7)
abbrev buf8 (t : Fin cfg0.N) : Memref sig .tc .vmem S4096x128 .bf16 := win0_8.stage (cfg0.slots t 8)
abbrev buf9 (t : Fin cfg0.N) : Memref sig .tc .vmem S512x128 .bf16 := win0_9.stage (cfg0.slots t 9)
abbrev buf10 (t : Fin cfg0.N) : Memref sig .tc .vmem S512x128 .bf16 := win0_10.stage (cfg0.slots t 10)
abbrev buf11 (t : Fin cfg0.N) : Memref sig .tc .vmem S1x8x2x512 .f32 := win0_11.stage (cfg0.slots t 11)
abbrev buf12 (t : Fin cfg0.N) : Memref sig .tc .vmem S512x128 .f32 := win0_12.stage (cfg0.slots t 12)

/-! ## The body at a point -/

/-- What the body is called with, and what it leaves. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
/-- The body at a point of the first key block. -/
theorem body_first (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = iprop(iprop(owns (c : Thread nD τ) accDq fullShare (stAt m c t.val t.isLt).dq
    ∗ owns (c : Thread nD τ) accDcq fullShare (stAt m c t.val t.isLt).dcq) ∗ (∃ r, prngReg c r)) from rfl]
  rw [show (dats m 0 c).Φ t.castSucc = between m c t.val (Nat.le_of_lt t.isLt) from Pipeline.Dat.Φ_castSucc (between m c) t]
  rw [show (dats m 0 c).leavesExact 0 t = owns (c : Thread nD τ) (buf0 t) fullShare ((dats m 0 c).after 0 t) from rfl, after_0]
  rw [show (dats m 0 c).leavesExact 1 t = owns (c : Thread nD τ) (buf1 t) fullShare ((dats m 0 c).after 1 t) from rfl, after_1]
  rw [show (dats m 0 c).leavesExact 2 t = owns (c : Thread nD τ) (buf2 t) fullShare ((dats m 0 c).after 2 t) from rfl, after_2]
  rw [show (dats m 0 c).leavesExact 3 t = owns (c : Thread nD τ) (buf3 t) fullShare ((dats m 0 c).after 3 t) from rfl, after_3]
  rw [show (dats m 0 c).leavesExact 4 t = owns (c : Thread nD τ) (buf4 t) fullShare ((dats m 0 c).after 4 t) from rfl, after_4]
  rw [show (dats m 0 c).leavesExact 5 t = owns (c : Thread nD τ) (buf5 t) fullShare ((dats m 0 c).after 5 t) from rfl, after_5]
  rw [show (dats m 0 c).leavesExact 6 t = owns (c : Thread nD τ) (buf6 t) fullShare ((dats m 0 c).after 6 t) from rfl, after_6]
  rw [show (dats m 0 c).leavesExact 7 t = owns (c : Thread nD τ) (buf7 t) fullShare ((dats m 0 c).after 7 t) from rfl, after_7]
  rw [show (dats m 0 c).leavesExact 9 t = owns (c : Thread nD τ) (buf9 t) fullShare ((dats m 0 c).after 9 t) from rfl, after_9]
  rw [show (dats m 0 c).leavesExact 10 t = owns (c : Thread nD τ) (buf10 t) fullShare ((dats m 0 c).after 10 t) from rfl, after_10]
  rw [show (dats m 0 c).leavesExact 12 t = owns (c : Thread nD τ) (buf12 t) fullShare ((dats m 0 c).after 12 t) from rfl, after_12]
  have h1 : ¬ t.val % 8 = 7 := by omega
  rw [Dat.leavesExact_idle (dats m 0 c) 8 t (idle8 t h1) (keep8 t h1), Dat.leavesExact_idle (dats m 0 c) 11 t (idle11 t h1) (keep11 t h1)]
  rw [stAt_first m c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HS := (between_some m c _ _) $$ HΦ
  icases HS with ⟨⟨HS0, HS1⟩, Hg⟩
  iapply (run_first c (grid0.coords t) _ _ _ _ _ _ _ _ _ _ _ _ _ _ _ _ _ _ _ _ _ _ _ _ _ _ _ _ _ _ ((first_iff t).mpr h0) (fun h => h1 ((last_iff t).mp h)) (insAt m c t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexists _; iexact H11
  iexact H12

set_option maxHeartbeats 4000000 in
/-- The body between the first key block and the last. -/
theorem body_mid (c : Dev nD) (t : Fin cfg0.N) (h0 : ¬ t.val % 8 = 0) (h1 : ¬ t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = iprop(iprop(owns (c : Thread nD τ) accDq fullShare (stAt m c t.val t.isLt).dq
    ∗ owns (c : Thread nD τ) accDcq fullShare (stAt m c t.val t.isLt).dcq) ∗ (∃ r, prngReg c r)) from rfl]
  rw [show (dats m 0 c).Φ t.castSucc = between m c t.val (Nat.le_of_lt t.isLt) from Pipeline.Dat.Φ_castSucc (between m c) t]
  rw [show (dats m 0 c).leavesExact 0 t = owns (c : Thread nD τ) (buf0 t) fullShare ((dats m 0 c).after 0 t) from rfl, after_0]
  rw [show (dats m 0 c).leavesExact 1 t = owns (c : Thread nD τ) (buf1 t) fullShare ((dats m 0 c).after 1 t) from rfl, after_1]
  rw [show (dats m 0 c).leavesExact 2 t = owns (c : Thread nD τ) (buf2 t) fullShare ((dats m 0 c).after 2 t) from rfl, after_2]
  rw [show (dats m 0 c).leavesExact 3 t = owns (c : Thread nD τ) (buf3 t) fullShare ((dats m 0 c).after 3 t) from rfl, after_3]
  rw [show (dats m 0 c).leavesExact 4 t = owns (c : Thread nD τ) (buf4 t) fullShare ((dats m 0 c).after 4 t) from rfl, after_4]
  rw [show (dats m 0 c).leavesExact 5 t = owns (c : Thread nD τ) (buf5 t) fullShare ((dats m 0 c).after 5 t) from rfl, after_5]
  rw [show (dats m 0 c).leavesExact 6 t = owns (c : Thread nD τ) (buf6 t) fullShare ((dats m 0 c).after 6 t) from rfl, after_6]
  rw [show (dats m 0 c).leavesExact 7 t = owns (c : Thread nD τ) (buf7 t) fullShare ((dats m 0 c).after 7 t) from rfl, after_7]
  rw [show (dats m 0 c).leavesExact 9 t = owns (c : Thread nD τ) (buf9 t) fullShare ((dats m 0 c).after 9 t) from rfl, after_9]
  rw [show (dats m 0 c).leavesExact 10 t = owns (c : Thread nD τ) (buf10 t) fullShare ((dats m 0 c).after 10 t) from rfl, after_10]
  rw [show (dats m 0 c).leavesExact 12 t = owns (c : Thread nD τ) (buf12 t) fullShare ((dats m 0 c).after 12 t) from rfl, after_12]
  rw [Dat.leavesExact_idle (dats m 0 c) 8 t (idle8 t h1) (keep8 t h1), Dat.leavesExact_idle (dats m 0 c) 11 t (idle11 t h1) (keep11 t h1)]
  rw [between_pos m c _ _ (fun hz => h0 (by rw [hz]))]
  rw [stAt_next m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_mid c (grid0.coords t) _ _ _ _ _ _ _ _ _ _ _ _ _ _ _ _ _ _ _ _ _ _ _ _ _ _ _ _ _ _ (fun h => h0 ((first_iff t).mp h)) (fun h => h1 ((last_iff t).mp h)) (insAt m c t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexists _; iexact H11
  iexact H12

set_option maxHeartbeats 4000000 in
/-- The body at a point of the last key block. -/
theorem body_last (c : Dev nD) (t : Fin cfg0.N) (h1 : t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = iprop(iprop(owns (c : Thread nD τ) accDq fullShare (stAt m c t.val t.isLt).dq
    ∗ owns (c : Thread nD τ) accDcq fullShare (stAt m c t.val t.isLt).dcq) ∗ (∃ r, prngReg c r)) from rfl]
  rw [show (dats m 0 c).Φ t.castSucc = between m c t.val (Nat.le_of_lt t.isLt) from Pipeline.Dat.Φ_castSucc (between m c) t]
  rw [show (dats m 0 c).leavesExact 0 t = owns (c : Thread nD τ) (buf0 t) fullShare ((dats m 0 c).after 0 t) from rfl, after_0]
  rw [show (dats m 0 c).leavesExact 1 t = owns (c : Thread nD τ) (buf1 t) fullShare ((dats m 0 c).after 1 t) from rfl, after_1]
  rw [show (dats m 0 c).leavesExact 2 t = owns (c : Thread nD τ) (buf2 t) fullShare ((dats m 0 c).after 2 t) from rfl, after_2]
  rw [show (dats m 0 c).leavesExact 3 t = owns (c : Thread nD τ) (buf3 t) fullShare ((dats m 0 c).after 3 t) from rfl, after_3]
  rw [show (dats m 0 c).leavesExact 4 t = owns (c : Thread nD τ) (buf4 t) fullShare ((dats m 0 c).after 4 t) from rfl, after_4]
  rw [show (dats m 0 c).leavesExact 5 t = owns (c : Thread nD τ) (buf5 t) fullShare ((dats m 0 c).after 5 t) from rfl, after_5]
  rw [show (dats m 0 c).leavesExact 6 t = owns (c : Thread nD τ) (buf6 t) fullShare ((dats m 0 c).after 6 t) from rfl, after_6]
  rw [show (dats m 0 c).leavesExact 7 t = owns (c : Thread nD τ) (buf7 t) fullShare ((dats m 0 c).after 7 t) from rfl, after_7]
  rw [show (dats m 0 c).leavesExact 9 t = owns (c : Thread nD τ) (buf9 t) fullShare ((dats m 0 c).after 9 t) from rfl, after_9]
  rw [show (dats m 0 c).leavesExact 10 t = owns (c : Thread nD τ) (buf10 t) fullShare ((dats m 0 c).after 10 t) from rfl, after_10]
  rw [show (dats m 0 c).leavesExact 12 t = owns (c : Thread nD τ) (buf12 t) fullShare ((dats m 0 c).after 12 t) from rfl, after_12]
  rw [show (dats m 0 c).leavesExact 8 t = owns (c : Thread nD τ) (buf8 t) fullShare ((dats m 0 c).after 8 t) from by
    unfold Dat.leavesExact; rw [live8 t h1], after_8]
  rw [show (dats m 0 c).leavesExact 11 t = owns (c : Thread nD τ) (buf11 t) fullShare ((dats m 0 c).after 11 t) from by
    unfold Dat.leavesExact; rw [live11 t h1], after_11]
  have h0 : ¬ t.val % 8 = 0 := by omega
  rw [between_pos m c _ _ (fun hz => h0 (by rw [hz]))]
  rw [stAt_next m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_last c (grid0.coords t) _ _ _ _ _ _ _ _ _ _ _ _ _ _ _ _ _ _ _ _ _ _ _ _ _ _ _ _ _ _ (fun h => h0 ((first_iff t).mp h)) ((last_iff t).mpr h1) (insAt m c t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem body_any (c : Dev nD) (t : Fin cfg0.N) :
    bodyPre m c t ⊢ wp frame (wpE (defs₀ (F := F)) Variants.none c none) Set.univ (bodyAt0 t) (fun _ => bodyPost m c t) := by
  by_cases h0 : t.val % 8 = 0
  · exact body_first m c t h0
  by_cases h1 : t.val % 8 = 7
  · exact body_last m c t h1
  · exact body_mid m c t h0 h1

theorem row_eq (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, row_eq]
  exact triple_restated (body_any m c t) rfl .rfl fun _ => .rfl

theorem enter (c : Dev nD) : Pipeline.ΦA spec0 c ⊢ (dats m 0 c).Φ 0 := by
  rw [show (dats m 0 c).Φ 0 = between m c 0 (Nat.zero_le _) from rfl, between_zero m c 0 _ rfl]
  try exact Entails.refl _

theorem leave (c : Dev nD) : (dats m 0 c).Φ (Fin.last cfg0.N) ⊢ Pipeline.ΦA spec0 c := by
  rw [scratch_eq, show (dats m 0 c).Φ (Fin.last cfg0.N) = between m c cfg0.N (Nat.le_refl _) from rfl]
  exact between_some m c _ _

/-! ## The run and the frame -/

set_option backward.isDefEq.respectTransparency.types false in
/-- From any memory with zero counters the kernel terminates, every array at what the pipeline's data say, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they were, every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.KernelIdeal.FoxBwd
-- ==== Proof.Fold.lean ====
/-
  What the backward attention's accumulators hold after each point, over the reals: the sums over the key blocks so far.
-/
module

public import proofs.«01_k».proof.Proof.State
public import proofs.«01_k».proof.Proof.Chain
public import Idealize.ShloMosaic.Lib.Claim
public import Idealize.ShloMosaic.Lib.Pipeline.ValueKit

@[expose] public section

set_option maxRecDepth 16384

noncomputable section

namespace Cert.KernelIdeal.FoxBwd

open Idealize.ShloMosaic Idealize.ShloMosaic.TcCoe Idealize.ShloMosaic.Tactic
open Idealize.SL.Sem
open Cert.KernelIdeal.Gen

variable (R : RArr) (m : (ℓ : Loc nD τ sig) → Buf (Elt Ideal) ℓ) (c : Dev nD)

/-- The pair of heads and the key block of a point. -/
def pOf (t : Fin cfg0.N) : Fin 8 := ⟨t.val / 8, by have := Nat.lt_of_lt_of_eq t.isLt N_0; omega⟩
def jOf (t : Fin cfg0.N) : Fin 8 := ⟨t.val % 8, by omega⟩

/-- The arrays that the region is entered with. -/
structure Arrs where
  z : Buf (Elt Ideal) ((c.tc : Thread nD τ).loc main_arg0)
  zk : Buf (Elt Ideal) ((c.tc : Thread nD τ).loc main_arg0)
  zv : Buf (Elt Ideal) ((c.tc : Thread nD τ).loc main_arg0)
  g : Buf (Elt Ideal) ((c.tc : Thread nD τ).loc main_arg2)
  ck : Buf (Elt Ideal) ((c.tc : Thread nD τ).loc main_v43)
  ct : Buf (Elt Ideal) ((c.tc : Thread nD τ).loc main_v46)
  lse : Buf (Elt Ideal) ((c.tc : Thread nD τ).loc main_v49)
  dd : Buf (Elt Ideal) ((c.tc : Thread nD τ).loc main_v52)

/-- They hold the numbers `R`. -/
structure Entry (A : Arrs c) : Prop where
  q : ∀ n (x : Fin 1024), A.z (ix2 n ⟨x.val, by omega⟩) = ((R.Q n x : ℝ) : EReal)
  k : ∀ n (x : Fin 1024), A.zk (ix2 n ⟨1024 + x.val, by omega⟩) = ((R.K n x : ℝ) : EReal)
  v : ∀ n (x : Fin 1024), A.zv (ix2 n ⟨2048 + x.val, by omega⟩) = ((R.V n x : ℝ) : EReal)
  g : ∀ n (x : Fin 1024), A.g (ix2 n x) = ((R.G n x : ℝ) : EReal)
  ck : ∀ n (h : Fin 16), A.ck (ix2 n ⟨h.val, by omega⟩) = ((R.C h n : ℝ) : EReal)
  ct : ∀ p b h s, A.ct (ix4 p b h s) = ((R.C (hh p h) (row b s) : ℝ) : EReal)
  lse : ∀ p b h s, A.lse (ix4 p b h s) = ((R.L (hh p h) (row b s) : ℝ) : EReal)
  dd : ∀ p b h s, A.dd (ix4 p b h s) = ((R.D (hh p h) (row b s) : ℝ) : EReal)

variable {R m c} {A : Arrs c}

theorem idx0 : ∀ t : Fin cfg0.N, (cfg0.win 0).index t = ![0, t.val / 8] ∧ (cfg0.win 1).index t = ![t.val % 8, 8 + t.val / 8]
    ∧ (cfg0.win 2).index t = ![t.val % 8, 16 + t.val / 8] ∧ (cfg0.win 3).index t = ![0, t.val / 8] ∧ (cfg0.win 4).index t = ![t.val % 8, 0]
    ∧ (cfg0.win 5).index t = ![t.val / 8, 0, 0, 0] ∧ (cfg0.win 6).index t = ![t.val / 8, 0, 0, 0] ∧ (cfg0.win 7).index t = ![t.val / 8, 0, 0, 0] := by
  decide +kernel

theorem coords0 : ∀ t : Fin cfg0.N, (grid0.coords t 0).val = t.val / 8 ∧ (grid0.coords t 1).val = t.val % 8 := by decide +kernel

/-- The blocks of point `t`, cut from the arrays. -/
def cut (A : Arrs c) (t : Fin cfg0.N) : Ins Ideal where
  q := ((cfg0.win 0).blk t).view.read (Elt Ideal) A.z
  k := ((cfg0.win 1).blk t).view.read (Elt Ideal) A.zk
  v := ((cfg0.win 2).blk t).view.read (Elt Ideal) A.zv
  g := ((cfg0.win 3).blk t).view.read (Elt Ideal) A.g
  c := ((cfg0.win 4).blk t).view.read (Elt Ideal) A.ck
  ct := ((cfg0.win 5).blk t).view.read (Elt Ideal) A.ct
  lse := ((cfg0.win 6).blk t).view.read (Elt Ideal) A.lse
  dd := ((cfg0.win 7).blk t).view.read (Elt Ideal) A.dd

theorem blk_q (t : Fin cfg0.N) (n : Fin 4096) (l : Fin 128) : ((cfg0.win 0).blk t).view.read (Elt Ideal) A.z (ix2 n l) = A.z (ix2 n ⟨(col (pOf t) l).val, by omega⟩) := by
  blk_ext [(idx0 t).1, pOf, col]
theorem blk_k (t : Fin cfg0.N) (r : Fin 512) (l : Fin 128) : ((cfg0.win 1).blk t).view.read (Elt Ideal) A.zk (ix2 r l) = A.zk (ix2 (row (jOf t) r) ⟨1024 + (col (pOf t) l).val, by omega⟩) := by
  blk_ext [(idx0 t).2.1, pOf, jOf, row, col]
theorem blk_v (t : Fin cfg0.N) (r : Fin 512) (l : Fin 128) : ((cfg0.win 2).blk t).view.read (Elt Ideal) A.zv (ix2 r l) = A.zv (ix2 (row (jOf t) r) ⟨2048 + (col (pOf t) l).val, by omega⟩) := by
  blk_ext [(idx0 t).2.2.1, pOf, jOf, row, col]
theorem blk_g (t : Fin cfg0.N) (n : Fin 4096) (l : Fin 128) : ((cfg0.win 3).blk t).view.read (Elt Ideal) A.g (ix2 n l) = A.g (ix2 n (col (pOf t) l)) := by
  blk_ext [(idx0 t).2.2.2.1, pOf, col]
theorem blk_c (t : Fin cfg0.N) (r : Fin 512) (h : Fin 16) : ((cfg0.win 4).blk t).view.read (Elt Ideal) A.ck (ix2 r ⟨h.val, by omega⟩) = A.ck (ix2 (row (jOf t) r) ⟨h.val, by omega⟩) := by
  blk_ext [(idx0 t).2.2.2.2.1, jOf, row]
theorem blk_ct (t : Fin cfg0.N) (b : Fin 8) (h : Fin 2) (s : Fin 512) : ((cfg0.win 5).blk t).view.read (Elt Ideal) A.ct (ix4 0 b h s) = A.ct (ix4 (pOf t) b h s) := by
  blk_ext [(idx0 t).2.2.2.2.2.1, pOf]
theorem blk_lse (t : Fin cfg0.N) (b : Fin 8) (h : Fin 2) (s : Fin 512) : ((cfg0.win 6).blk t).view.read (Elt Ideal) A.lse (ix4 0 b h s) = A.lse (ix4 (pOf t) b h s) := by
  blk_ext [(idx0 t).2.2.2.2.2.2.1, pOf]
theorem blk_dd (t : Fin cfg0.N) (b : Fin 8) (h : Fin 2) (s : Fin 512) : ((cfg0.win 7).blk t).view.read (Elt Ideal) A.dd (ix4 0 b h s) = A.dd (ix4 (pOf t) b h s) := by
  blk_ext [(idx0 t).2.2.2.2.2.2.2, pOf]

/-- The blocks of a point hold the arrays' numbers. -/
theorem cut_holds (E : Entry R c A) (t : Fin cfg0.N) : Holds R (grid0.coords t) (cut A t) (pOf t) (jOf t) where
  pe := (coords0 t).1
  je := (coords0 t).2
  q n l := (blk_q t n l).trans (E.q n (col (pOf t) l))
  k r l := (blk_k t r l).trans (E.k (row (jOf t) r) (col (pOf t) l))
  v r l := (blk_v t r l).trans (E.v (row (jOf t) r) (col (pOf t) l))
  g n l := (blk_g t n l).trans (E.g n (col (pOf t) l))
  c r h := (blk_c t r h).trans (E.ck (row (jOf t) r) h)
  ct b h s := (blk_ct t b h s).trans (E.ct (pOf t) b h s)
  lse b h s := (blk_lse t b h s).trans (E.lse (pOf t) b h s)
  dd b h s := (blk_dd t b h s).trans (E.dd (pOf t) b h s)

/-- The arrays as the region finds them. -/
def entryArrs (m : (ℓ : Loc nD τ sig) → Buf (Elt Ideal) ℓ) (c : Dev nD) : Arrs c where
  z := V m c (Pipeline.arrRef spec0 0)
  zk := V m c (Pipeline.arrRef spec0 1)
  zv := V m c (Pipeline.arrRef spec0 2)
  g := V m c (Pipeline.arrRef spec0 3)
  ck := V m c (Pipeline.arrRef spec0 4)
  ct := V m c (Pipeline.arrRef spec0 5)
  lse := V m c (Pipeline.arrRef spec0 6)
  dd := V m c (Pipeline.arrRef spec0 7)

theorem insAt_eq (t : Fin cfg0.N) : insAt m c t = cut (entryArrs m c) t := by
  delta insAt cut entryArrs iblk
  with_reducible rfl

theorem holds (E : Entry R c (entryArrs m c)) (t : Fin cfg0.N) : Holds R (grid0.coords t) (insAt m c t) (pOf t) (jOf t) :=
  (insAt_eq t).symm ▸ cut_holds E t

theorem zeroDq (x) : (k0_pay33 (F := Ideal)) x = 0 := by
  pointwise [k0_pay33]
  try simp [Ideal.ofBits, Ideal.ieee]
theorem zeroDcq (x) : (k0_pay34 (F := Ideal)) x = 0 := by
  pointwise [k0_pay34]
  try simp [Ideal.ofBits, Ideal.ieee]

/-- After a point: its key block's sums, and dq and dcq over the key blocks up to it. -/
structure After (R : RArr) (p : Fin 8) (j : Fin 8) (S : St Ideal) : Prop where
  dk : ∀ r l, S.acc.1 (ix2 r l) = ((∑ b, fDk R p j r l b : ℝ) : EReal)
  dv : ∀ r l, S.acc.2.1 (ix2 r l) = ((∑ b, fDv R p j r l b : ℝ) : EReal)
  dc0 : ∀ r, S.acc.2.2.1 (ix2 r 0) = ((-∑ b, fDc R p j 0 r b : ℝ) : EReal)
  dc1 : ∀ r, S.acc.2.2.2 (ix2 r 0) = ((-∑ b, fDc R p j 1 r b : ℝ) : EReal)
  dq : ∀ b q l, S.dq (ix2 (row b q) l) = ((upto j.val (fun j' => fDq R p j' b q l) : ℝ) : EReal)
  dcq : ∀ b h q, S.dcq (ix3 b h q) = ((upto j.val (fun j' => fDcq R p j' b h q) : ℝ) : EReal)

theorem after_of {p j : Fin 8} {s : Vec Ideal S4096x128 .f32} {t : Vec Ideal S8x2x512 .f32} {S : St Ideal} (U : Upto R p j 7 s t S)
    (hq : ∀ b q l, s (ix2 (row b q) l) + ((fDq R p j b q l : ℝ) : EReal) = ((upto j.val (fun j' => fDq R p j' b q l) : ℝ) : EReal))
    (hc : ∀ b h q, t (ix3 b h q) + ((fDcq R p j b h q : ℝ) : EReal) = ((upto j.val (fun j' => fDcq R p j' b h q) : ℝ) : EReal)) : After R p j S where
  dk r l := by rw [U.dk, upto_all 7 (Nat.le_refl _)]
  dv r l := by rw [U.dv, upto_all 7 (Nat.le_refl _)]
  dc0 r := by rw [U.dc0, upto_all 7 (Nat.le_refl _)]
  dc1 r := by rw [U.dc1, upto_all 7 (Nat.le_refl _)]
  dq b q l := by rw [U.dq, if_pos (by omega), hq]
  dcq b h q := by rw [U.dcq, if_pos (by omega), hc]

/-- What the state is after every point. -/
theorem after_all (E : Entry R c (entryArrs m c)) : ∀ (n : ℕ) (t : Fin cfg0.N), t.val = n → After R (pOf t) (jOf t) (stAt m c t.val t.isLt) := by
  intro n
  induction n with
  | zero =>
    intro t ht
    have hj : t.val % 8 = 0 := by omega
    rw [stAt_first m c t hj]
    have hj0 : jOf t = 0 := Fin.ext hj
    refine after_of (end_all (holds E t) _ _) (fun b q l => ?_) (fun b h q => ?_)
    · rw [zeroDq, zero_add, hj0, show ((0 : Fin 8).val) = (0 : Fin 8).val from rfl, upto_first (0 : Fin 8) (fun j' => fDq R (pOf t) j' b q l) (fun b hb => absurd hb (Fin.not_lt_zero b))]
    · rw [zeroDcq, zero_add, hj0, upto_first (0 : Fin 8) (fun j' => fDcq R (pOf t) j' b h q) (fun b hb => absurd hb (Fin.not_lt_zero b))]
  | succ n ih =>
    intro t ht
    by_cases hj : t.val % 8 = 0
    · rw [stAt_first m c t hj]
      have hj0 : jOf t = 0 := Fin.ext hj
      refine after_of (end_all (holds E t) _ _) (fun b q l => ?_) (fun b h q => ?_)
      · rw [zeroDq, zero_add, hj0, upto_first (0 : Fin 8) (fun j' => fDq R (pOf t) j' b q l) (fun b hb => absurd hb (Fin.not_lt_zero b))]
      · rw [zeroDcq, zero_add, hj0, upto_first (0 : Fin 8) (fun j' => fDcq R (pOf t) j' b h q) (fun b hb => absurd hb (Fin.not_lt_zero b))]
    · rw [stAt_next m c t hj]
      have hlt : t.val - 1 < cfg0.N := Nat.lt_of_le_of_lt (Nat.sub_le _ _) t.isLt
      have A := ih ⟨t.val - 1, hlt⟩ (by show t.val - 1 = n; omega)
      have hp : pOf ⟨t.val - 1, hlt⟩ = pOf t := Fin.ext (by show (t.val - 1) / 8 = t.val / 8; omega)
      have hjj : (jOf t).val = (jOf ⟨t.val - 1, hlt⟩).val + 1 := by show t.val % 8 = (t.val - 1) % 8 + 1; omega
      rw [hp] at A
      refine after_of (end_all (holds E t) _ _) (fun b q l => ?_) (fun b h q => ?_)
      · rw [hjj, upto_succ _ (jOf t) hjj, EReal.coe_add]
        exact congrArg (· + _) (A.dq b q l)
      · rw [hjj, upto_succ _ (jOf t) hjj, EReal.coe_add]
        exact congrArg (· + _) (A.dcq b h q)

/-! ## Sums over blocks of rows are sums over rows -/

theorem sum_rows (f : Fin 4096 → ℝ) : (∑ b : Fin 8, ∑ s : Fin 512, f (row b s)) = ∑ n, f n := by
  rw [← Finset.sum_product']
  refine Finset.sum_bij (fun x _ => row x.1 x.2) (fun _ _ => Finset.mem_univ _) ?_ ?_ (fun _ _ => rfl)
  · intro x _ y _ e
    obtain ⟨h1, h2⟩ := row_inj.1 e
    exact Prod.ext h1 h2
  · intro n _
    exact ⟨(⟨n.val / 512, by omega⟩, ⟨n.val % 512, by omega⟩), Finset.mem_univ _, Fin.ext (by simp only [row]; omega)⟩

end Cert.KernelIdeal.FoxBwd
-- ==== Proof.Outputs.lean ====
/-
  What the five result arrays of the backward attention hold over the reals.
-/
module

public import proofs.«01_k».proof.Proof.Launch
public import proofs.«01_k».proof.Proof.Fold

@[expose] public section

set_option maxRecDepth 16384

noncomputable section

namespace Cert.KernelIdeal.FoxBwd

open Idealize.ShloMosaic Idealize.ShloMosaic.TcCoe Idealize.ShloMosaic.Tactic
open Idealize.SL.Sem
open Cert.KernelIdeal.Gen

variable (R : RArr) (m : (ℓ : Loc nD τ sig) → Buf (Elt Ideal) ℓ) (c : Dev nD)

/-- The head of a channel. -/
def hOf (x : Fin 1024) : Fin 16 := ⟨x.val / 64, by omega⟩

theorem hOf_col (p : Fin 8) (l : Fin 128) : hOf (col p l) = hh p (hd l) := by
  apply Fin.ext
  simp only [hOf, col, hh, hd]
  omega

/-- The gradients: of keys, values, queries; of the log gates as key and as query. -/
def gDk (n : Fin 4096) (x : Fin 1024) : ℝ := ∑ q, DS R (hOf x) n q * (R.Q q x * (1 / 8))
def gDv (n : Fin 4096) (x : Fin 1024) : ℝ := ∑ q, PR R (hOf x) n q * R.G q x
def gDq (n : Fin 4096) (x : Fin 1024) : ℝ := (∑ k, DS R (hOf x) k n * R.K k x) * (1 / 8)
def gDck (h : Fin 16) (n : Fin 4096) : ℝ := -∑ q, DS R h n q
def gDcq (h : Fin 16) (n : Fin 4096) : ℝ := ∑ k, DS R h k n

variable {R m c}

theorem out_dk {p j : Fin 8} {S : St Ideal} (A : After R p j S) (r : Fin 512) (l : Fin 128) :
    outDk S (ix2 r l) = ((gDk R (row j r) (col p l) : ℝ) : EReal) := by
  unfold outDk
  pointwise [k0_pay79]
  rw [A.dk, gDk, hOf_col, ← sum_rows]
  rfl

theorem out_dv {p j : Fin 8} {S : St Ideal} (A : After R p j S) (r : Fin 512) (l : Fin 128) :
    outDv S (ix2 r l) = ((gDv R (row j r) (col p l) : ℝ) : EReal) := by
  unfold outDv
  pointwise [k0_pay80]
  rw [A.dv, gDv, hOf_col, ← sum_rows]
  rfl

theorem out_dq {p : Fin 8} {S : St Ideal} (A : After R p 7 S) (n : Fin 4096) (l : Fin 128) :
    outDq S (ix2 n l) = ((gDq R n (col p l) : ℝ) : EReal) := by
  unfold outDq
  pointwise [k0_pay82]
  have hn : n = row ⟨n.val / 512, by omega⟩ ⟨n.val % 512, by omega⟩ := Fin.ext (by simp only [row]; omega)
  rw [hn, A.dq, show (7 : Fin 8).val = 7 from rfl, upto_all 7 (Nat.le_refl _), eighth, ← EReal.coe_mul, gDq, hOf_col, ← sum_rows]
  rfl

theorem out_dcq {p : Fin 8} {S : St Ideal} (A : After R p 7 S) (b : Fin 8) (h : Fin 2) (s : Fin 512) :
    outDcq S (ix4 0 b h s) = ((gDcq R (hh p h) (row b s) : ℝ) : EReal) := by
  unfold outDcq
  pointwise [k0_pay83]
  rw [A.dcq, show (7 : Fin 8).val = 7 from rfl, upto_all 7 (Nat.le_refl _), gDcq, ← sum_rows]
  rfl

theorem lane_eq (l : Fin 128) (n : ℕ) (hn : n < 2 ^ 32) : IntOp.cmpi .eq (BitVec.ofNat 32 l.val) (BitVec.ofNat 32 n) = if l.val = n then 1#1 else 0#1 := by
  have e : (BitVec.ofNat 32 l.val == BitVec.ofNat 32 n) = decide (l.val = n) := by
    rw [Bool.eq_iff_iff, beq_iff_eq, decide_eq_true_iff, ← BitVec.toNat_inj, BitVec.toNat_ofNat, BitVec.toNat_ofNat, Nat.mod_eq_of_lt (by omega), Nat.mod_eq_of_lt hn]
  simp only [IntOp.cmpi, e]
  by_cases h : l.val = n <;> simp [h]

theorem out_dck {p j : Fin 8} {S : St Ideal} (A : After R p j S) (r : Fin 512) (l : Fin 128) :
    outDck S (ix2 r l) = ((if l.val = 0 then gDck R (hh p 0) (row j r) else if l.val = 1 then gDck R (hh p 1) (row j r) else 0 : ℝ) : EReal) := by
  unfold outDck
  pointwise [k0_pay81]
  rw [A.dc0, A.dc1]
  simp only [gDck, ← sum_rows]
  rw [lane_eq l 0 (by omega), lane_eq l 1 (by omega)]
  by_cases h0 : l.val = 0
  · rw [if_pos h0, if_pos h0]; rfl
  · by_cases h1 : l.val = 1
    · rw [if_neg h0, if_pos h1, if_neg h0, if_pos h1]; rfl
    · rw [if_neg h0, if_neg h1, if_neg h0, if_neg h1]; rfl

theorem idxO : ∀ t : Fin cfg0.N, (cfg0.win 8).index t = ![0, t.val / 8] ∧ (cfg0.win 9).index t = ![t.val % 8, t.val / 8]
    ∧ (cfg0.win 10).index t = ![t.val % 8, t.val / 8] ∧ (cfg0.win 11).index t = ![t.val / 8, 0, 0, 0] ∧ (cfg0.win 12).index t = ![t.val % 8, t.val / 8] := by
  decide +kernel

/-- A block of a result array, read at an index. -/
theorem blk_dq (B : Buf (Elt Ideal) ((c.tc : Thread nD τ).loc main_v53_0)) (t : Fin cfg0.N) (n : Fin 4096) (l : Fin 128) :
    ((cfg0.win 8).blk t).view.read (Elt Ideal) B (ix2 n l) = B (ix2 n (col (pOf t) l)) := by
  blk_ext [(idxO t).1, pOf, col]
theorem blk_dk (B : Buf (Elt Ideal) ((c.tc : Thread nD τ).loc main_v53_1)) (t : Fin cfg0.N) (r : Fin 512) (l : Fin 128) :
    ((cfg0.win 9).blk t).view.read (Elt Ideal) B (ix2 r l) = B (ix2 (row (jOf t) r) (col (pOf t) l)) := by
  blk_ext [(idxO t).2.1, pOf, jOf, row, col]
theorem blk_dv (B : Buf (Elt Ideal) ((c.tc : Thread nD τ).loc main_v53_2)) (t : Fin cfg0.N) (r : Fin 512) (l : Fin 128) :
    ((cfg0.win 10).blk t).view.read (Elt Ideal) B (ix2 r l) = B (ix2 (row (jOf t) r) (col (pOf t) l)) := by
  blk_ext [(idxO t).2.2.1, pOf, jOf, row, col]
theorem blk_dcq (B : Buf (Elt Ideal) ((c.tc : Thread nD τ).loc main_v53_3)) (t : Fin cfg0.N) (b : Fin 8) (h : Fin 2) (s : Fin 512) :
    ((cfg0.win 11).blk t).view.read (Elt Ideal) B (ix4 0 b h s) = B (ix4 (pOf t) b h s) := by
  blk_ext [(idxO t).2.2.2.1, pOf]
theorem blk_dck (B : Buf (Elt Ideal) ((c.tc : Thread nD τ).loc main_v53_4)) (t : Fin cfg0.N) (r : Fin 512) (l : Fin 128) :
    ((cfg0.win 12).blk t).view.read (Elt Ideal) B (ix2 r l) = B (ix2 (row (jOf t) r) (col (pOf t) l)) := by
  blk_ext [(idxO t).2.2.2.2, pOf, jOf, row, col]

/-- dq and dcq are written back after the last key block. -/
theorem flush_last : ∀ t : Fin cfg0.N, ((cfg0.win 8).flush t = true → t.val % 8 = 7) ∧ ((cfg0.win 11).flush t = true → t.val % 8 = 7) := by
  decide +kernel

variable (R c)

/-- The five arrays. -/
def GDq : Buf (Elt Ideal) ((c.tc : Thread nD τ).loc main_v53_0) := fun x => ((gDq R (x 0) (x 1) : ℝ) : EReal)
def GDk : Buf (Elt Ideal) ((c.tc : Thread nD τ).loc main_v53_1) := fun x => ((gDk R (x 0) (x 1) : ℝ) : EReal)
def GDv : Buf (Elt Ideal) ((c.tc : Thread nD τ).loc main_v53_2) := fun x => ((gDv R (x 0) (x 1) : ℝ) : EReal)
def GDcq : Buf (Elt Ideal) ((c.tc : Thread nD τ).loc main_v53_3) := fun x => ((gDcq R (hh (x 0) (x 2)) (row (x 1) (x 3)) : ℝ) : EReal)
/-- Lane 0 and lane 1 of a pair's 128 hold its two heads, the others zero. -/
def lanes (R : RArr) (n : Fin 4096) (x : Fin 1024) : ℝ :=
  if x.val % 128 = 0 then gDck R ⟨2 * (x.val / 128), by omega⟩ n else if x.val % 128 = 1 then gDck R ⟨2 * (x.val / 128) + 1, by omega⟩ n else 0
def GDck : Buf (Elt Ideal) ((c.tc : Thread nD τ).loc main_v53_4) := fun x => ((lanes R (x 0) (x 1) : ℝ) : EReal)

theorem lanes_col (p : Fin 8) (n : Fin 4096) (l : Fin 128) :
    lanes R n (col p l) = if l.val = 0 then gDck R (hh p 0) n else if l.val = 1 then gDck R (hh p 1) n else 0 := by
  unfold lanes
  have e : (col p l).val % 128 = l.val := by simp only [col]; omega
  have e' : (col p l).val / 128 = p.val := by simp only [col]; omega
  simp only [e, e']
  rfl

variable {R c}

theorem final_dq (E : Entry R c (entryArrs m c)) : (dats m 0 c).arrAt 8 cfg0.N = GDq R c := by
  refine (dats m 0 c).arrAt_eq_of_covers 8 (GDq R c) (by decide +kernel) fun t hf y => ?_
  blk_simp
  rw [after_8]
  frame_out
  have hj : jOf t = 7 := Fin.ext ((flush_last t).1 hf)
  have A := after_all E t.val t rfl
  rw [hj] at A
  rw [eq_ix2 (n0 := 4096) (n1 := 128) y]
  exact (out_dq A _ _).trans (blk_dq (GDq R c) t _ _).symm

theorem final_dk (E : Entry R c (entryArrs m c)) : (dats m 0 c).arrAt 9 cfg0.N = GDk R c := by
  refine (dats m 0 c).arrAt_eq_of_covers 9 (GDk R c) (by decide +kernel) fun t hf y => ?_
  blk_simp
  rw [after_9]
  frame_out
  rw [eq_ix2 (n0 := 512) (n1 := 128) y]
  exact (out_dk (after_all E t.val t rfl) _ _).trans (blk_dk (GDk R c) t _ _).symm

theorem final_dv (E : Entry R c (entryArrs m c)) : (dats m 0 c).arrAt 10 cfg0.N = GDv R c := by
  refine (dats m 0 c).arrAt_eq_of_covers 10 (GDv R c) (by decide +kernel) fun t hf y => ?_
  blk_simp
  rw [after_10]
  frame_out
  rw [eq_ix2 (n0 := 512) (n1 := 128) y]
  exact (out_dv (after_all E t.val t rfl) _ _).trans (blk_dv (GDv R c) t _ _).symm

theorem final_dcq (E : Entry R c (entryArrs m c)) : (dats m 0 c).arrAt 11 cfg0.N = GDcq R c := by
  refine (dats m 0 c).arrAt_eq_of_covers 11 (GDcq R c) (by decide +kernel) fun t hf y => ?_
  blk_simp
  rw [after_11]
  frame_out
  have hj : jOf t = 7 := Fin.ext ((flush_last t).2 hf)
  have A := after_all E t.val t rfl
  rw [hj] at A
  have hy : y = ix4 (0 : Fin 1) (y 1) (y 2) (y 3) := by
    refine (eq_ix4 (n0 := 1) (n1 := 8) (n2 := 2) (n3 := 512) y).trans ?_
    congr 1
    exact Subsingleton.elim _ _
  rw [hy]
  exact (out_dcq A _ _ _).trans (blk_dcq (GDcq R c) t _ _ _).symm

theorem final_dck (E : Entry R c (entryArrs m c)) : (dats m 0 c).arrAt 12 cfg0.N = GDck R c := by
  refine (dats m 0 c).arrAt_eq_of_covers 12 (GDck R c) (by decide +kernel) fun t hf y => ?_
  blk_simp
  rw [after_12]
  frame_out
  rw [eq_ix2 (n0 := 512) (n1 := 128) y]
  refine (out_dck (after_all E t.val t rfl) _ _).trans (Eq.trans ?_ (blk_dck (GDck R c) t _ _).symm)
  exact congrArg _ (lanes_col R _ _ _).symm

end Cert.KernelIdeal.FoxBwd
-- ==== Proof.Grads.lean ====
/-
  The results of the reference over the reals: the gradients of the forgetting attention.
-/
module

public import proofs.«01_k».proof.Proof.Logit
public import proofs.«01_k».proof.Proof.Outputs
public import Idealize.ShloMosaic.Lib.KernelVsHost

@[expose] public section

set_option maxRecDepth 16384

noncomputable section

namespace Cert.KernelIdeal.FoxBwd

open Idealize.ShloMosaic Idealize.ShloMosaic.TcCoe Idealize.ShloMosaic.Tactic
open Cert.ReferenceIdeal Cert.ReferenceIdeal.Gen Cert.ReferenceIdeal.Read

variable {N : Given} {x0 : (⟨S4096x4224, .f32⟩ : BufTy).Contents (Elt Ideal)} {x1 : (⟨S4096x16, .f32⟩ : BufTy).Contents (Elt Ideal)}
  {x2 : (⟨S4096x1024, .f32⟩ : BufTy).Contents (Elt Ideal)} {μ : Fin 16 → Fin 4096 → ℝ}

theorem ofBits_one : Ideal.ofBits .f32 0x3F800000#32 = ((1 : ℝ) : EReal) := by
  simp [Ideal.ofBits, Ideal.ieee, -EReal.coe_mul]; norm_num

/-- A quotient of reals by a real that is not zero. -/
theorem div_real (x : ℝ) {y : ℝ} (h : y ≠ 0) : Ideal.div ((x : ℝ) : EReal) ((y : ℝ) : EReal) = ((x / y : ℝ) : EReal) := by
  rw [Ideal.div_coe h, ← EReal.coe_mul, mul_one_div]

/-- The exponential of a masked logit less a real shift. -/
theorem exp_masked (h : Fin 16) (q k : Fin 4096) (ν : ℝ) :
    Ideal.exp ((if k.val ≤ q.val then ((sc N h q k : ℝ) : EReal) else ⊥) - ((ν : ℝ) : EReal)) = ((wsh N ν h q k : ℝ) : EReal) := by
  unfold wsh
  by_cases hk : k.val ≤ q.val
  · rw [if_pos hk, if_pos (show k ≤ q from hk), ← EReal.coe_sub]; rfl
  · rw [if_neg hk, if_neg (show ¬ k ≤ q from hk), EReal.bot_sub]; exact Ideal.exp_bot

/-- The derivative of the masked quotient is the logit's gradient. -/
theorem ds_quot (h : Fin 16) (q k : Fin 4096) (ν : ℝ) :
    Scalar.select (if k.val ≤ q.val then 1#1 else 0#1)
      ((Ideal.div ((dp N h q k : ℝ) : EReal) ((∑ k, wsh N ν h q k : ℝ) : EReal)
        + ((-(∑ k, dp N h q k * (1 / ((∑ k, wsh N ν h q k) * (∑ k, wsh N ν h q k))) * wsh N ν h q k) : ℝ) : EReal)) * ((wsh N ν h q k : ℝ) : EReal))
      ((0 : ℝ) : EReal) = ((DS (nums N) h k q : ℝ) : EReal) := by
  rw [div_real _ (sum_wsh_pos N ν h q).ne', ← EReal.coe_add, ← EReal.coe_mul, DS_nums, quot_grad]
  unfold Scalar.select
  by_cases hk : k.val ≤ q.val
  · rw [if_pos hk, if_pos (show k ≤ q from hk), if_pos (by decide)]
  · rw [if_neg hk, if_neg (show ¬ k ≤ q from hk), if_neg (by decide)]

/-- The shifted weights, their sum, and the probabilities. -/
theorem wsh_at (H : Holding N x0 x1 x2) (hμ : ∀ j, val_main_v24 (F := Ideal) x0 x1 j = ((μ (j 0) (j 1) : ℝ) : EReal)) (i : S16x4096x4096.Idx) :
    val_main_v44 (F := Ideal) x0 x1 i = ((wsh N (μ (i 0) (i 1)) (i 0) (i 1) (i 2) : ℝ) : EReal) := by
  rw [val_main_v44_apply, val_main_v43_apply, masked_at H, val_main_v42_apply, val_main_v41_apply, val_main_v31_apply, val_main_v30_apply,
    val_main_cst_3_apply, hμ]
  simp only [Ideal.maximumf_def, Ideal.ofBits_def, ofBits_bot, max_bot_left]
  exact exp_masked (i 0) (i 1) (i 2) _

theorem lsum_at (H : Holding N x0 x1 x2) (hμ : ∀ j, val_main_v24 (F := Ideal) x0 x1 j = ((μ (j 0) (j 1) : ℝ) : EReal)) (j : S16x4096.Idx) :
    val_main_v45 (F := Ideal) x0 x1 j = ((∑ k, wsh N (μ (j 0) (j 1)) (j 0) (j 1) k : ℝ) : EReal) := by
  rw [val_main_v45_apply, val_main_cst_9_apply, Ideal.ofBits_def, ofBits_zero, EReal.coe_zero, zero_add]
  exact sum_coe _ _ fun k => wsh_at H hμ _

theorem lsum1_at (H : Holding N x0 x1 x2) (hμ : ∀ j, val_main_v24 (F := Ideal) x0 x1 j = ((μ (j 0) (j 1) : ℝ) : EReal)) (j : S16x4096x1.Idx) :
    val_main_v46 (F := Ideal) x0 x1 j = ((∑ k, wsh N (μ (j 0) (j 1)) (j 0) (j 1) k : ℝ) : EReal) := by
  rw [val_main_v46_apply, lsum_at H hμ]
  rfl

theorem prob_at (H : Holding N x0 x1 x2) (hμ : ∀ j, val_main_v24 (F := Ideal) x0 x1 j = ((μ (j 0) (j 1) : ℝ) : EReal)) (i : S16x4096x4096.Idx) :
    val_main_v48 (F := Ideal) x0 x1 i = ((PR (nums N) (i 0) (i 2) (i 1) : ℝ) : EReal) := by
  rw [val_main_v48_apply, val_main_v47_apply, wsh_at H hμ, lsum1_at H hμ]
  refine (div_real _ (sum_wsh_pos N _ _ _).ne').trans (congrArg _ ?_)
  exact (wsh_div N (μ (i 0) (i 1)) (i 0) (i 1) (i 2)).trans (PR_nums N (i 0) (i 2) (i 1)).symm

/-- The gradient of a probability. -/
theorem dp_at (H : Holding N x0 x1 x2) (i : S16x4096x4096.Idx) :
    val_main_v58 (F := Ideal) x0 x2 i = ((dp N (i 0) (i 1) (i 2) : ℝ) : EReal) := by
  rw [val_main_v58_apply]
  refine sum_coe _ _ fun d => ?_
  rw [val_main_v57_apply, g_at H, v_at H, EReal.coe_mul]
  rfl

/-- The sum that the derivative of a quotient takes off. -/
theorem off_at (H : Holding N x0 x1 x2) (hμ : ∀ j, val_main_v24 (F := Ideal) x0 x1 j = ((μ (j 0) (j 1) : ℝ) : EReal)) (j : S16x4096.Idx) :
    val_main_v65 (F := Ideal) x0 x1 x2 j = ((∑ k, dp N (j 0) (j 1) k * (1 / ((∑ k, wsh N (μ (j 0) (j 1)) (j 0) (j 1) k) * (∑ k, wsh N (μ (j 0) (j 1)) (j 0) (j 1) k)))
      * wsh N (μ (j 0) (j 1)) (j 0) (j 1) k : ℝ) : EReal) := by
  rw [val_main_v65_apply, val_main_cst_11_apply, Ideal.ofBits_def, ofBits_zero, EReal.coe_zero, zero_add]
  refine sum_coe _ _ fun k => ?_
  rw [val_main_v64_apply, val_main_v63_apply, val_main_v62_apply, val_main_v51_apply, val_main_v50_apply, val_main_v49_apply, val_main_cst_10_apply,
    dp_at H, wsh_at H hμ, lsum1_at H hμ]
  simp only [Ideal.mulf_def, Ideal.ofBits_def, ofBits_one, ← EReal.coe_mul]
  refine (congrArg (fun z : EReal => _ * z * _) (div_real 1 (mul_pos (sum_wsh_pos N _ _ _) (sum_wsh_pos N _ _ _)).ne')).trans ?_
  rw [← EReal.coe_mul, ← EReal.coe_mul]
  rfl

/-- The gradient of a logit. -/
theorem ds_at (H : Holding N x0 x1 x2) (hμ : ∀ j, val_main_v24 (F := Ideal) x0 x1 j = ((μ (j 0) (j 1) : ℝ) : EReal)) (i : S16x4096x4096.Idx) :
    val_main_v74 (F := Ideal) x0 x1 x2 i = ((DS (nums N) (i 0) (i 2) (i 1) : ℝ) : EReal) := by
  have e70 : val_main_v71 (F := Ideal) x0 x1 x2 i = ((-(∑ k, dp N (i 0) (i 1) k * (1 / ((∑ k, wsh N (μ (i 0) (i 1)) (i 0) (i 1) k) * (∑ k, wsh N (μ (i 0) (i 1)) (i 0) (i 1) k)))
      * wsh N (μ (i 0) (i 1)) (i 0) (i 1) k) : ℝ) : EReal) := by
    rw [val_main_v71_apply, val_main_v70_apply, val_main_cst_12_apply, Ideal.ofBits_def, ofBits_zero, EReal.coe_zero, zero_add, Fin.sum_univ_one,
      val_main_v67_apply, val_main_v66_apply, off_at H hμ]
    have h0 : (i 0).val < 16 := (i 0).isLt
    have h1 : (i 1).val < 4096 := (i 1).isLt
    have a0 : idx_main_v66 (idx_main_v70 (idx_main_v71 i) 0) 0 = i 0 := Fin.ext (by show (((i 0).val * 4096 + (i 1).val) * 1 + 0) / 4096 = (i 0).val; omega)
    have a1 : idx_main_v66 (idx_main_v70 (idx_main_v71 i) 0) 1 = i 1 := Fin.ext (by show (((i 0).val * 4096 + (i 1).val) * 1 + 0) % 4096 = (i 1).val; omega)
    rw [a0, a1, EReal.coe_neg]
    rfl
  rw [val_main_v74_apply, mask_at, val_main_v73_apply, val_main_v72_apply, val_main_v69_apply, val_main_v68_apply, e70, dp_at H, lsum1_at H hμ, wsh_at H hμ,
    val_main_call1_v0_apply, val_main_call1_cst_apply, Ideal.ofBits_def, ofBits_zero]
  exact ds_quot (i 0) (i 1) (i 2) (μ (i 0) (i 1))

theorem hc_hOf (x : Fin 1024) (d : Fin 64) (hd : d.val = x.val % 64) : hc (hOf x) d = x := Fin.ext (by
  show 64 * (x.val / 64) + d.val = x.val; omega)

/-- The gradient of the values. -/
theorem ref_dv (H : Holding N x0 x1 x2) (hμ : ∀ j, val_main_v24 (F := Ideal) x0 x1 j = ((μ (j 0) (j 1) : ℝ) : EReal)) (i : S4096x1024.Idx) :
    val_main_v100 (F := Ideal) x0 x1 x2 i = ((gDv (nums N) (i 0) (i 1) : ℝ) : EReal) := by
  have h0 : (i 0).val < 4096 := (i 0).isLt
  have h1 : (i 1).val < 1024 := (i 1).isLt
  rw [val_main_v100_apply, Ideal.truncf_def, val_main_v61_apply, val_main_v60_apply, val_main_v59_apply]
  refine sum_coe _ (fun q => PR (nums N) (hOf (i 1)) (i 0) q * N.G q (i 1)) fun q => ?_
  rw [val_main_v57_apply, g_at H, prob_at H hμ, mul_comm, EReal.coe_mul]
  have a0 : (⟨((i 0).val * 1024 + (i 1).val) / 1024, by omega⟩ : Fin 4096) = i 0 := Fin.ext (by show ((i 0).val * 1024 + (i 1).val) / 1024 = (i 0).val; omega)
  have a1 : (⟨((i 0).val * 1024 + (i 1).val) / 64 % 16, by omega⟩ : Fin 16) = hOf (i 1) := Fin.ext (by show ((i 0).val * 1024 + (i 1).val) / 64 % 16 = (i 1).val / 64; omega)
  have a2 : hc (hOf (i 1)) ⟨((i 0).val * 1024 + (i 1).val) % 64, by omega⟩ = i 1 := hc_hOf _ _ (by show ((i 0).val * 1024 + (i 1).val) % 64 = (i 1).val % 64; omega)
  rw [← a1] at a2 ⊢
  show ((PR (nums N) ⟨((i 0).val * 1024 + (i 1).val) / 64 % 16, by omega⟩ ⟨((i 0).val * 1024 + (i 1).val) / 1024, _⟩ q : ℝ) : EReal) * ((N.G q (hc ⟨((i 0).val * 1024 + (i 1).val) / 64 % 16, _⟩ ⟨((i 0).val * 1024 + (i 1).val) % 64, _⟩) : ℝ) : EReal) = _
  rw [a2, a0]

/-- The gradient of the keys. -/
theorem ref_dk (H : Holding N x0 x1 x2) (hμ : ∀ j, val_main_v24 (F := Ideal) x0 x1 j = ((μ (j 0) (j 1) : ℝ) : EReal)) (i : S4096x1024.Idx) :
    val_main_v99 (F := Ideal) x0 x1 x2 i = ((gDk (nums N) (i 0) (i 1) : ℝ) : EReal) := by
  have h0 : (i 0).val < 4096 := (i 0).isLt
  have h1 : (i 1).val < 1024 := (i 1).isLt
  rw [val_main_v99_apply, Ideal.truncf_def, val_main_v90_apply, val_main_v87_apply, val_main_v86_apply]
  refine sum_coe _ (fun q => DS (nums N) (hOf (i 1)) (i 0) q * (N.Q q (i 1) * (1 / 8))) fun q => ?_
  rw [val_main_v85_apply, ds_at H hμ, q_at H, val_main_v84_apply, val_main_cst_17_apply, Ideal.ofBits_def, ofBits_eighth, Ideal.mulf_def,
    ← EReal.coe_mul, ← EReal.coe_mul]
  have a0 : (⟨((i 0).val * 1024 + (i 1).val) / 1024, by omega⟩ : Fin 4096) = i 0 := Fin.ext (by show ((i 0).val * 1024 + (i 1).val) / 1024 = (i 0).val; omega)
  have a1 : (⟨((i 0).val * 1024 + (i 1).val) / 64 % 16, by omega⟩ : Fin 16) = hOf (i 1) := Fin.ext (by show ((i 0).val * 1024 + (i 1).val) / 64 % 16 = (i 1).val / 64; omega)
  have a2 : hc (hOf (i 1)) ⟨((i 0).val * 1024 + (i 1).val) % 64, by omega⟩ = i 1 := hc_hOf _ _ (by show ((i 0).val * 1024 + (i 1).val) % 64 = (i 1).val % 64; omega)
  rw [← a1] at a2 ⊢
  show ((DS (nums N) ⟨((i 0).val * 1024 + (i 1).val) / 64 % 16, by omega⟩ ⟨((i 0).val * 1024 + (i 1).val) / 1024, _⟩ q * (1 / 8) * N.Q q (hc ⟨((i 0).val * 1024 + (i 1).val) / 64 % 16, _⟩ ⟨((i 0).val * 1024 + (i 1).val) % 64, _⟩) : ℝ) : EReal) = _
  rw [a2, a0]
  exact congrArg _ (by ring)

/-- The gradient of the queries. -/
theorem ref_dq (H : Holding N x0 x1 x2) (hμ : ∀ j, val_main_v24 (F := Ideal) x0 x1 j = ((μ (j 0) (j 1) : ℝ) : EReal)) (i : S4096x1024.Idx) :
    val_main_v98 (F := Ideal) x0 x1 x2 i = ((gDq (nums N) (i 0) (i 1) : ℝ) : EReal) := by
  have h0 : (i 0).val < 4096 := (i 0).isLt
  have h1 : (i 1).val < 1024 := (i 1).isLt
  rw [val_main_v98_apply, Ideal.truncf_def, val_main_v91_apply, val_main_v89_apply, val_main_v88_apply]
  unfold gDq
  refine Eq.trans ?_ (congrArg _ (Finset.sum_mul _ _ _).symm)
  refine sum_coe _ (fun k => DS (nums N) (hOf (i 1)) k (i 0) * N.K k (i 1) * (1 / 8)) fun k => ?_
  rw [val_main_v85_apply, ds_at H hμ, k_at H, val_main_v84_apply, val_main_cst_17_apply, Ideal.ofBits_def, ofBits_eighth, Ideal.mulf_def,
    ← EReal.coe_mul, ← EReal.coe_mul]
  have a0 : (⟨((i 0).val * 1024 + (i 1).val) / 1024, by omega⟩ : Fin 4096) = i 0 := Fin.ext (by show ((i 0).val * 1024 + (i 1).val) / 1024 = (i 0).val; omega)
  have a1 : (⟨((i 0).val * 1024 + (i 1).val) / 64 % 16, by omega⟩ : Fin 16) = hOf (i 1) := Fin.ext (by show ((i 0).val * 1024 + (i 1).val) / 64 % 16 = (i 1).val / 64; omega)
  have a2 : hc (hOf (i 1)) ⟨((i 0).val * 1024 + (i 1).val) % 64, by omega⟩ = i 1 := hc_hOf _ _ (by show ((i 0).val * 1024 + (i 1).val) % 64 = (i 1).val % 64; omega)
  rw [← a1] at a2 ⊢
  show ((DS (nums N) ⟨((i 0).val * 1024 + (i 1).val) / 64 % 16, by omega⟩ k ⟨((i 0).val * 1024 + (i 1).val) / 1024, _⟩ * (1 / 8) * N.K k (hc ⟨((i 0).val * 1024 + (i 1).val) / 64 % 16, _⟩ ⟨((i 0).val * 1024 + (i 1).val) % 64, _⟩) : ℝ) : EReal) = _
  rw [a2, a0]
  exact congrArg _ (by ring)

/-- The gradient of a query's cumulated log gate. -/
theorem ref_dcq (H : Holding N x0 x1 x2) (hμ : ∀ j, val_main_v24 (F := Ideal) x0 x1 j = ((μ (j 0) (j 1) : ℝ) : EReal)) (i : S8x8x2x512.Idx) :
    val_main_v94 (F := Ideal) x0 x1 x2 i = ((gDcq (nums N) (hh (i 0) (i 2)) (row (i 1) (i 3)) : ℝ) : EReal) := by
  have h0 : (i 0).val < 8 := (i 0).isLt
  have h1 : (i 1).val < 8 := (i 1).isLt
  have h2 : (i 2).val < 2 := (i 2).isLt
  have h3 : (i 3).val < 512 := (i 3).isLt
  rw [val_main_v94_apply, val_main_v93_apply, val_main_v92_apply, val_main_v83_apply, val_main_v82_apply, val_main_cst_16_apply, Ideal.ofBits_def,
    ofBits_zero, EReal.coe_zero, zero_add, Fin.sum_univ_one, val_main_v76_apply, val_main_v75_apply, val_main_cst_13_apply, Ideal.ofBits_def,
    ofBits_zero, EReal.coe_zero, zero_add]
  refine sum_coe _ (fun k => DS (nums N) (hh (i 0) (i 2)) k (row (i 1) (i 3))) fun k => ?_
  rw [ds_at H hμ]
  refine congrArg (fun z : ℝ => (z : EReal)) ?_
  refine congrArg₂ (fun a b => DS (nums N) a k b) (Fin.ext ?_) (Fin.ext ?_)
  · show (((((((i 0).val * 2 + (i 2).val) * 8 + (i 1).val) * 512 + (i 3).val) / 4096) * 4096 + ((((i 0).val * 2 + (i 2).val) * 8 + (i 1).val) * 512 + (i 3).val) % 4096) * 1 + 0) / 4096 = 2 * (i 0).val + (i 2).val
    omega
  · show (((((((i 0).val * 2 + (i 2).val) * 8 + (i 1).val) * 512 + (i 3).val) / 4096) * 4096 + ((((i 0).val * 2 + (i 2).val) * 8 + (i 1).val) * 512 + (i 3).val) % 4096) * 1 + 0) % 4096 = 512 * (i 1).val + (i 3).val
    omega

/-- The gradient of a key's cumulated log gate. -/
theorem ref_ck (H : Holding N x0 x1 x2) (hμ : ∀ j, val_main_v24 (F := Ideal) x0 x1 j = ((μ (j 0) (j 1) : ℝ) : EReal)) (i : S4096x16.Idx) :
    val_main_v81 (F := Ideal) x0 x1 x2 i = ((gDck (nums N) (i 1) (i 0) : ℝ) : EReal) := by
  have h0 : (i 0).val < 4096 := (i 0).isLt
  have h1 : (i 1).val < 16 := (i 1).isLt
  rw [val_main_v81_apply, val_main_v80_apply, val_main_cst_15_apply, Ideal.ofBits_def, ofBits_zero, EReal.coe_zero, zero_add, Fin.sum_univ_one,
    val_main_v79_apply, val_main_v78_apply, val_main_cst_14_apply, Ideal.ofBits_def, ofBits_zero, EReal.coe_zero, zero_add]
  unfold gDck
  refine Eq.trans ?_ (congrArg _ (Finset.sum_neg_distrib _))
  refine sum_coe _ (fun q => -DS (nums N) (i 1) (i 0) q) fun q => ?_
  rw [val_main_v77_apply, ds_at H hμ, EReal.coe_neg]
  refine congrArg (fun z : ℝ => -(z : EReal)) ?_
  refine congrArg₂ (fun a b => DS (nums N) a b q) (Fin.ext ?_) (Fin.ext ?_)
  · show (((i 1).val * 1 + 0) * 4096 + (i 0).val) / 4096 = (i 1).val
    omega
  · show (((i 1).val * 1 + 0) * 4096 + (i 0).val) % 4096 = (i 0).val
    omega

theorem ref_dck (H : Holding N x0 x1 x2) (hμ : ∀ j, val_main_v24 (F := Ideal) x0 x1 j = ((μ (j 0) (j 1) : ℝ) : EReal)) (i : S4096x1024.Idx) :
    val_main_v97 (F := Ideal) x0 x1 x2 i = ((lanes (nums N) (i 0) (i 1) : ℝ) : EReal) := by
  have h0 : (i 0).val < 4096 := (i 0).isLt
  have h1 : (i 1).val < 1024 := (i 1).isLt
  rw [val_main_v97_apply]
  unfold val_main_v96
  by_cases hl : (i 1).val % 128 < 2
  · refine (pad_apply_of_inside _ _ _ _ _ _ _ _ (ix3 (i 0) ⟨(i 1).val / 128, by omega⟩ ⟨(i 1).val % 128, hl⟩) (by
      intro a
      match a with
      | ⟨0, _⟩ => show ((i 0).val * 1024 + (i 1).val) / 1024 = 0 + (i 0).val * (0 + 1); omega
      | ⟨1, _⟩ => show ((i 0).val * 1024 + (i 1).val) / 128 % 8 = 0 + (i 1).val / 128 * (0 + 1); omega
      | ⟨2, _⟩ => show ((i 0).val * 1024 + (i 1).val) % 128 = 0 + (i 1).val % 128 * (0 + 1); omega)).trans ?_
    refine (val_main_v95_apply _ _ _ _).trans ((ref_ck H hμ _).trans (congrArg (fun z : ℝ => (z : EReal)) ?_))
    have b0 : idx_main_v95 (ix3 (i 0) ⟨(i 1).val / 128, by omega⟩ ⟨(i 1).val % 128, hl⟩) 0 = i 0 := Fin.ext (by
      show (((i 0).val * 8 + (i 1).val / 128) * 2 + (i 1).val % 128) / 16 = (i 0).val; omega)
    refine (congrArg (gDck (nums N) _) b0).trans ?_
    unfold lanes
    by_cases e0 : (i 1).val % 128 = 0
    · rw [if_pos e0]
      refine congrArg (fun a => gDck (nums N) a (i 0)) (Fin.ext ?_)
      show (((i 0).val * 8 + (i 1).val / 128) * 2 + (i 1).val % 128) % 16 = 2 * ((i 1).val / 128)
      omega
    · rw [if_neg e0, if_pos (show (i 1).val % 128 = 1 by omega)]
      refine congrArg (fun a => gDck (nums N) a (i 0)) (Fin.ext ?_)
      show (((i 0).val * 8 + (i 1).val / 128) * 2 + (i 1).val % 128) % 16 = 2 * ((i 1).val / 128) + 1
      omega
  · refine (pad_apply_of_not_inside _ _ _ _ _ _ _ _ 2 (by
      show ¬(0 ≤ ((i 0).val * 1024 + (i 1).val) % 128 ∧ (((i 0).val * 1024 + (i 1).val) % 128 - 0) % (0 + 1) = 0 ∧ (((i 0).val * 1024 + (i 1).val) % 128 - 0) / (0 + 1) < 2)
      omega)).trans ?_
    rw [val_main_call2_v0_apply, val_main_c_apply]
    unfold lanes
    rw [if_neg (show ¬(i 1).val % 128 = 0 by omega), if_neg (show ¬(i 1).val % 128 = 1 by omega)]
    show ((((0#32 : BitVec 32).toInt : ℤ) : ℝ) : EReal) = _
    simp

end Cert.KernelIdeal.FoxBwd
-- ==== Proof.Saved.lean ====
/-
  What the host saves for the call — the log-sums, the rows' means of the probabilities' gradients, the log gates
  laid out by pair of heads — and the numbers that these arrays hold.
-/
module

public import proofs.«01_k».proof.Proof.Grads
public import Idealize.ShloMosaic.Lib.Claim

@[expose] public section

set_option maxRecDepth 16384

noncomputable section

namespace Cert.KernelIdeal.FoxBwd

open Idealize.ShloMosaic Idealize.ShloMosaic.TcCoe Idealize.ShloMosaic.Tactic
open Idealize.SL.Sem
open Cert.KernelIdeal.Gen
open Cert.ReferenceIdeal.Read

variable (x0 : (⟨S4096x4224, .f32⟩ : BufTy).Contents (Elt Ideal)) (x1 : (⟨S4096x16, .f32⟩ : BufTy).Contents (Elt Ideal))
  (x2 : (⟨S4096x1024, .f32⟩ : BufTy).Contents (Elt Ideal))

/-- The row maxima, the shifted weights, their sums, the log-sums, and the rows' numbers, as the host computes them. -/
def hMax : FVec Ideal S16x4096x1 .f32 := broadcastInDim S16x4096x1 ![0, 1] bcast_S16x4096_S16x4096x1_0_1 (val_main_v24 (F := Ideal) x0 x1)
def hExp : FVec Ideal S16x4096x4096 .f32 :=
  Host.exp (subf (val_main_v23_0 (F := Ideal) x0 x1) (broadcastInDim S16x4096x4096 ![0, 1, 2] bcast_S16x4096x1_S16x4096x4096_0_1_2 (hMax x0 x1)))
def hSum : FVec Ideal S16x4096x1 .f32 :=
  broadcastInDim S16x4096x1 ![0, 1] bcast_S16x4096_S16x4096x1_0_1
    (Host.reduceAdd (hExp x0 x1) (constant S_ .f32 0x00000000#32) reducesTo_S16x4096x4096_S16x4096_d2 h_S_)
def hLse : FVec Ideal S4096x16 .f32 :=
  transpose S4096x16 [1, 0] (shapeCast S16x4096 (addf (hMax x0 x1) (Host.log (hSum x0 x1))) shapeCasts_S16x4096x1_S16x4096) transposes_S16x4096_S4096x16_1_0
def hProb : FVec Ideal S16x4096x4096 .f32 :=
  Host.divf (hExp x0 x1) (broadcastInDim S16x4096x4096 ![0, 1, 2] bcast_S16x4096x1_S16x4096x4096_0_1_2 (hSum x0 x1))
def hOut : FVec Ideal S16x64x4096 .f32 :=
  Host.dotGeneral (φ₁ := .f32) (φ₂ := .f32) dot_S4096x16x64_S16x4096x4096_S16x64x4096_0_2_2_1_1_0 none
    (val_main_v52 (F := Ideal) x0 : FVec Ideal S4096x16x64 .f32) (hProb x0 x1)
def hDd : FVec Ideal S4096x16 .f32 :=
  Host.reduceAdd (mulf (val_main_v56 (F := Ideal) x2)
    (transpose S4096x16x64 [2, 0, 1] (hOut x0 x1) transposes_S16x64x4096_S4096x16x64_2_0_1)) (constant S_ .f32 0x00000000#32) reducesTo_S4096x16x64_S4096x16_d2 h_S_

/-- An array of tokens and heads laid out by pair, block, head of the pair and row. -/
def laid (y : FVec Ideal S4096x16 .f32) : FVec Ideal S8x8x2x512 .f32 :=
  transpose S8x8x2x512 [0, 2, 1, 3] (shapeCast S8x2x8x512 (transpose S16x4096 [1, 0] y transposes_S4096x16_S16x4096_1_0) shapeCasts_S16x4096_S8x2x8x512)
    transposes_S8x2x8x512_S8x8x2x512_0_2_1_3

theorem laid_at (y : FVec Ideal S4096x16 .f32) (p b : Fin 8) (h : Fin 2) (s : Fin 512) : laid y (ix4 p b h s) = y (ix2 (row b s) (hh p h)) := by
  have hp : p.val < 8 := p.isLt
  have hb : b.val < 8 := b.isLt
  have h2 : h.val < 2 := h.isLt
  have hs : s.val < 512 := s.isLt
  unfold laid
  refine (transpose_apply [0, 2, 1, 3] _ transposes_S8x2x8x512_S8x8x2x512_0_2_1_3 (ix4 p b h s) (ix4 p h b s) (fun a => match a with
    | ⟨0, _⟩ => rfl
    | ⟨1, _⟩ => rfl
    | ⟨2, _⟩ => rfl
    | ⟨3, _⟩ => rfl)).trans ?_
  refine (shapeCast_apply _ shapeCasts_S16x4096_S8x2x8x512 (ix4 p h b s) (ix2 (hh p h) (row b s)) (by
    rewrite [Shape.rowMajor_val_two, Shape.rowMajor_val_four]
    show (2 * p.val + h.val) * 4096 + (512 * b.val + s.val) = ((p.val * 2 + h.val) * 8 + b.val) * 512 + s.val
    omega)).trans ?_
  exact transpose_apply [1, 0] y transposes_S4096x16_S16x4096_1_0 (ix2 (hh p h) (row b s)) (ix2 (row b s) (hh p h)) (fun a => match a with
    | ⟨0, _⟩ => rfl
    | ⟨1, _⟩ => rfl)

/-- The maximum with minus infinity changes nothing, so the saved probabilities are the reference's. -/
theorem v31_eq : val_main_v31 (F := Ideal) x0 x1 = val_main_v24 (F := Ideal) x0 x1 := funext fun j => by
  rw [val_main_v31_apply, val_main_v30_apply, val_main_cst_3_apply, Ideal.ofBits_def, ofBits_bot, Ideal.maximumf_def]
  exact max_bot_left _

theorem hMax_eq : hMax x0 x1 = val_main_v41 (F := Ideal) x0 x1 := by
  unfold hMax val_main_v41
  rw [v31_eq]
theorem hExp_eq : hExp x0 x1 = val_main_v44 (F := Ideal) x0 x1 := by
  unfold hExp
  rw [hMax_eq]
  rfl
theorem hSum_eq : hSum x0 x1 = val_main_v46 (F := Ideal) x0 x1 := by
  unfold hSum
  rw [hExp_eq]
  rfl
theorem hProb_eq : hProb x0 x1 = val_main_v48 (F := Ideal) x0 x1 := by
  unfold hProb
  rw [hExp_eq, hSum_eq]
  rfl
theorem hOut_eq : hOut x0 x1 = val_main_v53 (F := Ideal) x0 x1 := by
  unfold hOut
  rw [hProb_eq]
  rfl

section Reals

variable {x0 x1 x2} {N : Given} {μ : Fin 16 → Fin 4096 → ℝ}

/-- A sum with a logarithm, read in the layout of tokens and heads. -/
theorem lse_lay (a b : FVec Ideal S16x4096x1 .f32) (n : Fin 4096) (h : Fin 16) :
    transpose S4096x16 [1, 0] (shapeCast S16x4096 (addf a (Host.log b)) shapeCasts_S16x4096x1_S16x4096) transposes_S16x4096_S4096x16_1_0 (ix2 n h)
      = a (ix3 h n 0) + Ideal.log (b (ix3 h n 0)) := by
  refine (transpose_apply [1, 0] _ transposes_S16x4096_S4096x16_1_0 (ix2 n h) (ix2 h n) (fun a => match a with
    | ⟨0, _⟩ => rfl
    | ⟨1, _⟩ => rfl)).trans ?_
  exact shapeCast_apply _ shapeCasts_S16x4096x1_S16x4096 (ix2 h n) (ix3 h n 0) (by
    rewrite [Shape.rowMajor_val_two, Shape.rowMajor_val_three]
    show (h.val * 4096 + n.val) * 1 + 0 = h.val * 4096 + n.val
    omega)

theorem max1_at (hμ : ∀ j, val_main_v24 (F := Ideal) x0 x1 j = ((μ (j 0) (j 1) : ℝ) : EReal)) (i : S16x4096x1.Idx) :
    val_main_v41 (F := Ideal) x0 x1 i = ((μ (i 0) (i 1) : ℝ) : EReal) := by
  rw [val_main_v41_apply, v31_eq, hμ]
  rfl

theorem log_sum (h : Fin 16) (n : Fin 4096) (ν : ℝ) :
    ((ν : ℝ) : EReal) + Ideal.log ((∑ k, wsh N ν h n k : ℝ) : EReal) = (((nums N).L h n : ℝ) : EReal) := by
  rw [Ideal.log_coe, if_neg (not_le.2 (sum_wsh_pos N ν h n)), ← EReal.coe_add, add_log]
  rfl

/-- The saved log-sum is the logarithm of the query's sum of weights. -/
theorem hLse_at (H : Holding N x0 x1 x2) (hμ : ∀ j, val_main_v24 (F := Ideal) x0 x1 j = ((μ (j 0) (j 1) : ℝ) : EReal)) (n : Fin 4096) (h : Fin 16) :
    hLse x0 x1 (ix2 n h) = (((nums N).L h n : ℝ) : EReal) := by
  unfold hLse
  rw [hMax_eq, hSum_eq, lse_lay, max1_at hμ, lsum1_at H hμ]
  exact log_sum h n (μ h n)

/-- The product of the output with its gradient, summed over a head, is the mean of the probabilities' gradients. -/
theorem dm_eq (h : Fin 16) (n : Fin 4096) : (∑ d, N.G n (hc h d) * ∑ k, N.V k (hc h d) * PR (nums N) h k n) = (nums N).D h n := by
  show _ = ∑ k, wt N h n k / tot N h n * dp N h n k
  simp only [dp, Finset.mul_sum, PR_nums]
  rw [Finset.sum_comm]
  exact Finset.sum_congr rfl fun k _ => Finset.sum_congr rfl fun d _ => by ring

theorem out_at (H : Holding N x0 x1 x2) (hμ : ∀ j, val_main_v24 (F := Ideal) x0 x1 j = ((μ (j 0) (j 1) : ℝ) : EReal)) (i : S4096x16x64.Idx) :
    val_main_v54 (F := Ideal) x0 x1 i = ((∑ k, N.V k (hc (i 1) (i 2)) * PR (nums N) (i 1) k (i 0) : ℝ) : EReal) := by
  rw [val_main_v54_apply, val_main_v53_apply]
  refine sum_coe _ _ fun k => ?_
  rw [v_at H, prob_at H hμ, EReal.coe_mul]
  rfl

theorem hDd_at (H : Holding N x0 x1 x2) (hμ : ∀ j, val_main_v24 (F := Ideal) x0 x1 j = ((μ (j 0) (j 1) : ℝ) : EReal)) (n : Fin 4096) (h : Fin 16) :
    hDd x0 x1 x2 (ix2 n h) = (((nums N).D h n : ℝ) : EReal) := by
  unfold hDd
  rw [hOut_eq]
  have e : ∀ y : FVec Ideal S4096x16x64 .f32, Host.reduceAdd y (constant S_ .f32 0x00000000#32) reducesTo_S4096x16x64_S4096x16_d2 h_S_ (ix2 n h)
      = ∑ d : Fin 64, y (ix3 n h d) := by
    intro y
    simp only [Host.reduceAdd, Ideal.hostReduceAdd_def]
    rw [Ideal.hostReduceAdd_single reducesTo_S4096x16x64_S4096x16_d2 (by decide)]
    refine Eq.trans (congrArg₂ (· + ·) (show _ = (0 : EReal) from ?_) (Finset.sum_congr rfl fun k _ => ?_)) (zero_add _)
    · show Ideal.ofBits .f32 0x00000000#32 = 0
      rw [ofBits_zero, EReal.coe_zero]
    · exact congrArg y (funext fun a => Fin.ext (by match a with | ⟨0, _⟩ => rfl | ⟨1, _⟩ => rfl | ⟨2, _⟩ => rfl))
  rw [e, ← dm_eq]
  refine sum_coe _ _ fun d => ?_
  have e1 : val_main_v56 (F := Ideal) x2 (ix3 n h d) = ((N.G n (hc h d) : ℝ) : EReal) := g_at H _
  have e2 : val_main_v54 (F := Ideal) x0 x1 (ix3 n h d) = ((∑ k, N.V k (hc h d) * PR (nums N) h k n : ℝ) : EReal) := out_at H hμ _
  refine Eq.trans (show _ = val_main_v56 (F := Ideal) x2 (ix3 n h d) * val_main_v54 (F := Ideal) x0 x1 (ix3 n h d) from rfl) ?_
  rw [e1, e2, EReal.coe_mul]

end Reals

variable (m : (ℓ : Loc nD τ sig) → Buf (Elt Ideal) ℓ) (c : Dev nD)

theorem V_ct : V m c main_v46 = laid (m ((c.tc : Thread nD τ).loc main_arg1)) := by
  delta V
  simp only [hostOps0, hostOps0_1, hostOps0_2, hostOps0_3, hostOps0_4, List.flatten_cons, List.flatten_nil, List.append_nil, List.cons_append, List.nil_append]
  entry_read
  try simp -implicitDefEqProofs only [StableHlo.TRef.toBuf, StableHlo.TRef.ofBuf, cast_cast, cast_eq]
  with_unfolding_all rfl
theorem V_ck : V m c main_v43 = pad S4096x128 ![0, 0] ![0, 112] ![0, 0] (m ((c.tc : Thread nD τ).loc main_arg1)) (sitofp (F := Ideal) .f32 (constantI S_ 32 0#32))
    pads_S4096x16_S4096x128_000_01120 h_S_ := by
  delta V
  simp only [hostOps0, hostOps0_1, hostOps0_2, hostOps0_3, hostOps0_4, List.flatten_cons, List.flatten_nil, List.append_nil, List.cons_append, List.nil_append]
  entry_read
  try simp -implicitDefEqProofs only [StableHlo.TRef.toBuf, StableHlo.TRef.ofBuf, cast_cast, cast_eq]
  try with_unfolding_all rfl
theorem V_lse : V m c main_v49 = laid (hLse (m ((c.tc : Thread nD τ).loc main_arg0)) (m ((c.tc : Thread nD τ).loc main_arg1))) := by
  delta V
  simp only [hostOps0, hostOps0_1, hostOps0_2, hostOps0_3, hostOps0_4, List.flatten_cons, List.flatten_nil, List.append_nil, List.cons_append, List.nil_append]
  entry_read
  try simp -implicitDefEqProofs only [StableHlo.TRef.toBuf, StableHlo.TRef.ofBuf, cast_cast, cast_eq]
  with_unfolding_all rfl
theorem V_dd : V m c main_v52 = laid (hDd (m ((c.tc : Thread nD τ).loc main_arg0)) (m ((c.tc : Thread nD τ).loc main_arg1)) (m ((c.tc : Thread nD τ).loc main_arg2))) := by
  delta V
  simp only [hostOps0, hostOps0_1, hostOps0_2, hostOps0_3, hostOps0_4, List.flatten_cons, List.flatten_nil, List.append_nil, List.cons_append, List.nil_append]
  entry_read
  try simp -implicitDefEqProofs only [StableHlo.TRef.toBuf, StableHlo.TRef.ofBuf, cast_cast, cast_eq]
  with_unfolding_all rfl

variable {m c} {N : Given} {μ : Fin 16 → Fin 4096 → ℝ}

theorem entry_z : (entryArrs m c).z = m ((c.tc : Thread nD τ).loc main_arg0) := V_main_arg0 m c
theorem entry_zk : (entryArrs m c).zk = m ((c.tc : Thread nD τ).loc main_arg0) := V_main_arg0 m c
theorem entry_zv : (entryArrs m c).zv = m ((c.tc : Thread nD τ).loc main_arg0) := V_main_arg0 m c
theorem entry_g : (entryArrs m c).g = m ((c.tc : Thread nD τ).loc main_arg2) := V_main_arg2 m c
theorem entry_ck : (entryArrs m c).ck = pad S4096x128 ![0, 0] ![0, 112] ![0, 0] (m ((c.tc : Thread nD τ).loc main_arg1)) (sitofp (F := Ideal) .f32 (constantI S_ 32 0#32))
    pads_S4096x16_S4096x128_000_01120 h_S_ := V_ck m c
theorem entry_ct : (entryArrs m c).ct = laid (m ((c.tc : Thread nD τ).loc main_arg1)) := V_ct m c
theorem entry_lse : (entryArrs m c).lse = laid (hLse (m ((c.tc : Thread nD τ).loc main_arg0)) (m ((c.tc : Thread nD τ).loc main_arg1))) := V_lse m c
theorem entry_dd : (entryArrs m c).dd = laid (hDd (m ((c.tc : Thread nD τ).loc main_arg0)) (m ((c.tc : Thread nD τ).loc main_arg1)) (m ((c.tc : Thread nD τ).loc main_arg2))) := V_dd m c

/-- The arrays that the call finds hold the numbers. -/
theorem entry (H : Holding N (m ((c.tc : Thread nD τ).loc main_arg0)) (m ((c.tc : Thread nD τ).loc main_arg1)) (m ((c.tc : Thread nD τ).loc main_arg2)))
    (hμ : ∀ j, val_main_v24 (F := Ideal) (m ((c.tc : Thread nD τ).loc main_arg0)) (m ((c.tc : Thread nD τ).loc main_arg1)) j = ((μ (j 0) (j 1) : ℝ) : EReal)) :
    Entry (nums N) c (entryArrs m c) where
  q n x := (congrFun entry_z _).trans (H.q n x)
  k n x := (congrFun entry_zk _).trans (H.k n x)
  v n x := (congrFun entry_zv _).trans (H.v n x)
  g n x := (congrFun entry_g _).trans (H.g n x)
  ck n h := by
    refine (congrFun entry_ck _).trans ((pad_apply_of_inside _ _ _ _ _ _ _ _ (ix2 n h) ?_).trans (H.c n h))
    intro a
    match a with
    | ⟨0, _⟩ => show n.val = 0 + n.val * (0 + 1); omega
    | ⟨1, _⟩ => show h.val = 0 + h.val * (0 + 1); omega
  ct p b h s := (congrFun entry_ct _).trans ((laid_at _ p b h s).trans (H.c _ _))
  lse p b h s := (congrFun entry_lse _).trans ((laid_at _ p b h s).trans (hLse_at H hμ _ _))
  dd p b h s := (congrFun entry_dd _).trans ((laid_at _ p b h s).trans (hDd_at H hμ _ _))

end Cert.KernelIdeal.FoxBwd
-- ==== Proof.Inputs.lean ====
/-
  The precondition read: every query, key, value, log gate and output gradient is a real number.
-/
module

public import proofs.«01_k».proof.Proof.Logit
public import proofs.«01_k».proof.Proof.Gen.Pre_finite
public import Idealize.ShloMosaic.Lib.Pipeline.Value

@[expose] public section

set_option maxRecDepth 16384

noncomputable section

namespace Cert.KernelIdeal.FoxBwd

open Idealize.ShloMosaic Idealize.ShloMosaic.TcCoe Idealize.ShloMosaic.Tactic
open Cert.Pre_finite.Gen

/-- A number whose absolute value lies below plus infinity is real. -/
theorem real_of_abs {x : EReal} (h : Ideal.cmp .olt (max x (-x)) ⊤ = 1#1) : x = ((x.toReal : ℝ) : EReal) := by
  have h' : max x (-x) < ⊤ := by
    by_contra hn
    simp [Ideal.cmp, hn] at h
  refine (EReal.coe_toReal (lt_of_le_of_lt (le_max_left _ _) h').ne fun e => ?_).symm
  rw [e] at h'
  exact absurd h' (by simp)

theorem ofBits_top : Ideal.ofBits .f32 0x7F800000#32 = (⊤ : EReal) := by simp [Ideal.ofBits, Ideal.ieee]

variable {x0 : (⟨Cert.Pre_finite.S4096x4224, .f32⟩ : BufTy).Contents (Elt Ideal)} {x1 : (⟨Cert.Pre_finite.S4096x16, .f32⟩ : BufTy).Contents (Elt Ideal)}
  {x2 : (⟨Cert.Pre_finite.S4096x1024, .f32⟩ : BufTy).Contents (Elt Ideal)}

/-- The three pieces, and the arrays side by side. -/
abbrev pieces (x0 : FVec Ideal Cert.Pre_finite.S4096x4224 .f32) (x1 : FVec Ideal Cert.Pre_finite.S4096x16 .f32) (x2 : FVec Ideal Cert.Pre_finite.S4096x1024 .f32) :
    List ((s : Shape) × (s.Idx → EReal)) :=
  [⟨Cert.Pre_finite.S4096x3072, extractStridedSlice Cert.Pre_finite.S4096x3072 ![0, 0] x0 slices_S4096x4224_S4096x3072_0_0⟩, ⟨Cert.Pre_finite.S4096x16, x1⟩,
    ⟨Cert.Pre_finite.S4096x1024, x2⟩]
def side (x0 : FVec Ideal Cert.Pre_finite.S4096x4224 .f32) (x1 : FVec Ideal Cert.Pre_finite.S4096x16 .f32) (x2 : FVec Ideal Cert.Pre_finite.S4096x1024 .f32) :
    FVec Ideal Cert.Pre_finite.S4096x4112 .f32 :=
  concatenate (α := EReal) Cert.Pre_finite.S4096x4112 1 (pieces x0 x1 x2) concatenates_S4096x3072_S4096x16_S4096x1024_S4096x4112_d1

theorem side_real (h : Cert.Pre_finite.fn (F := Ideal) x0 x1 x2 = fun _ => 1#1) (j : Cert.Pre_finite.S4096x4112.Idx) :
    side x0 x1 x2 j = (((side x0 x1 x2 j).toReal : ℝ) : EReal) := by
  refine real_of_abs ?_
  rw [← ofBits_top]
  exact congrFun h j

theorem side_z (n : Fin 4096) (x : Fin 3072) : side x0 x1 x2 (ix2 n ⟨x.val, by omega⟩) = x0 (ix2 n ⟨x.val, by omega⟩) := by
  unfold side
  refine (concatenate_apply_piece (α := EReal) (t := Cert.Pre_finite.S4096x4112) 1 (pieces x0 x1 x2) concatenates_S4096x3072_S4096x16_S4096x1024_S4096x4112_d1 _ 0 (show 0 < 3 by omega) Cert.Pre_finite.S4096x3072 _ rfl rfl 0 rfl (ix2 n x) (fun b hb => ?_) ?_).trans ?_
  · match b with
    | ⟨0, _⟩ => rfl
    | ⟨1, _⟩ => exact absurd rfl hb
  · show 0 + x.val = x.val; omega
  · refine congrArg x0 (funext fun a => Fin.ext ?_)
    match a with
    | ⟨0, _⟩ => show 0 + n.val = n.val; omega
    | ⟨1, _⟩ => show 0 + x.val = x.val; omega

theorem side_c (n : Fin 4096) (x : Fin 16) : side x0 x1 x2 (ix2 n ⟨3072 + x.val, by omega⟩) = x1 (ix2 n x) := by
  unfold side
  refine (concatenate_apply_piece (α := EReal) (t := Cert.Pre_finite.S4096x4112) 1 (pieces x0 x1 x2) concatenates_S4096x3072_S4096x16_S4096x1024_S4096x4112_d1 _ 1 (show 1 < 3 by omega) Cert.Pre_finite.S4096x16 _ rfl rfl 3072 rfl (ix2 n x) (fun b hb => ?_) ?_)
  · match b with
    | ⟨0, _⟩ => rfl
    | ⟨1, _⟩ => exact absurd rfl hb
  · rfl

theorem side_g (n : Fin 4096) (x : Fin 1024) : side x0 x1 x2 (ix2 n ⟨3088 + x.val, by omega⟩) = x2 (ix2 n x) := by
  unfold side
  refine (concatenate_apply_piece (α := EReal) (t := Cert.Pre_finite.S4096x4112) 1 (pieces x0 x1 x2) concatenates_S4096x3072_S4096x16_S4096x1024_S4096x4112_d1 _ 2 (show 2 < 3 by omega) Cert.Pre_finite.S4096x1024 _ rfl rfl 3088 rfl (ix2 n x) (fun b hb => ?_) ?_)
  · match b with
    | ⟨0, _⟩ => rfl
    | ⟨1, _⟩ => exact absurd rfl hb
  · rfl

/-- The numbers that the arrays hold. -/
def given (x0 : FVec Ideal Cert.Pre_finite.S4096x4224 .f32) (x1 : FVec Ideal Cert.Pre_finite.S4096x16 .f32) (x2 : FVec Ideal Cert.Pre_finite.S4096x1024 .f32) : Given where
  Q n x := EReal.toReal (x0 (ix2 n ⟨x.val, by omega⟩))
  K n x := EReal.toReal (x0 (ix2 n ⟨1024 + x.val, by omega⟩))
  V n x := EReal.toReal (x0 (ix2 n ⟨2048 + x.val, by omega⟩))
  G n x := EReal.toReal (x2 (ix2 n x))
  C h n := EReal.toReal (x1 (ix2 n h))

theorem holding (h : Cert.Pre_finite.fn (F := Ideal) x0 x1 x2 = fun _ => 1#1) : Holding (given x0 x1 x2) x0 x1 x2 where
  q n x := by have e := side_real h (ix2 n ⟨x.val, by omega⟩); rw [side_z n ⟨x.val, by omega⟩] at e; exact e
  k n x := by have e := side_real h (ix2 n ⟨1024 + x.val, by omega⟩); rw [side_z n ⟨1024 + x.val, by omega⟩] at e; exact e
  v n x := by have e := side_real h (ix2 n ⟨2048 + x.val, by omega⟩); rw [side_z n ⟨2048 + x.val, by omega⟩] at e; exact e
  g n x := by have e := side_real h (ix2 n ⟨3088 + x.val, by omega⟩); rw [side_g n x] at e; exact e
  c n h' := by have e := side_real h (ix2 n ⟨3072 + h'.val, by omega⟩); rw [side_c n h'] at e; exact e

end Cert.KernelIdeal.FoxBwd
-- ==== Proof.Results.lean ====
/-
  The results of both programs, from arguments that are real numbers: the same gradients of the forgetting attention.
-/
module

public import proofs.«01_k».proof.Proof.Saved
public import proofs.«01_k».proof.Proof.Inputs
public import proofs.«01_k».proof.Proof.Gen.ReferenceIdeal.Run

@[expose] public section

set_option maxRecDepth 16384

noncomputable section

namespace Cert.KernelIdeal.FoxBwd

open Idealize.ShloMosaic Idealize.ShloMosaic.TcCoe Idealize.ShloMosaic.Tactic
open Idealize.SL.Sem
open Cert.KernelIdeal.Gen
open Cert.ReferenceIdeal.Read

/-- The numbers of device `c`. -/
def numbers (m : (ℓ : Loc nD τ sig) → Buf (Elt Ideal) ℓ) (c : Dev nD) : RArr :=
  nums (given (m ((c.tc : Thread nD τ).loc main_arg0)) (m ((c.tc : Thread nD τ).loc main_arg1)) (m ((c.tc : Thread nD τ).loc main_arg2)))

/-- The arguments are real numbers on every device. -/
abbrev Finite (m : (ℓ : Loc nD τ sig) → Buf (Elt Ideal) ℓ) : Prop :=
  ∀ c : Dev nD, Cert.Pre_finite.fn (F := Ideal) (m ((c.tc : Thread nD τ).loc main_arg0)) (m ((c.tc : Thread nD τ).loc main_arg1)) (m ((c.tc : Thread nD τ).loc main_arg2))
    = fun _ => 1#1

/-- The row maxima are real numbers. -/
theorem exists_max {N : Given} {x0 : (⟨S4096x4224, .f32⟩ : BufTy).Contents (Elt Ideal)} {x1 : (⟨S4096x16, .f32⟩ : BufTy).Contents (Elt Ideal)}
    {x2 : (⟨S4096x1024, .f32⟩ : BufTy).Contents (Elt Ideal)} (H : Holding N x0 x1 x2) :
    ∃ μ : Fin 16 → Fin 4096 → ℝ, ∀ j, val_main_v24 (F := Ideal) x0 x1 j = ((μ (j 0) (j 1) : ℝ) : EReal) := by
  choose f hf using max_real H
  refine ⟨fun h q => f (ix2 h q), fun j => ?_⟩
  rw [hf j]
  exact congrArg (fun i => ((f i : ℝ) : EReal)) (eq_ix2 (n0 := 16) (n1 := 4096) j)

variable (m : (ℓ : Loc nD τ sig) → Buf (Elt Ideal) ℓ) (ρ : Dev nD → PrngReg)

theorem entry_of (hp : Finite m) (c : Dev nD) : Entry (numbers m c) c (entryArrs m c) :=
  let ⟨μ, hμ⟩ := exists_max (holding (hp c))
  entry (holding (hp c)) hμ

/-- The kernel ends with the gradients, its arguments as they were. -/
theorem kernel_results (hp : Finite m) : θ_run defs (onTc (τ := τ) (main (F := Ideal))) ⟨m, fun _ => 0, ρ⟩ (fun r => ∀ c : Dev nD,
      r.2.mem ((c.tc : Thread nD τ).loc main_v53_0) = GDq (numbers m c) c
      ∧ r.2.mem ((c.tc : Thread nD τ).loc main_v53_1) = GDk (numbers m c) c
      ∧ r.2.mem ((c.tc : Thread nD τ).loc main_v53_2) = GDv (numbers m c) c
      ∧ r.2.mem ((c.tc : Thread nD τ).loc main_v53_3) = GDcq (numbers m c) c
      ∧ r.2.mem ((c.tc : Thread nD τ).loc main_v53_4) = GDck (numbers m c) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 8).trans (final_dq (entry_of m hp c)), ((h.1 c).1 9).trans (final_dk (entry_of m hp c)),
      ((h.1 c).1 10).trans (final_dv (entry_of m hp c)), ((h.1 c).1 11).trans (final_dcq (entry_of m hp c)),
      ((h.1 c).1 12).trans (final_dck (entry_of m hp c)), (h.2.1 c).1, (h.2.1 c).2.1, (h.2.1 c).2.2⟩)
    (θ_run_and (run_main m ρ) (frame_any m ρ))

/-- The reference, from the same arguments, computes the same gradients. -/
theorem reference_results {N : Given} {x0 : (⟨S4096x4224, .f32⟩ : BufTy).Contents (Elt Ideal)} {x1 : (⟨S4096x16, .f32⟩ : BufTy).Contents (Elt Ideal)}
    {x2 : (⟨S4096x1024, .f32⟩ : BufTy).Contents (Elt Ideal)} (H : Holding N x0 x1 x2) (c : Dev nD) :
    val_main_v98 (F := Ideal) x0 x1 x2 = GDq (nums N) c ∧ val_main_v99 (F := Ideal) x0 x1 x2 = GDk (nums N) c
      ∧ val_main_v100 (F := Ideal) x0 x1 x2 = GDv (nums N) c ∧ val_main_v94 (F := Ideal) x0 x1 x2 = GDcq (nums N) c
      ∧ val_main_v97 (F := Ideal) x0 x1 x2 = GDck (nums N) c :=
  let ⟨μ, hμ⟩ := exists_max H
  ⟨funext fun i => ref_dq H hμ i, funext fun i => ref_dk H hμ i, funext fun i => ref_dv H hμ i, funext fun i => ref_dcq H hμ i,
    funext fun i => ref_dck H hμ i⟩

end Cert.KernelIdeal.FoxBwd
-- ==== Proof.Products.lean ====
/-
  The three products of two matrices over the extended reals, as sums, and when two of their entries agree.
-/
module

public import Idealize.ShloMosaic.PureOps.Ideal.Laws
public import Idealize.ShloMosaic.Lib.Pointwise

@[expose] public section

noncomputable section

namespace Cert.Products

open Idealize.ShloMosaic Idealize.ShloMosaic.Tactic

/-- The shape of a matrix. -/
abbrev Mat (M N : ℕ) : Shape := ⟨2, ![M, N]⟩

variable {M N K M' N' : ℕ}

/-- aᵀ · b: the gradient of a product's right factor. -/
def tn (a : (Mat K M).Idx → EReal) (b : (Mat K N).Idx → EReal) : (Mat M N).Idx → EReal := fun i => ∑ k : Fin K, a (ix2 k (i 0)) * b (ix2 k (i 1))
/-- a · bᵀ: the gradient of a product's left factor. -/
def nt (a : (Mat M K).Idx → EReal) (b : (Mat N K).Idx → EReal) : (Mat M N).Idx → EReal := fun i => ∑ k : Fin K, a (ix2 (i 0) k) * b (ix2 (i 1) k)
/-- a · b. -/
def nn (a : (Mat M K).Idx → EReal) (b : (Mat K N).Idx → EReal) : (Mat M N).Idx → EReal := fun i => ∑ k : Fin K, a (ix2 (i 0) k) * b (ix2 k (i 1))

/-- An array added to another. -/
def plus (d a : (Mat M N).Idx → EReal) : (Mat M N).Idx → EReal := fun i => d i + a i

/-- A tile to which the addend's tile is added. -/
theorem plus_tile {d a : (Mat M N).Idx → EReal} {i : (Mat M N).Idx} {t z : EReal} (ht : t = a i) (hz : z = d i) : t + z = plus d a i :=
  (add_comm t z).trans (congrArg₂ (· + ·) hz ht)

/-- A tile of a product is the product of the factors' tiles: the tile's entry `j` is the whole product's entry `i` where the tiles' columns
    are the factors'. -/
theorem tn_tile {a : (Mat K M).Idx → EReal} {b : (Mat K N).Idx → EReal} {x : (Mat K M').Idx → EReal} {y : (Mat K N').Idx → EReal}
    {j : (Mat M' N').Idx} {i : (Mat M N).Idx} (hx : ∀ k, x (ix2 k (j 0)) = a (ix2 k (i 0))) (hy : ∀ k, y (ix2 k (j 1)) = b (ix2 k (i 1))) :
    tn x y j = tn a b i :=
  Finset.sum_congr rfl fun k _ => congrArg₂ (· * ·) (hx k) (hy k)

/-- The same for rows and rows. -/
theorem nt_tile {a : (Mat M K).Idx → EReal} {b : (Mat N K).Idx → EReal} {x : (Mat M' K).Idx → EReal} {y : (Mat N' K).Idx → EReal}
    {j : (Mat M' N').Idx} {i : (Mat M N).Idx} (hx : ∀ k, x (ix2 (j 0) k) = a (ix2 (i 0) k)) (hy : ∀ k, y (ix2 (j 1) k) = b (ix2 (i 1) k)) :
    nt x y j = nt a b i :=
  Finset.sum_congr rfl fun k _ => congrArg₂ (· * ·) (hx k) (hy k)

/-- The same for rows and columns. -/
theorem nn_tile {a : (Mat M K).Idx → EReal} {b : (Mat K N).Idx → EReal} {x : (Mat M' K).Idx → EReal} {y : (Mat K N').Idx → EReal}
    {j : (Mat M' N').Idx} {i : (Mat M N).Idx} (hx : ∀ k, x (ix2 (j 0) k) = a (ix2 (i 0) k)) (hy : ∀ k, y (ix2 k (j 1)) = b (ix2 k (i 1))) :
    nn x y j = nn a b i :=
  Finset.sum_congr rfl fun k _ => congrArg₂ (· * ·) (hx k) (hy k)

/-- The host computes the gradient of the right factor as the transpose of bᵀ · a. -/
theorem tn_comm (a : (Mat K M).Idx → EReal) (b : (Mat K N).Idx → EReal) (r : Fin M) (s : Fin N) : tn b a (ix2 s r) = tn a b (ix2 r s) :=
  Finset.sum_congr rfl fun k _ => mul_comm _ _

end Cert.Products
-- ==== Proof.Product2.lean ====
/-
  The gradient of the input projection's weights, of a block of 4224 columns: the tiled product is the host's product.
-/
module

public import proofs.«01_k».proof.Defs
public import proofs.«01_k».proof.Proof.Products
public import proofs.«01_k».proof.Proof.Gen.Kernel2
public import proofs.«01_k».proof.Proof.Gen.Kernel2Ideal.Value
public import proofs.«01_k».proof.Proof.Gen.Reference2Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel2Ideal.Product

open Idealize.ShloMosaic Idealize.ShloMosaic.TcCoe Idealize.ShloMosaic.Tactic
open Idealize.SL.Sem
open Cert.Products
open Cert.Kernel2Ideal.Gen

/-- The tile that a grid point computes. -/
theorem tile (x : Vec Ideal S4096x512 .bf16) (y : Vec Ideal S4096x1408 .bf16) (j : S512x1408.Idx) : k0_pay1 x y j = tn (K := 4096) x y j := by
  rw [eq_ix2 (n0 := 512) (n1 := 1408) j]
  pointwise [k0_pay1]
  rfl

/-- Which blocks a point reads and writes. -/
theorem blocks : ∀ t : Fin cfg0.N, win0_0.index t = ![0, t.val / 3] ∧ win0_1.index t = ![0, t.val % 3] ∧ win0_2.index t = ![t.val / 3, t.val % 3] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := tn (K := 4096) (m ((c.tc : Thread nD τ).loc main_arg0)) (m ((c.tc : Thread nD τ).loc main_arg2))

theorem final : (dats m 0 c).arrAt 2 cfg0.N = result m c := by
  refine (dats m 0 c).arrAt_eq_of_covers 2 (result m c) (by decide +kernel) fun t _ y => ?_
  blk_simp
  rw [after0_2]
  frame_out
  refine (tile _ _ _).trans (tn_tile (fun k => ?_) fun k => ?_)
  · blk_ext [iblk, V, (blocks t).1, (blocks t).2.2]
  · blk_ext [iblk, V, (blocks t).2.1, (blocks t).2.2]

open Cert.Reference2Ideal Cert.Reference2Ideal.Gen in
/-- The host's product is the same sum. -/
theorem host (x : FVec Ideal Cert.Reference2Ideal.S4096x2048 .bf16) (y : FVec Ideal Cert.Reference2Ideal.S4096x4224 .bf16) :
    transpose Cert.Reference2Ideal.S2048x4224 [1, 0] (Host.dotGeneral dot_S4096x4224_S4096x2048_S4224x2048_0_0_1_1_n_n none (extf .f32 y bitsLt_bf16_f32) (extf .f32 x bitsLt_bf16_f32)) transposes_S4224x2048_S2048x4224_1_0
      = tn (K := 4096) x y := by
  funext i
  rw [eq_ix2 (n0 := 2048) (n1 := 4224) i]
  pointwise
  exact tn_comm (K := 4096) x y _ _

set_option smartUnfolding false in
/-- The kernel over the machine's floats is the same program. -/
theorem frame_kernel : Cert.quiescent_Kernel2 := fun m ρ _ => by
  rw [show Cert.Kernel2.defs (F := Bits) = defs (F := Bits) from rfl, show Cert.Kernel2.main (F := Bits) = main (F := Bits) from rfl]
  exact frame (F := Bits) m ρ
theorem frame_ideal : Cert.quiescent_Kernel2Ideal := fun m ρ _ => frame (F := Ideal) m ρ
theorem frame_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- Kernel and reference end with the same array. -/
theorem equal : Cert.algebraic_Kernel2Ideal_Reference2Ideal := fun m ρ m' ρ' _ ha =>
  ⟨result m, (θ_run defs _ _).mono (fun _ h c => ⟨(h c).1.trans (final m c), (h c).2⟩) (Value.run_blocks m ρ),
    (θ_run Cert.Reference2Ideal.defs _ _).mono (fun _ h c => ⟨(h c).1.trans ((host _ _).trans
      (congrArg₂ (tn (K := 4096)) (ha c).1 (ha c).2.2)), (h c).2⟩)
      (Cert.Reference2Ideal.Value.run m' ρ')⟩

end Cert.Kernel2Ideal.Product
-- ==== Proof.Product3.lean ====
/-
  The gradient of the input projection's weights, of the merge gates' 4096 columns: the tiled product is the host's product.
-/
module

public import proofs.«01_k».proof.Defs
public import proofs.«01_k».proof.Proof.Products
public import proofs.«01_k».proof.Proof.Gen.Kernel3
public import proofs.«01_k».proof.Proof.Gen.Kernel3Ideal.Value
public import proofs.«01_k».proof.Proof.Gen.Reference3Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel3Ideal.Product

open Idealize.ShloMosaic Idealize.ShloMosaic.TcCoe Idealize.ShloMosaic.Tactic
open Idealize.SL.Sem
open Cert.Products
open Cert.Kernel3Ideal.Gen

/-- The tile that a grid point computes. -/
theorem tile (x : Vec Ideal S4096x1024 .bf16) (y : Vec Ideal S4096x512 .bf16) (j : S1024x512.Idx) : k0_pay1 x y j = tn (K := 4096) x y j := by
  rw [eq_ix2 (n0 := 1024) (n1 := 512) j]
  pointwise [k0_pay1]
  rfl

/-- Which blocks a point reads and writes. -/
theorem blocks : ∀ t : Fin cfg0.N, win0_0.index t = ![0, t.val / 8] ∧ win0_1.index t = ![0, t.val % 8] ∧ win0_2.index t = ![t.val / 8, t.val % 8] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := tn (K := 4096) (m ((c.tc : Thread nD τ).loc main_arg0)) (m ((c.tc : Thread nD τ).loc main_arg2))

theorem final : (dats m 0 c).arrAt 2 cfg0.N = result m c := by
  refine (dats m 0 c).arrAt_eq_of_covers 2 (result m c) (by decide +kernel) fun t _ y => ?_
  blk_simp
  rw [after0_2]
  frame_out
  refine (tile _ _ _).trans (tn_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference3Ideal.S4096x2048 .bf16) (y : FVec Ideal Cert.Reference3Ideal.S4096x4096 .bf16) :
    transpose Cert.Reference3Ideal.S2048x4096 [1, 0] (Host.dotGeneral Cert.Reference3Ideal.dot_S4096x4096_S4096x2048_S4096x2048_0_0_1_1_n_n none (extf .f32 y Cert.Reference3Ideal.Gen.bitsLt_bf16_f32) (extf .f32 x Cert.Reference3Ideal.Gen.bitsLt_bf16_f32)) Cert.Reference3Ideal.Gen.transposes_S4096x2048_S2048x4096_1_0
      = tn (K := 4096) x y := by
  funext i
  rw [eq_ix2 (n0 := 2048) (n1 := 4096) i]
  pointwise
  exact tn_comm (K := 4096) x y _ _

set_option smartUnfolding false in
/-- The kernel over the machine's floats is the same program. -/
theorem frame_kernel : Cert.quiescent_Kernel3 := fun m ρ _ => by
  rw [show Cert.Kernel3.defs (F := Bits) = defs (F := Bits) from rfl, show Cert.Kernel3.main (F := Bits) = main (F := Bits) from rfl]
  exact frame (F := Bits) m ρ
theorem frame_ideal : Cert.quiescent_Kernel3Ideal := fun m ρ _ => frame (F := Ideal) m ρ
theorem frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- Kernel and reference end with the same array. -/
theorem equal : Cert.algebraic_Kernel3Ideal_Reference3Ideal := fun m ρ m' ρ' _ ha =>
  ⟨result m, (θ_run defs _ _).mono (fun _ h c => ⟨(h c).1.trans (final m c), (h c).2⟩) (Value.run_blocks m ρ),
    (θ_run Cert.Reference3Ideal.defs _ _).mono (fun _ h c => ⟨(h c).1.trans ((host _ _).trans
      (congrArg₂ (tn (K := 4096)) (ha c).1 (ha c).2.2)), (h c).2⟩)
      (Cert.Reference3Ideal.Value.run m' ρ')⟩

end Cert.Kernel3Ideal.Product
-- ==== Proof.Product4.lean ====
/-
  The first addend of the gradient that flows through the input projection, from 4224 columns: the tiled product is the host's product.
-/
module

public import proofs.«01_k».proof.Defs
public import proofs.«01_k».proof.Proof.Products
public import proofs.«01_k».proof.Proof.Gen.Kernel4
public import proofs.«01_k».proof.Proof.Gen.Kernel4Ideal.Value
public import proofs.«01_k».proof.Proof.Gen.Reference4Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel4Ideal.Product

open Idealize.ShloMosaic Idealize.ShloMosaic.TcCoe Idealize.ShloMosaic.Tactic
open Idealize.SL.Sem
open Cert.Products
open Cert.Kernel4Ideal.Gen

/-- The tile that a grid point computes. -/
theorem tile (x : Vec Ideal S1024x4224 .bf16) (y : Vec Ideal S512x4224 .bf16) (j : S1024x512.Idx) : k0_pay1 x y j = nt (K := 4224) x y j := by
  rw [eq_ix2 (n0 := 1024) (n1 := 512) j]
  pointwise [k0_pay1]
  rfl

/-- Which blocks a point reads and writes. -/
theorem blocks : ∀ t : Fin cfg0.N, win0_0.index t = ![t.val / 4, 0] ∧ win0_1.index t = ![t.val % 4, 0] ∧ win0_3.index t = ![t.val / 4, t.val % 4] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := nt (K := 4224) (m ((c.tc : Thread nD τ).loc main_arg2)) (m ((c.tc : Thread nD τ).loc main_arg1))

theorem final : (dats m 0 c).arrAt 3 cfg0.N = result m c := by
  refine (dats m 0 c).arrAt_eq_of_covers 3 (result m c) (by decide +kernel) fun t _ y => ?_
  blk_simp
  rw [after0_3]
  frame_out
  refine (tile _ _ _).trans (nt_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference4Ideal.S4096x4224 .bf16) (y : FVec Ideal Cert.Reference4Ideal.S2048x4224 .bf16) :
    Host.dotGeneral Cert.Reference4Ideal.dot_S4096x4224_S2048x4224_S4096x2048_1_1_0_0_n_n none (extf .f32 x Cert.Reference4Ideal.Gen.bitsLt_bf16_f32) (extf .f32 y Cert.Reference4Ideal.Gen.bitsLt_bf16_f32)
      = nt (K := 4224) x y := by
  funext i
  rw [eq_ix2 (n0 := 4096) (n1 := 2048) i]
  pointwise
  rfl

set_option smartUnfolding false in
/-- The kernel over the machine's floats is the same program. -/
theorem frame_kernel : Cert.quiescent_Kernel4 := fun m ρ _ => by
  rw [show Cert.Kernel4.defs (F := Bits) = defs (F := Bits) from rfl, show Cert.Kernel4.main (F := Bits) = main (F := Bits) from rfl]
  exact frame (F := Bits) m ρ
theorem frame_ideal : Cert.quiescent_Kernel4Ideal := fun m ρ _ => frame (F := Ideal) m ρ
theorem frame_reference : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

/-- Kernel and reference end with the same array. -/
theorem equal : Cert.algebraic_Kernel4Ideal_Reference4Ideal := fun m ρ m' ρ' _ ha =>
  ⟨result m, (θ_run defs _ _).mono (fun _ h c => ⟨(h c).1.trans (final m c), (h c).2⟩) (Value.run_blocks m ρ),
    (θ_run Cert.Reference4Ideal.defs _ _).mono (fun _ h c => ⟨(h c).1.trans ((host _ _).trans
      (congrArg₂ (nt (K := 4224)) (ha c).2.2.1 (ha c).2.1)), (h c).2⟩)
      (Cert.Reference4Ideal.Value.run m' ρ')⟩

end Cert.Kernel4Ideal.Product
-- ==== Proof.Product5.lean ====
/-
  The gradient that flows through the input projection, from 4224 columns, added to what the other columns gave: the tiled product is the host's product.
-/
module

public import proofs.«01_k».proof.Defs
public import proofs.«01_k».proof.Proof.Products
public import proofs.«01_k».proof.Proof.Gen.Kernel5
public import proofs.«01_k».proof.Proof.Gen.Kernel5Ideal.Value
public import proofs.«01_k».proof.Proof.Gen.Reference5Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel5Ideal.Product

open Idealize.ShloMosaic Idealize.ShloMosaic.TcCoe Idealize.ShloMosaic.Tactic
open Idealize.SL.Sem
open Cert.Products
open Cert.Kernel5Ideal.Gen

/-- The tile that a grid point computes. -/
theorem tile (x : Vec Ideal S1024x4224 .bf16) (y : Vec Ideal S512x4224 .bf16) (z : Vec Ideal S1024x512 .f32) (j : S1024x512.Idx) : k0_pay1 x y z j = nt (K := 4224) x y j + z j := by
  rw [eq_ix2 (n0 := 1024) (n1 := 512) j]
  pointwise [k0_pay1]
  rfl

/-- Which blocks a point reads and writes. -/
theorem blocks : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := plus (m ((c.tc : Thread nD τ).loc main_arg3)) (nt (K := 4224) (m ((c.tc : Thread nD τ).loc main_arg2)) (m ((c.tc : Thread nD τ).loc main_arg1)))

theorem final : (dats m 0 c).arrAt 3 cfg0.N = result m c := by
  refine (dats m 0 c).arrAt_eq_of_covers 3 (result m c) (by decide +kernel) fun t _ y => ?_
  blk_simp
  rw [after0_3]
  frame_out
  refine (tile _ _ _ _).trans (plus_tile (nt_tile (fun k => ?_) fun k => ?_) ?_)
  · blk_ext [iblk, V, (blocks t).1, (blocks t).2.2.2]
  · blk_ext [iblk, V, (blocks t).2.1, (blocks t).2.2.2]
  · blk_ext [iblk, V, (blocks t).2.2.1, (blocks t).2.2.2]

/-- The host's product is the same sum. -/
theorem host (x : FVec Ideal Cert.Reference5Ideal.S4096x4224 .bf16) (y : FVec Ideal Cert.Reference5Ideal.S2048x4224 .bf16) (z : FVec Ideal Cert.Reference5Ideal.S4096x2048 .f32) :
    addf z (Host.dotGeneral Cert.Reference5Ideal.dot_S4096x4224_S2048x4224_S4096x2048_1_1_0_0_n_n none (extf .f32 x Cert.Reference5Ideal.Gen.bitsLt_bf16_f32) (extf .f32 y Cert.Reference5Ideal.Gen.bitsLt_bf16_f32))
      = plus z (nt (K := 4224) x y) := by
  funext i
  rw [eq_ix2 (n0 := 4096) (n1 := 2048) i]
  pointwise
  rfl

set_option smartUnfolding false in
/-- The kernel over the machine's floats is the same program. -/
theorem frame_kernel : Cert.quiescent_Kernel5 := fun m ρ _ => by
  rw [show Cert.Kernel5.defs (F := Bits) = defs (F := Bits) from rfl, show Cert.Kernel5.main (F := Bits) = main (F := Bits) from rfl]
  exact frame (F := Bits) m ρ
theorem frame_ideal : Cert.quiescent_Kernel5Ideal := fun m ρ _ => frame (F := Ideal) m ρ
theorem frame_reference : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

/-- Kernel and reference end with the same array. -/
theorem equal : Cert.algebraic_Kernel5Ideal_Reference5Ideal := fun m ρ m' ρ' _ ha =>
  ⟨result m, (θ_run defs _ _).mono (fun _ h c => ⟨(h c).1.trans (final m c), (h c).2⟩) (Value.run_blocks m ρ),
    (θ_run Cert.Reference5Ideal.defs _ _).mono (fun _ h c => ⟨(h c).1.trans ((host _ _ _).trans
      (congrArg₂ plus (ha c).2.2.2 (congrArg₂ (nt (K := 4224)) (ha c).2.2.1 (ha c).2.1))), (h c).2⟩)
      (Cert.Reference5Ideal.Value.run m' ρ')⟩

end Cert.Kernel5Ideal.Product
-- ==== Proof.Product6.lean ====
/-
  The gradient that flows through the input projection, from the merge gates' 4096 columns, added to what the other columns gave: the tiled product is the host's product.
-/
module

public import proofs.«01_k».proof.Defs
public import proofs.«01_k».proof.Proof.Products
public import proofs.«01_k».proof.Proof.Gen.Kernel6
public import proofs.«01_k».proof.Proof.Gen.Kernel6Ideal.Value
public import proofs.«01_k».proof.Proof.Gen.Reference6Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel6Ideal.Product

open Idealize.ShloMosaic Idealize.ShloMosaic.TcCoe Idealize.ShloMosaic.Tactic
open Idealize.SL.Sem
open Cert.Products
open Cert.Kernel6Ideal.Gen

/-- The tile that a grid point computes. -/
theorem tile (x : Vec Ideal S1024x4096 .bf16) (y : Vec Ideal S512x4096 .bf16) (z : Vec Ideal S1024x512 .f32) (j : S1024x512.Idx) : k0_pay1 x y z j = nt (K := 4096) x y j + z j := by
  rw [eq_ix2 (n0 := 1024) (n1 := 512) j]
  pointwise [k0_pay1]
  rfl

/-- Which blocks a point reads and writes. -/
theorem blocks : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := plus (m ((c.tc : Thread nD τ).loc main_arg3)) (nt (K := 4096) (m ((c.tc : Thread nD τ).loc main_arg2)) (m ((c.tc : Thread nD τ).loc main_arg1)))

theorem final : (dats m 0 c).arrAt 3 cfg0.N = result m c := by
  refine (dats m 0 c).arrAt_eq_of_covers 3 (result m c) (by decide +kernel) fun t _ y => ?_
  blk_simp
  rw [after0_3]
  frame_out
  refine (tile _ _ _ _).trans (plus_tile (nt_tile (fun k => ?_) fun k => ?_) ?_)
  · blk_ext [iblk, V, (blocks t).1, (blocks t).2.2.2]
  · blk_ext [iblk, V, (blocks t).2.1, (blocks t).2.2.2]
  · blk_ext [iblk, V, (blocks t).2.2.1, (blocks t).2.2.2]

/-- The host's product is the same sum. -/
theorem host (x : FVec Ideal Cert.Reference6Ideal.S4096x4096 .bf16) (y : FVec Ideal Cert.Reference6Ideal.S2048x4096 .bf16) (z : FVec Ideal Cert.Reference6Ideal.S4096x2048 .f32) :
    addf z (Host.dotGeneral Cert.Reference6Ideal.dot_S4096x4096_S2048x4096_S4096x2048_1_1_0_0_n_n none (extf .f32 x Cert.Reference6Ideal.Gen.bitsLt_bf16_f32) (extf .f32 y Cert.Reference6Ideal.Gen.bitsLt_bf16_f32))
      = plus z (nt (K := 4096) x y) := by
  funext i
  rw [eq_ix2 (n0 := 4096) (n1 := 2048) i]
  pointwise
  rfl

set_option smartUnfolding false in
/-- The kernel over the machine's floats is the same program. -/
theorem frame_kernel : Cert.quiescent_Kernel6 := fun m ρ _ => by
  rw [show Cert.Kernel6.defs (F := Bits) = defs (F := Bits) from rfl, show Cert.Kernel6.main (F := Bits) = main (F := Bits) from rfl]
  exact frame (F := Bits) m ρ
theorem frame_ideal : Cert.quiescent_Kernel6Ideal := fun m ρ _ => frame (F := Ideal) m ρ
theorem frame_reference : Cert.quiescent_Reference6Ideal := fun m ρ _ =>
  (θ_run Cert.Reference6Ideal.defs _ _).mono (fun r h => ⟨fun c => (h c).2, sem_eq_zero_of_no_sems (by decide) r.2⟩) (Cert.Reference6Ideal.Value.run m ρ)

/-- Kernel and reference end with the same array. -/
theorem equal : Cert.algebraic_Kernel6Ideal_Reference6Ideal := fun m ρ m' ρ' _ ha =>
  ⟨result m, (θ_run defs _ _).mono (fun _ h c => ⟨(h c).1.trans (final m c), (h c).2⟩) (Value.run_blocks m ρ),
    (θ_run Cert.Reference6Ideal.defs _ _).mono (fun _ h c => ⟨(h c).1.trans ((host _ _ _).trans
      (congrArg₂ plus (ha c).2.2.2 (congrArg₂ (nt (K := 4096)) (ha c).2.2.1 (ha c).2.1))), (h c).2⟩)
      (Cert.Reference6Ideal.Value.run m' ρ')⟩

end Cert.Kernel6Ideal.Product
-- ==== Proof.Product7.lean ====
/-
  The gradient of the output projection's weights: the tiled product is the host's product.
-/
module

public import proofs.«01_k».proof.Defs
public import proofs.«01_k».proof.Proof.Products
public import proofs.«01_k».proof.Proof.Gen.Kernel7
public import proofs.«01_k».proof.Proof.Gen.Kernel7Ideal.Value
public import proofs.«01_k».proof.Proof.Gen.Reference7Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel7Ideal.Product

open Idealize.ShloMosaic Idealize.ShloMosaic.TcCoe Idealize.ShloMosaic.Tactic
open Idealize.SL.Sem
open Cert.Products
open Cert.Kernel7Ideal.Gen

/-- The tile that a grid point computes. -/
theorem tile (x : Vec Ideal S4096x1024 .bf16) (y : Vec Ideal S4096x512 .f32) (j : S1024x512.Idx) : k0_pay1 x y j = tn (K := 4096) x y j := by
  rw [eq_ix2 (n0 := 1024) (n1 := 512) j]
  pointwise [k0_pay1]
  rfl

/-- Which blocks a point reads and writes. -/
theorem blocks : ∀ t : Fin cfg0.N, win0_0.index t = ![0, t.val / 4] ∧ win0_1.index t = ![0, t.val % 4] ∧ win0_2.index t = ![t.val / 4, t.val % 4] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := tn (K := 4096) (m ((c.tc : Thread nD τ).loc main_arg0)) (m ((c.tc : Thread nD τ).loc main_arg2))

theorem final : (dats m 0 c).arrAt 2 cfg0.N = result m c := by
  refine (dats m 0 c).arrAt_eq_of_covers 2 (result m c) (by decide +kernel) fun t _ y => ?_
  blk_simp
  rw [after0_2]
  frame_out
  refine (tile _ _ _).trans (tn_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference7Ideal.S4096x2048 .bf16) (y : FVec Ideal Cert.Reference7Ideal.S4096x2048 .f32) :
    transpose Cert.Reference7Ideal.S2048x2048 [1, 0] (Host.dotGeneral Cert.Reference7Ideal.dot_S4096x2048_S4096x2048_S2048x2048_0_0_1_1_n_n none y (extf .f32 x Cert.Reference7Ideal.Gen.bitsLt_bf16_f32)) Cert.Reference7Ideal.Gen.transposes_S2048x2048_S2048x2048_1_0
      = tn (K := 4096) x y := by
  funext i
  rw [eq_ix2 (n0 := 2048) (n1 := 2048) i]
  pointwise
  exact tn_comm (K := 4096) x y _ _

set_option smartUnfolding false in
/-- The kernel over the machine's floats is the same program. -/
theorem frame_kernel : Cert.quiescent_Kernel7 := fun m ρ _ => by
  rw [show Cert.Kernel7.defs (F := Bits) = defs (F := Bits) from rfl, show Cert.Kernel7.main (F := Bits) = main (F := Bits) from rfl]
  exact frame (F := Bits) m ρ
theorem frame_ideal : Cert.quiescent_Kernel7Ideal := fun m ρ _ => frame (F := Ideal) m ρ
theorem frame_reference : Cert.quiescent_Reference7Ideal := fun m ρ _ =>
  (θ_run Cert.Reference7Ideal.defs _ _).mono (fun r h => ⟨fun c => (h c).2, sem_eq_zero_of_no_sems (by decide) r.2⟩) (Cert.Reference7Ideal.Value.run m ρ)

/-- Kernel and reference end with the same array. -/
theorem equal : Cert.algebraic_Kernel7Ideal_Reference7Ideal := fun m ρ m' ρ' _ ha =>
  ⟨result m, (θ_run defs _ _).mono (fun _ h c => ⟨(h c).1.trans (final m c), (h c).2⟩) (Value.run_blocks m ρ),
    (θ_run Cert.Reference7Ideal.defs _ _).mono (fun _ h c => ⟨(h c).1.trans ((host _ _).trans
      (congrArg₂ (tn (K := 4096)) (ha c).1 (ha c).2.2)), (h c).2⟩)
      (Cert.Reference7Ideal.Value.run m' ρ')⟩

end Cert.Kernel7Ideal.Product
-- ==== Proof.Product8.lean ====
/-
  The gradient that flows through the output projection: the tiled product is the host's product.
-/
module

public import proofs.«01_k».proof.Defs
public import proofs.«01_k».proof.Proof.Products
public import proofs.«01_k».proof.Proof.Gen.Kernel8
public import proofs.«01_k».proof.Proof.Gen.Kernel8Ideal.Value
public import proofs.«01_k».proof.Proof.Gen.Reference8Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel8Ideal.Product

open Idealize.ShloMosaic Idealize.ShloMosaic.TcCoe Idealize.ShloMosaic.Tactic
open Idealize.SL.Sem
open Cert.Products
open Cert.Kernel8Ideal.Gen

/-- The tile that a grid point computes. -/
theorem tile (x : Vec Ideal S1024x2048 .f32) (y : Vec Ideal S1024x2048 .bf16) (j : S1024x1024.Idx) : k0_pay1 x y j = nt (K := 2048) x y j := by
  rw [eq_ix2 (n0 := 1024) (n1 := 1024) j]
  pointwise [k0_pay1]
  rfl

/-- Which blocks a point reads and writes. -/
theorem blocks : ∀ t : Fin cfg0.N, win0_0.index t = ![t.val / 2, 0] ∧ win0_1.index t = ![t.val % 2, 0] ∧ win0_2.index t = ![t.val / 2, t.val % 2] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := nt (K := 2048) (m ((c.tc : Thread nD τ).loc main_arg2)) (m ((c.tc : Thread nD τ).loc main_arg1))

theorem final : (dats m 0 c).arrAt 2 cfg0.N = result m c := by
  refine (dats m 0 c).arrAt_eq_of_covers 2 (result m c) (by decide +kernel) fun t _ y => ?_
  blk_simp
  rw [after0_2]
  frame_out
  refine (tile _ _ _).trans (nt_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference8Ideal.S4096x2048 .f32) (y : FVec Ideal Cert.Reference8Ideal.S2048x2048 .bf16) :
    Host.dotGeneral Cert.Reference8Ideal.dot_S4096x2048_S2048x2048_S4096x2048_1_1_0_0_n_n none x (extf .f32 y Cert.Reference8Ideal.Gen.bitsLt_bf16_f32)
      = nt (K := 2048) x y := by
  funext i
  rw [eq_ix2 (n0 := 4096) (n1 := 2048) i]
  pointwise
  rfl

set_option smartUnfolding false in
/-- The kernel over the machine's floats is the same program. -/
theorem frame_kernel : Cert.quiescent_Kernel8 := fun m ρ _ => by
  rw [show Cert.Kernel8.defs (F := Bits) = defs (F := Bits) from rfl, show Cert.Kernel8.main (F := Bits) = main (F := Bits) from rfl]
  exact frame (F := Bits) m ρ
theorem frame_ideal : Cert.quiescent_Kernel8Ideal := fun m ρ _ => frame (F := Ideal) m ρ
theorem frame_reference : Cert.quiescent_Reference8Ideal := fun m ρ _ =>
  (θ_run Cert.Reference8Ideal.defs _ _).mono (fun r h => ⟨fun c => (h c).2, sem_eq_zero_of_no_sems (by decide) r.2⟩) (Cert.Reference8Ideal.Value.run m ρ)

/-- Kernel and reference end with the same array. -/
theorem equal : Cert.algebraic_Kernel8Ideal_Reference8Ideal := fun m ρ m' ρ' _ ha =>
  ⟨result m, (θ_run defs _ _).mono (fun _ h c => ⟨(h c).1.trans (final m c), (h c).2⟩) (Value.run_blocks m ρ),
    (θ_run Cert.Reference8Ideal.defs _ _).mono (fun _ h c => ⟨(h c).1.trans ((host _ _).trans
      (congrArg₂ (nt (K := 2048)) (ha c).2.2 (ha c).2.1)), (h c).2⟩)
      (Cert.Reference8Ideal.Value.run m' ρ')⟩

end Cert.Kernel8Ideal.Product
-- ==== Proof.Product9.lean ====
/-
  The gradient of the weights that bring a branch to the model's width: the tiled product is the host's product.
-/
module

public import proofs.«01_k».proof.Defs
public import proofs.«01_k».proof.Proof.Products
public import proofs.«01_k».proof.Proof.Gen.Kernel9
public import proofs.«01_k».proof.Proof.Gen.Kernel9Ideal.Value
public import proofs.«01_k».proof.Proof.Gen.Reference9Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel9Ideal.Product

open Idealize.ShloMosaic Idealize.ShloMosaic.TcCoe Idealize.ShloMosaic.Tactic
open Idealize.SL.Sem
open Cert.Products
open Cert.Kernel9Ideal.Gen

/-- The tile that a grid point computes. -/
theorem tile (x : Vec Ideal S4096x1024 .bf16) (y : Vec Ideal S4096x512 .bf16) (j : S1024x512.Idx) : k0_pay1 x y j = tn (K := 4096) x y j := by
  rw [eq_ix2 (n0 := 1024) (n1 := 512) j]
  pointwise [k0_pay1]
  rfl

/-- Which blocks a point reads and writes. -/
theorem blocks : ∀ t : Fin cfg0.N, win0_0.index t = ![0, t.val / 4] ∧ win0_1.index t = ![0, t.val % 4] ∧ win0_2.index t = ![t.val / 4, t.val % 4] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := tn (K := 4096) (m ((c.tc : Thread nD τ).loc main_arg0)) (m ((c.tc : Thread nD τ).loc main_arg2))

theorem final : (dats m 0 c).arrAt 2 cfg0.N = result m c := by
  refine (dats m 0 c).arrAt_eq_of_covers 2 (result m c) (by decide +kernel) fun t _ y => ?_
  blk_simp
  rw [after0_2]
  frame_out
  refine (tile _ _ _).trans (tn_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference9Ideal.S4096x1024 .bf16) (y : FVec Ideal Cert.Reference9Ideal.S4096x2048 .bf16) :
    transpose Cert.Reference9Ideal.S1024x2048 [1, 0] (Host.dotGeneral Cert.Reference9Ideal.dot_S4096x2048_S4096x1024_S2048x1024_0_0_1_1_n_n none (extf .f32 y Cert.Reference9Ideal.Gen.bitsLt_bf16_f32) (extf .f32 x Cert.Reference9Ideal.Gen.bitsLt_bf16_f32)) Cert.Reference9Ideal.Gen.transposes_S2048x1024_S1024x2048_1_0
      = tn (K := 4096) x y := by
  funext i
  rw [eq_ix2 (n0 := 1024) (n1 := 2048) i]
  pointwise
  exact tn_comm (K := 4096) x y _ _

set_option smartUnfolding false in
/-- The kernel over the machine's floats is the same program. -/
theorem frame_kernel : Cert.quiescent_Kernel9 := fun m ρ _ => by
  rw [show Cert.Kernel9.defs (F := Bits) = defs (F := Bits) from rfl, show Cert.Kernel9.main (F := Bits) = main (F := Bits) from rfl]
  exact frame (F := Bits) m ρ
theorem frame_ideal : Cert.quiescent_Kernel9Ideal := fun m ρ _ => frame (F := Ideal) m ρ
theorem frame_reference : Cert.quiescent_Reference9Ideal := fun m ρ _ =>
  (θ_run Cert.Reference9Ideal.defs _ _).mono (fun r h => ⟨fun c => (h c).2, sem_eq_zero_of_no_sems (by decide) r.2⟩) (Cert.Reference9Ideal.Value.run m ρ)

/-- Kernel and reference end with the same array. -/
theorem equal : Cert.algebraic_Kernel9Ideal_Reference9Ideal := fun m ρ m' ρ' _ ha =>
  ⟨result m, (θ_run defs _ _).mono (fun _ h c => ⟨(h c).1.trans (final m c), (h c).2⟩) (Value.run_blocks m ρ),
    (θ_run Cert.Reference9Ideal.defs _ _).mono (fun _ h c => ⟨(h c).1.trans ((host _ _).trans
      (congrArg₂ (tn (K := 4096)) (ha c).1 (ha c).2.2)), (h c).2⟩)
      (Cert.Reference9Ideal.Value.run m' ρ')⟩

end Cert.Kernel9Ideal.Product
-- ==== Proof.Product10.lean ====
/-
  The gradient that flows through the RWKV branch's up-projection: the tiled product is the host's product.
-/
module

public import proofs.«01_k».proof.Defs
public import proofs.«01_k».proof.Proof.Products
public import proofs.«01_k».proof.Proof.Gen.Kernel10
public import proofs.«01_k».proof.Proof.Gen.Kernel10Ideal.Value
public import proofs.«01_k».proof.Proof.Gen.Reference10Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel10Ideal.Product

open Idealize.ShloMosaic Idealize.ShloMosaic.TcCoe Idealize.ShloMosaic.Tactic
open Idealize.SL.Sem
open Cert.Products
open Cert.Kernel10Ideal.Gen

/-- The tile that a grid point computes. -/
theorem tile (x : Vec Ideal S1024x2048 .bf16) (y : Vec Ideal S1024x2048 .bf16) (j : S1024x1024.Idx) : k0_pay1 x y j = nt (K := 2048) x y j := by
  rw [eq_ix2 (n0 := 1024) (n1 := 1024) j]
  pointwise [k0_pay1]
  rfl

/-- Which blocks a point reads and writes. -/
theorem blocks : ∀ t : Fin cfg0.N, win0_0.index t = ![t.val, 0] ∧ win0_1.index t = ![0, 0] ∧ win0_3.index t = ![t.val, 0] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := nt (K := 2048) (m ((c.tc : Thread nD τ).loc main_arg2)) (m ((c.tc : Thread nD τ).loc main_arg1))

theorem final : (dats m 0 c).arrAt 3 cfg0.N = result m c := by
  refine (dats m 0 c).arrAt_eq_of_covers 3 (result m c) (by decide +kernel) fun t _ y => ?_
  blk_simp
  rw [after0_3]
  frame_out
  refine (tile _ _ _).trans (nt_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference10Ideal.S4096x2048 .bf16) (y : FVec Ideal Cert.Reference10Ideal.S1024x2048 .bf16) :
    Host.dotGeneral Cert.Reference10Ideal.dot_S4096x2048_S1024x2048_S4096x1024_1_1_0_0_n_n none (extf .f32 x Cert.Reference10Ideal.Gen.bitsLt_bf16_f32) (extf .f32 y Cert.Reference10Ideal.Gen.bitsLt_bf16_f32)
      = nt (K := 2048) x y := by
  funext i
  rw [eq_ix2 (n0 := 4096) (n1 := 1024) i]
  pointwise
  rfl

set_option smartUnfolding false in
/-- The kernel over the machine's floats is the same program. -/
theorem frame_kernel : Cert.quiescent_Kernel10 := fun m ρ _ => by
  rw [show Cert.Kernel10.defs (F := Bits) = defs (F := Bits) from rfl, show Cert.Kernel10.main (F := Bits) = main (F := Bits) from rfl]
  exact frame (F := Bits) m ρ
theorem frame_ideal : Cert.quiescent_Kernel10Ideal := fun m ρ _ => frame (F := Ideal) m ρ
theorem frame_reference : Cert.quiescent_Reference10Ideal := fun m ρ _ =>
  (θ_run Cert.Reference10Ideal.defs _ _).mono (fun r h => ⟨fun c => (h c).2, sem_eq_zero_of_no_sems (by decide) r.2⟩) (Cert.Reference10Ideal.Value.run m ρ)

/-- Kernel and reference end with the same array. -/
theorem equal : Cert.algebraic_Kernel10Ideal_Reference10Ideal := fun m ρ m' ρ' _ ha =>
  ⟨result m, (θ_run defs _ _).mono (fun _ h c => ⟨(h c).1.trans (final m c), (h c).2⟩) (Value.run_blocks m ρ),
    (θ_run Cert.Reference10Ideal.defs _ _).mono (fun _ h c => ⟨(h c).1.trans ((host _ _).trans
      (congrArg₂ (nt (K := 2048)) (ha c).2.2.1 (ha c).2.1)), (h c).2⟩)
      (Cert.Reference10Ideal.Value.run m' ρ')⟩

end Cert.Kernel10Ideal.Product
-- ==== Proof.Product11.lean ====
/-
  The gradient that flows through the attention branch's up-projection: the tiled product is the host's product.
-/
module

public import proofs.«01_k».proof.Defs
public import proofs.«01_k».proof.Proof.Products
public import proofs.«01_k».proof.Proof.Gen.Kernel11
public import proofs.«01_k».proof.Proof.Gen.Kernel11Ideal.Value
public import proofs.«01_k».proof.Proof.Gen.Reference11Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel11Ideal.Product

open Idealize.ShloMosaic Idealize.ShloMosaic.TcCoe Idealize.ShloMosaic.Tactic
open Idealize.SL.Sem
open Cert.Products
open Cert.Kernel11Ideal.Gen

/-- The tile that a grid point computes. -/
theorem tile (x : Vec Ideal S1024x2048 .bf16) (y : Vec Ideal S1024x2048 .bf16) (j : S1024x1024.Idx) : k0_pay1 x y j = nt (K := 2048) x y j := by
  rw [eq_ix2 (n0 := 1024) (n1 := 1024) j]
  pointwise [k0_pay1]
  rfl

/-- Which blocks a point reads and writes. -/
theorem blocks : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := nt (K := 2048) (m ((c.tc : Thread nD τ).loc main_arg2)) (m ((c.tc : Thread nD τ).loc main_arg1))

theorem final : (dats m 0 c).arrAt 2 cfg0.N = result m c := by
  refine (dats m 0 c).arrAt_eq_of_covers 2 (result m c) (by decide +kernel) fun t _ y => ?_
  blk_simp
  rw [after0_2]
  frame_out
  refine (tile _ _ _).trans (nt_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference11Ideal.S4096x2048 .bf16) (y : FVec Ideal Cert.Reference11Ideal.S1024x2048 .bf16) :
    Host.dotGeneral Cert.Reference11Ideal.dot_S4096x2048_S1024x2048_S4096x1024_1_1_0_0_n_n none (extf .f32 x Cert.Reference11Ideal.Gen.bitsLt_bf16_f32) (extf .f32 y Cert.Reference11Ideal.Gen.bitsLt_bf16_f32)
      = nt (K := 2048) x y := by
  funext i
  rw [eq_ix2 (n0 := 4096) (n1 := 1024) i]
  pointwise
  rfl

set_option smartUnfolding false in
/-- The kernel over the machine's floats is the same program. -/
theorem frame_kernel : Cert.quiescent_Kernel11 := fun m ρ _ => by
  rw [show Cert.Kernel11.defs (F := Bits) = defs (F := Bits) from rfl, show Cert.Kernel11.main (F := Bits) = main (F := Bits) from rfl]
  exact frame (F := Bits) m ρ
theorem frame_ideal : Cert.quiescent_Kernel11Ideal := fun m ρ _ => frame (F := Ideal) m ρ
theorem frame_reference : Cert.quiescent_Reference11Ideal := fun m ρ _ =>
  (θ_run Cert.Reference11Ideal.defs _ _).mono (fun r h => ⟨fun c => (h c).2, sem_eq_zero_of_no_sems (by decide) r.2⟩) (Cert.Reference11Ideal.Value.run m ρ)

/-- Kernel and reference end with the same array. -/
theorem equal : Cert.algebraic_Kernel11Ideal_Reference11Ideal := fun m ρ m' ρ' _ ha =>
  ⟨result m, (θ_run defs _ _).mono (fun _ h c => ⟨(h c).1.trans (final m c), (h c).2⟩) (Value.run_blocks m ρ),
    (θ_run Cert.Reference11Ideal.defs _ _).mono (fun _ h c => ⟨(h c).1.trans ((host _ _).trans
      (congrArg₂ (nt (K := 2048)) (ha c).2.2 (ha c).2.1)), (h c).2⟩)
      (Cert.Reference11Ideal.Value.run m' ρ')⟩

end Cert.Kernel11Ideal.Product
-- ==== Proof.Product12.lean ====
/-
  The gradient of the weights of the per-layer embedding's gate: the tiled product is the host's product.
-/
module

public import proofs.«01_k».proof.Defs
public import proofs.«01_k».proof.Proof.Products
public import proofs.«01_k».proof.Proof.Gen.Kernel12
public import proofs.«01_k».proof.Proof.Gen.Kernel12Ideal.Value
public import proofs.«01_k».proof.Proof.Gen.Reference12Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel12Ideal.Product

open Idealize.ShloMosaic Idealize.ShloMosaic.TcCoe Idealize.ShloMosaic.Tactic
open Idealize.SL.Sem
open Cert.Products
open Cert.Kernel12Ideal.Gen

/-- The tile that a grid point computes. -/
theorem tile (x : Vec Ideal S4096x1024 .bf16) (y : Vec Ideal S4096x512 .bf16) (j : S1024x512.Idx) : k0_pay1 x y j = tn (K := 4096) x y j := by
  rw [eq_ix2 (n0 := 1024) (n1 := 512) j]
  pointwise [k0_pay1]
  rfl

/-- Which blocks a point reads and writes. -/
theorem blocks : ∀ t : Fin cfg0.N, win0_0.index t = ![0, t.val / 4] ∧ win0_1.index t = ![0, t.val % 4] ∧ win0_2.index t = ![t.val / 4, t.val % 4] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := tn (K := 4096) (m ((c.tc : Thread nD τ).loc main_arg0)) (m ((c.tc : Thread nD τ).loc main_arg2))

theorem final : (dats m 0 c).arrAt 2 cfg0.N = result m c := by
  refine (dats m 0 c).arrAt_eq_of_covers 2 (result m c) (by decide +kernel) fun t _ y => ?_
  blk_simp
  rw [after0_2]
  frame_out
  refine (tile _ _ _).trans (tn_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference12Ideal.S4096x2048 .bf16) (y : FVec Ideal Cert.Reference12Ideal.S4096x2048 .bf16) :
    transpose Cert.Reference12Ideal.S2048x2048 [1, 0] (Host.dotGeneral Cert.Reference12Ideal.dot_S4096x2048_S4096x2048_S2048x2048_0_0_1_1_n_n none (extf .f32 y Cert.Reference12Ideal.Gen.bitsLt_bf16_f32) (extf .f32 x Cert.Reference12Ideal.Gen.bitsLt_bf16_f32)) Cert.Reference12Ideal.Gen.transposes_S2048x2048_S2048x2048_1_0
      = tn (K := 4096) x y := by
  funext i
  rw [eq_ix2 (n0 := 2048) (n1 := 2048) i]
  pointwise
  exact tn_comm (K := 4096) x y _ _

set_option smartUnfolding false in
/-- The kernel over the machine's floats is the same program. -/
theorem frame_kernel : Cert.quiescent_Kernel12 := fun m ρ _ => by
  rw [show Cert.Kernel12.defs (F := Bits) = defs (F := Bits) from rfl, show Cert.Kernel12.main (F := Bits) = main (F := Bits) from rfl]
  exact frame (F := Bits) m ρ
theorem frame_ideal : Cert.quiescent_Kernel12Ideal := fun m ρ _ => frame (F := Ideal) m ρ
theorem frame_reference : Cert.quiescent_Reference12Ideal := fun m ρ _ =>
  (θ_run Cert.Reference12Ideal.defs _ _).mono (fun r h => ⟨fun c => (h c).2, sem_eq_zero_of_no_sems (by decide) r.2⟩) (Cert.Reference12Ideal.Value.run m ρ)

/-- Kernel and reference end with the same array. -/
theorem equal : Cert.algebraic_Kernel12Ideal_Reference12Ideal := fun m ρ m' ρ' _ ha =>
  ⟨result m, (θ_run defs _ _).mono (fun _ h c => ⟨(h c).1.trans (final m c), (h c).2⟩) (Value.run_blocks m ρ),
    (θ_run Cert.Reference12Ideal.defs _ _).mono (fun _ h c => ⟨(h c).1.trans ((host _ _).trans
      (congrArg₂ (tn (K := 4096)) (ha c).1 (ha c).2.2)), (h c).2⟩)
      (Cert.Reference12Ideal.Value.run m' ρ')⟩

end Cert.Kernel12Ideal.Product
-- ==== Proof.Product13.lean ====
/-
  The gradient that flows through the per-layer embedding's gate: the tiled product is the host's product.
-/
module

public import proofs.«01_k».proof.Defs
public import proofs.«01_k».proof.Proof.Products
public import proofs.«01_k».proof.Proof.Gen.Kernel13
public import proofs.«01_k».proof.Proof.Gen.Kernel13Ideal.Value
public import proofs.«01_k».proof.Proof.Gen.Reference13Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel13Ideal.Product

open Idealize.ShloMosaic Idealize.ShloMosaic.TcCoe Idealize.ShloMosaic.Tactic
open Idealize.SL.Sem
open Cert.Products
open Cert.Kernel13Ideal.Gen

/-- The tile that a grid point computes. -/
theorem tile (x : Vec Ideal S1024x2048 .bf16) (y : Vec Ideal S1024x2048 .bf16) (j : S1024x1024.Idx) : k0_pay1 x y j = nt (K := 2048) x y j := by
  rw [eq_ix2 (n0 := 1024) (n1 := 1024) j]
  pointwise [k0_pay1]
  rfl

/-- Which blocks a point reads and writes. -/
theorem blocks : ∀ t : Fin cfg0.N, win0_0.index t = ![t.val / 2, 0] ∧ win0_1.index t = ![t.val % 2, 0] ∧ win0_2.index t = ![t.val / 2, t.val % 2] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := nt (K := 2048) (m ((c.tc : Thread nD τ).loc main_arg2)) (m ((c.tc : Thread nD τ).loc main_arg1))

theorem final : (dats m 0 c).arrAt 2 cfg0.N = result m c := by
  refine (dats m 0 c).arrAt_eq_of_covers 2 (result m c) (by decide +kernel) fun t _ y => ?_
  blk_simp
  rw [after0_2]
  frame_out
  refine (tile _ _ _).trans (nt_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference13Ideal.S4096x2048 .bf16) (y : FVec Ideal Cert.Reference13Ideal.S2048x2048 .bf16) :
    Host.dotGeneral Cert.Reference13Ideal.dot_S4096x2048_S2048x2048_S4096x2048_1_1_0_0_n_n none (extf .f32 x Cert.Reference13Ideal.Gen.bitsLt_bf16_f32) (extf .f32 y Cert.Reference13Ideal.Gen.bitsLt_bf16_f32)
      = nt (K := 2048) x y := by
  funext i
  rw [eq_ix2 (n0 := 4096) (n1 := 2048) i]
  pointwise
  rfl

set_option smartUnfolding false in
/-- The kernel over the machine's floats is the same program. -/
theorem frame_kernel : Cert.quiescent_Kernel13 := fun m ρ _ => by
  rw [show Cert.Kernel13.defs (F := Bits) = defs (F := Bits) from rfl, show Cert.Kernel13.main (F := Bits) = main (F := Bits) from rfl]
  exact frame (F := Bits) m ρ
theorem frame_ideal : Cert.quiescent_Kernel13Ideal := fun m ρ _ => frame (F := Ideal) m ρ
theorem frame_reference : Cert.quiescent_Reference13Ideal := fun m ρ _ =>
  (θ_run Cert.Reference13Ideal.defs _ _).mono (fun r h => ⟨fun c => (h c).2, sem_eq_zero_of_no_sems (by decide) r.2⟩) (Cert.Reference13Ideal.Value.run m ρ)

/-- Kernel and reference end with the same array. -/
theorem equal : Cert.algebraic_Kernel13Ideal_Reference13Ideal := fun m ρ m' ρ' _ ha =>
  ⟨result m, (θ_run defs _ _).mono (fun _ h c => ⟨(h c).1.trans (final m c), (h c).2⟩) (Value.run_blocks m ρ),
    (θ_run Cert.Reference13Ideal.defs _ _).mono (fun _ h c => ⟨(h c).1.trans ((host _ _).trans
      (congrArg₂ (nt (K := 2048)) (ha c).2.2 (ha c).2.1)), (h c).2⟩)
      (Cert.Reference13Ideal.Value.run m' ρ')⟩

end Cert.Kernel13Ideal.Product
-- ==== Proof.Product14.lean ====
/-
  The gradient of the weights that project the per-layer embedding: the tiled product is the host's product.
-/
module

public import proofs.«01_k».proof.Defs
public import proofs.«01_k».proof.Proof.Products
public import proofs.«01_k».proof.Proof.Gen.Kernel14
public import proofs.«01_k».proof.Proof.Gen.Kernel14Ideal.Value
public import proofs.«01_k».proof.Proof.Gen.Reference14Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel14Ideal.Product

open Idealize.ShloMosaic Idealize.ShloMosaic.TcCoe Idealize.ShloMosaic.Tactic
open Idealize.SL.Sem
open Cert.Products
open Cert.Kernel14Ideal.Gen

/-- The tile that a grid point computes. -/
theorem tile (x : Vec Ideal S4096x256 .f32) (y : Vec Ideal S4096x1024 .bf16) (j : S256x1024.Idx) : k0_pay1 x y j = tn (K := 4096) x y j := by
  rw [eq_ix2 (n0 := 256) (n1 := 1024) j]
  pointwise [k0_pay1]
  rfl

/-- Which blocks a point reads and writes. -/
theorem blocks : ∀ t : Fin cfg0.N, win0_0.index t = ![0, t.val / 2] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := tn (K := 4096) (m ((c.tc : Thread nD τ).loc main_arg0)) (m ((c.tc : Thread nD τ).loc main_arg2))

theorem final : (dats m 0 c).arrAt 2 cfg0.N = result m c := by
  refine (dats m 0 c).arrAt_eq_of_covers 2 (result m c) (by decide +kernel) fun t _ y => ?_
  blk_simp
  rw [after0_2]
  frame_out
  refine (tile _ _ _).trans (tn_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference14Ideal.S4096x256 .f32) (y : FVec Ideal Cert.Reference14Ideal.S4096x2048 .bf16) :
    transpose Cert.Reference14Ideal.S256x2048 [1, 0] (Host.dotGeneral Cert.Reference14Ideal.dot_S4096x2048_S4096x256_S2048x256_0_0_1_1_n_n none (extf .f32 y Cert.Reference14Ideal.Gen.bitsLt_bf16_f32) x) Cert.Reference14Ideal.Gen.transposes_S2048x256_S256x2048_1_0
      = tn (K := 4096) x y := by
  funext i
  rw [eq_ix2 (n0 := 256) (n1 := 2048) i]
  pointwise
  exact tn_comm (K := 4096) x y _ _

set_option smartUnfolding false in
/-- The kernel over the machine's floats is the same program. -/
theorem frame_kernel : Cert.quiescent_Kernel14 := fun m ρ _ => by
  rw [show Cert.Kernel14.defs (F := Bits) = defs (F := Bits) from rfl, show Cert.Kernel14.main (F := Bits) = main (F := Bits) from rfl]
  exact frame (F := Bits) m ρ
theorem frame_ideal : Cert.quiescent_Kernel14Ideal := fun m ρ _ => frame (F := Ideal) m ρ
theorem frame_reference : Cert.quiescent_Reference14Ideal := fun m ρ _ =>
  (θ_run Cert.Reference14Ideal.defs _ _).mono (fun r h => ⟨fun c => (h c).2, sem_eq_zero_of_no_sems (by decide) r.2⟩) (Cert.Reference14Ideal.Value.run m ρ)

/-- Kernel and reference end with the same array. -/
theorem equal : Cert.algebraic_Kernel14Ideal_Reference14Ideal := fun m ρ m' ρ' _ ha =>
  ⟨result m, (θ_run defs _ _).mono (fun _ h c => ⟨(h c).1.trans (final m c), (h c).2⟩) (Value.run_blocks m ρ),
    (θ_run Cert.Reference14Ideal.defs _ _).mono (fun _ h c => ⟨(h c).1.trans ((host _ _).trans
      (congrArg₂ (tn (K := 4096)) (ha c).1 (ha c).2.2)), (h c).2⟩)
      (Cert.Reference14Ideal.Value.run m' ρ')⟩

end Cert.Kernel14Ideal.Product
-- ==== Proof.Product15.lean ====
/-
  The input projection, of a block of 4224 columns: the tiled product is the host's product.
-/
module

public import proofs.«01_k».proof.Defs
public import proofs.«01_k».proof.Proof.Products
public import proofs.«01_k».proof.Proof.Gen.Kernel15
public import proofs.«01_k».proof.Proof.Gen.Kernel15Ideal.Value
public import proofs.«01_k».proof.Proof.Gen.Reference15Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel15Ideal.Product

open Idealize.ShloMosaic Idealize.ShloMosaic.TcCoe Idealize.ShloMosaic.Tactic
open Idealize.SL.Sem
open Cert.Products
open Cert.Kernel15Ideal.Gen

/-- The tile that a grid point computes. -/
theorem tile (x : Vec Ideal S1024x2048 .bf16) (y : Vec Ideal S2048x1408 .bf16) (j : S1024x1408.Idx) : k0_pay1 x y j = nn (K := 2048) x y j := by
  rw [eq_ix2 (n0 := 1024) (n1 := 1408) j]
  pointwise [k0_pay1]
  rfl

/-- Which blocks a point reads and writes. -/
theorem blocks : ∀ t : Fin cfg0.N, win0_0.index t = ![t.val / 3, 0] ∧ win0_1.index t = ![0, t.val % 3] ∧ win0_3.index t = ![t.val / 3, t.val % 3] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := nn (K := 2048) (m ((c.tc : Thread nD τ).loc main_arg0)) (m ((c.tc : Thread nD τ).loc main_arg1))

theorem final : (dats m 0 c).arrAt 3 cfg0.N = result m c := by
  refine (dats m 0 c).arrAt_eq_of_covers 3 (result m c) (by decide +kernel) fun t _ y => ?_
  blk_simp
  rw [after0_3]
  frame_out
  refine (tile _ _ _).trans (nn_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference15Ideal.S4096x2048 .bf16) (y : FVec Ideal Cert.Reference15Ideal.S2048x4224 .bf16) :
    Host.dotGeneral Cert.Reference15Ideal.dot_S4096x2048_S2048x4224_S4096x4224_1_0_0_1_n_n none (extf .f32 x Cert.Reference15Ideal.Gen.bitsLt_bf16_f32) (extf .f32 y Cert.Reference15Ideal.Gen.bitsLt_bf16_f32)
      = nn (K := 2048) x y := by
  funext i
  rw [eq_ix2 (n0 := 4096) (n1 := 4224) i]
  pointwise
  rfl

set_option smartUnfolding false in
/-- The kernel over the machine's floats is the same program. -/
theorem frame_kernel : Cert.quiescent_Kernel15 := fun m ρ _ => by
  rw [show Cert.Kernel15.defs (F := Bits) = defs (F := Bits) from rfl, show Cert.Kernel15.main (F := Bits) = main (F := Bits) from rfl]
  exact frame (F := Bits) m ρ
theorem frame_ideal : Cert.quiescent_Kernel15Ideal := fun m ρ _ => frame (F := Ideal) m ρ
theorem frame_reference : Cert.quiescent_Reference15Ideal := fun m ρ _ =>
  (θ_run Cert.Reference15Ideal.defs _ _).mono (fun r h => ⟨fun c => (h c).2, sem_eq_zero_of_no_sems (by decide) r.2⟩) (Cert.Reference15Ideal.Value.run m ρ)

/-- Kernel and reference end with the same array. -/
theorem equal : Cert.algebraic_Kernel15Ideal_Reference15Ideal := fun m ρ m' ρ' _ ha =>
  ⟨result m, (θ_run defs _ _).mono (fun _ h c => ⟨(h c).1.trans (final m c), (h c).2⟩) (Value.run_blocks m ρ),
    (θ_run Cert.Reference15Ideal.defs _ _).mono (fun _ h c => ⟨(h c).1.trans ((host _ _).trans
      (congrArg₂ (nn (K := 2048)) (ha c).1 (ha c).2.1)), (h c).2⟩)
      (Cert.Reference15Ideal.Value.run m' ρ')⟩

end Cert.Kernel15Ideal.Product
-- ==== Proof.Product16.lean ====
/-
  The input projection, of the merge gates' 4096 columns: the tiled product is the host's product.
-/
module

public import proofs.«01_k».proof.Defs
public import proofs.«01_k».proof.Proof.Products
public import proofs.«01_k».proof.Proof.Gen.Kernel16
public import proofs.«01_k».proof.Proof.Gen.Kernel16Ideal.Value
public import proofs.«01_k».proof.Proof.Gen.Reference16Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel16Ideal.Product

open Idealize.ShloMosaic Idealize.ShloMosaic.TcCoe Idealize.ShloMosaic.Tactic
open Idealize.SL.Sem
open Cert.Products
open Cert.Kernel16Ideal.Gen

/-- The tile that a grid point computes. -/
theorem tile (x : Vec Ideal S1024x2048 .bf16) (y : Vec Ideal S2048x1024 .bf16) (j : S1024x1024.Idx) : k0_pay1 x y j = nn (K := 2048) x y j := by
  rw [eq_ix2 (n0 := 1024) (n1 := 1024) j]
  pointwise [k0_pay1]
  rfl

/-- Which blocks a point reads and writes. -/
theorem blocks : ∀ t : Fin cfg0.N, win0_0.index t = ![t.val / 4, 0] ∧ win0_1.index t = ![0, t.val % 4] ∧ win0_3.index t = ![t.val / 4, t.val % 4] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := nn (K := 2048) (m ((c.tc : Thread nD τ).loc main_arg0)) (m ((c.tc : Thread nD τ).loc main_arg1))

theorem final : (dats m 0 c).arrAt 3 cfg0.N = result m c := by
  refine (dats m 0 c).arrAt_eq_of_covers 3 (result m c) (by decide +kernel) fun t _ y => ?_
  blk_simp
  rw [after0_3]
  frame_out
  refine (tile _ _ _).trans (nn_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference16Ideal.S4096x2048 .bf16) (y : FVec Ideal Cert.Reference16Ideal.S2048x4096 .bf16) :
    Host.dotGeneral Cert.Reference16Ideal.dot_S4096x2048_S2048x4096_S4096x4096_1_0_0_1_n_n none (extf .f32 x Cert.Reference16Ideal.Gen.bitsLt_bf16_f32) (extf .f32 y Cert.Reference16Ideal.Gen.bitsLt_bf16_f32)
      = nn (K := 2048) x y := by
  funext i
  rw [eq_ix2 (n0 := 4096) (n1 := 4096) i]
  pointwise
  rfl

set_option smartUnfolding false in
/-- The kernel over the machine's floats is the same program. -/
theorem frame_kernel : Cert.quiescent_Kernel16 := fun m ρ _ => by
  rw [show Cert.Kernel16.defs (F := Bits) = defs (F := Bits) from rfl, show Cert.Kernel16.main (F := Bits) = main (F := Bits) from rfl]
  exact frame (F := Bits) m ρ
theorem frame_ideal : Cert.quiescent_Kernel16Ideal := fun m ρ _ => frame (F := Ideal) m ρ
theorem frame_reference : Cert.quiescent_Reference16Ideal := fun m ρ _ =>
  (θ_run Cert.Reference16Ideal.defs _ _).mono (fun r h => ⟨fun c => (h c).2, sem_eq_zero_of_no_sems (by decide) r.2⟩) (Cert.Reference16Ideal.Value.run m ρ)

/-- Kernel and reference end with the same array. -/
theorem equal : Cert.algebraic_Kernel16Ideal_Reference16Ideal := fun m ρ m' ρ' _ ha =>
  ⟨result m, (θ_run defs _ _).mono (fun _ h c => ⟨(h c).1.trans (final m c), (h c).2⟩) (Value.run_blocks m ρ),
    (θ_run Cert.Reference16Ideal.defs _ _).mono (fun _ h c => ⟨(h c).1.trans ((host _ _).trans
      (congrArg₂ (nn (K := 2048)) (ha c).1 (ha c).2.1)), (h c).2⟩)
      (Cert.Reference16Ideal.Value.run m' ρ')⟩

end Cert.Kernel16Ideal.Product
-- ==== Proof.Product17.lean ====
/-
  A branch brought to the model's width: the tiled product is the host's product.
-/
module

public import proofs.«01_k».proof.Defs
public import proofs.«01_k».proof.Proof.Products
public import proofs.«01_k».proof.Proof.Gen.Kernel17
public import proofs.«01_k».proof.Proof.Gen.Kernel17Ideal.Value
public import proofs.«01_k».proof.Proof.Gen.Reference17Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel17Ideal.Product

open Idealize.ShloMosaic Idealize.ShloMosaic.TcCoe Idealize.ShloMosaic.Tactic
open Idealize.SL.Sem
open Cert.Products
open Cert.Kernel17Ideal.Gen

/-- The tile that a grid point computes. -/
theorem tile (x : Vec Ideal S1024x1024 .bf16) (y : Vec Ideal S1024x1024 .bf16) (j : S1024x1024.Idx) : k0_pay1 x y j = nn (K := 1024) x y j := by
  rw [eq_ix2 (n0 := 1024) (n1 := 1024) j]
  pointwise [k0_pay1]
  rfl

/-- Which blocks a point reads and writes. -/
theorem blocks : ∀ t : Fin cfg0.N, win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := nn (K := 1024) (m ((c.tc : Thread nD τ).loc main_arg0)) (m ((c.tc : Thread nD τ).loc main_arg1))

theorem final : (dats m 0 c).arrAt 2 cfg0.N = result m c := by
  refine (dats m 0 c).arrAt_eq_of_covers 2 (result m c) (by decide +kernel) fun t _ y => ?_
  blk_simp
  rw [after0_2]
  frame_out
  refine (tile _ _ _).trans (nn_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference17Ideal.S4096x1024 .bf16) (y : FVec Ideal Cert.Reference17Ideal.S1024x2048 .bf16) :
    Host.dotGeneral Cert.Reference17Ideal.dot_S4096x1024_S1024x2048_S4096x2048_1_0_0_1_n_n none (extf .f32 x Cert.Reference17Ideal.Gen.bitsLt_bf16_f32) (extf .f32 y Cert.Reference17Ideal.Gen.bitsLt_bf16_f32)
      = nn (K := 1024) x y := by
  funext i
  rw [eq_ix2 (n0 := 4096) (n1 := 2048) i]
  pointwise
  rfl

set_option smartUnfolding false in
/-- The kernel over the machine's floats is the same program. -/
theorem frame_kernel : Cert.quiescent_Kernel17 := fun m ρ _ => by
  rw [show Cert.Kernel17.defs (F := Bits) = defs (F := Bits) from rfl, show Cert.Kernel17.main (F := Bits) = main (F := Bits) from rfl]
  exact frame (F := Bits) m ρ
theorem frame_ideal : Cert.quiescent_Kernel17Ideal := fun m ρ _ => frame (F := Ideal) m ρ
theorem frame_reference : Cert.quiescent_Reference17Ideal := fun m ρ _ =>
  (θ_run Cert.Reference17Ideal.defs _ _).mono (fun r h => ⟨fun c => (h c).2, sem_eq_zero_of_no_sems (by decide) r.2⟩) (Cert.Reference17Ideal.Value.run m ρ)

/-- Kernel and reference end with the same array. -/
theorem equal : Cert.algebraic_Kernel17Ideal_Reference17Ideal := fun m ρ m' ρ' _ ha =>
  ⟨result m, (θ_run defs _ _).mono (fun _ h c => ⟨(h c).1.trans (final m c), (h c).2⟩) (Value.run_blocks m ρ),
    (θ_run Cert.Reference17Ideal.defs _ _).mono (fun _ h c => ⟨(h c).1.trans ((host _ _).trans
      (congrArg₂ (nn (K := 1024)) (ha c).1 (ha c).2)), (h c).2⟩)
      (Cert.Reference17Ideal.Value.run m' ρ')⟩

end Cert.Kernel17Ideal.Product
-- ==== Proof.Product18.lean ====
/-
  The output projection, added to the step's input: the tiled product is the host's product.
-/
module

public import proofs.«01_k».proof.Defs
public import proofs.«01_k».proof.Proof.Products
public import proofs.«01_k».proof.Proof.Gen.Kernel18
public import proofs.«01_k».proof.Proof.Gen.Kernel18Ideal.Value
public import proofs.«01_k».proof.Proof.Gen.Reference18Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel18Ideal.Product

open Idealize.ShloMosaic Idealize.ShloMosaic.TcCoe Idealize.ShloMosaic.Tactic
open Idealize.SL.Sem
open Cert.Products
open Cert.Kernel18Ideal.Gen

/-- The tile that a grid point computes. -/
theorem tile (x : Vec Ideal S1024x2048 .bf16) (y : Vec Ideal S2048x1024 .bf16) (z : Vec Ideal S1024x1024 .f32) (j : S1024x1024.Idx) : k0_pay1 x y z j = nn (K := 2048) x y j + z j := by
  rw [eq_ix2 (n0 := 1024) (n1 := 1024) j]
  pointwise [k0_pay1]
  rfl

/-- Which blocks a point reads and writes. -/
theorem blocks : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := plus (m ((c.tc : Thread nD τ).loc main_arg2)) (nn (K := 2048) (m ((c.tc : Thread nD τ).loc main_arg0)) (m ((c.tc : Thread nD τ).loc main_arg1)))

theorem final : (dats m 0 c).arrAt 3 cfg0.N = result m c := by
  refine (dats m 0 c).arrAt_eq_of_covers 3 (result m c) (by decide +kernel) fun t _ y => ?_
  blk_simp
  rw [after0_3]
  frame_out
  refine (tile _ _ _ _).trans (plus_tile (nn_tile (fun k => ?_) fun k => ?_) ?_)
  · blk_ext [iblk, V, (blocks t).1, (blocks t).2.2.2]
  · blk_ext [iblk, V, (blocks t).2.1, (blocks t).2.2.2]
  · blk_ext [iblk, V, (blocks t).2.2.1, (blocks t).2.2.2]

/-- The host's product is the same sum. -/
theorem host (x : FVec Ideal Cert.Reference18Ideal.S4096x2048 .bf16) (y : FVec Ideal Cert.Reference18Ideal.S2048x2048 .bf16) (z : FVec Ideal Cert.Reference18Ideal.S4096x2048 .f32) :
    addf z (Host.dotGeneral Cert.Reference18Ideal.dot_S4096x2048_S2048x2048_S4096x2048_1_0_0_1_n_n none (extf .f32 x Cert.Reference18Ideal.Gen.bitsLt_bf16_f32) (extf .f32 y Cert.Reference18Ideal.Gen.bitsLt_bf16_f32))
      = plus z (nn (K := 2048) x y) := by
  funext i
  rw [eq_ix2 (n0 := 4096) (n1 := 2048) i]
  pointwise
  rfl

set_option smartUnfolding false in
/-- The kernel over the machine's floats is the same program. -/
theorem frame_kernel : Cert.quiescent_Kernel18 := fun m ρ _ => by
  rw [show Cert.Kernel18.defs (F := Bits) = defs (F := Bits) from rfl, show Cert.Kernel18.main (F := Bits) = main (F := Bits) from rfl]
  exact frame (F := Bits) m ρ
theorem frame_ideal : Cert.quiescent_Kernel18Ideal := fun m ρ _ => frame (F := Ideal) m ρ
theorem frame_reference : Cert.quiescent_Reference18Ideal := fun m ρ _ =>
  (θ_run Cert.Reference18Ideal.defs _ _).mono (fun r h => ⟨fun c => (h c).2, sem_eq_zero_of_no_sems (by decide) r.2⟩) (Cert.Reference18Ideal.Value.run m ρ)

/-- Kernel and reference end with the same array. -/
theorem equal : Cert.algebraic_Kernel18Ideal_Reference18Ideal := fun m ρ m' ρ' _ ha =>
  ⟨result m, (θ_run defs _ _).mono (fun _ h c => ⟨(h c).1.trans (final m c), (h c).2⟩) (Value.run_blocks m ρ),
    (θ_run Cert.Reference18Ideal.defs _ _).mono (fun _ h c => ⟨(h c).1.trans ((host _ _ _).trans
      (congrArg₂ plus (ha c).2.2 (congrArg₂ (nn (K := 2048)) (ha c).1 (ha c).2.1))), (h c).2⟩)
      (Cert.Reference18Ideal.Value.run m' ρ')⟩

end Cert.Kernel18Ideal.Product
-- ==== Proof.Product19.lean ====
/-
  The per-layer embedding's gate before its sigmoid: the tiled product is the host's product.
-/
module

public import proofs.«01_k».proof.Defs
public import proofs.«01_k».proof.Proof.Products
public import proofs.«01_k».proof.Proof.Gen.Kernel19
public import proofs.«01_k».proof.Proof.Gen.Kernel19Ideal.Value
public import proofs.«01_k».proof.Proof.Gen.Reference19Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel19Ideal.Product

open Idealize.ShloMosaic Idealize.ShloMosaic.TcCoe Idealize.ShloMosaic.Tactic
open Idealize.SL.Sem
open Cert.Products
open Cert.Kernel19Ideal.Gen

/-- The tile that a grid point computes. -/
theorem tile (x : Vec Ideal S1024x2048 .bf16) (y : Vec Ideal S2048x1024 .bf16) (j : S1024x1024.Idx) : k0_pay1 x y j = nn (K := 2048) x y j := by
  rw [eq_ix2 (n0 := 1024) (n1 := 1024) j]
  pointwise [k0_pay1]
  rfl

/-- Which blocks a point reads and writes. -/
theorem blocks : ∀ t : Fin cfg0.N, win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := nn (K := 2048) (m ((c.tc : Thread nD τ).loc main_arg0)) (m ((c.tc : Thread nD τ).loc main_arg1))

theorem final : (dats m 0 c).arrAt 2 cfg0.N = result m c := by
  refine (dats m 0 c).arrAt_eq_of_covers 2 (result m c) (by decide +kernel) fun t _ y => ?_
  blk_simp
  rw [after0_2]
  frame_out
  refine (tile _ _ _).trans (nn_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference19Ideal.S4096x2048 .bf16) (y : FVec Ideal Cert.Reference19Ideal.S2048x2048 .bf16) :
    Host.dotGeneral Cert.Reference19Ideal.dot_S4096x2048_S2048x2048_S4096x2048_1_0_0_1_n_n none (extf .f32 x Cert.Reference19Ideal.Gen.bitsLt_bf16_f32) (extf .f32 y Cert.Reference19Ideal.Gen.bitsLt_bf16_f32)
      = nn (K := 2048) x y := by
  funext i
  rw [eq_ix2 (n0 := 4096) (n1 := 2048) i]
  pointwise
  rfl

set_option smartUnfolding false in
/-- The kernel over the machine's floats is the same program. -/
theorem frame_kernel : Cert.quiescent_Kernel19 := fun m ρ _ => by
  rw [show Cert.Kernel19.defs (F := Bits) = defs (F := Bits) from rfl, show Cert.Kernel19.main (F := Bits) = main (F := Bits) from rfl]
  exact frame (F := Bits) m ρ
theorem frame_ideal : Cert.quiescent_Kernel19Ideal := fun m ρ _ => frame (F := Ideal) m ρ
theorem frame_reference : Cert.quiescent_Reference19Ideal := fun m ρ _ =>
  (θ_run Cert.Reference19Ideal.defs _ _).mono (fun r h => ⟨fun c => (h c).2, sem_eq_zero_of_no_sems (by decide) r.2⟩) (Cert.Reference19Ideal.Value.run m ρ)

/-- Kernel and reference end with the same array. -/
theorem equal : Cert.algebraic_Kernel19Ideal_Reference19Ideal := fun m ρ m' ρ' _ ha =>
  ⟨result m, (θ_run defs _ _).mono (fun _ h c => ⟨(h c).1.trans (final m c), (h c).2⟩) (Value.run_blocks m ρ),
    (θ_run Cert.Reference19Ideal.defs _ _).mono (fun _ h c => ⟨(h c).1.trans ((host _ _).trans
      (congrArg₂ (nn (K := 2048)) (ha c).1 (ha c).2)), (h c).2⟩)
      (Cert.Reference19Ideal.Value.run m' ρ')⟩

end Cert.Kernel19Ideal.Product
-- ==== Proof.Product20.lean ====
/-
  The projection of the per-layer embedding: the tiled product is the host's product.
-/
module

public import proofs.«01_k».proof.Defs
public import proofs.«01_k».proof.Proof.Products
public import proofs.«01_k».proof.Proof.Gen.Kernel20
public import proofs.«01_k».proof.Proof.Gen.Kernel20Ideal.Value
public import proofs.«01_k».proof.Proof.Gen.Reference20Ideal.Run
public import Idealize.ShloMosaic.Lib.Claim
public import Idealize.ShloMosaic.Lib.Pointwise
public import Idealize.ShloMosaic.Lib.Pipeline.ValueKit

@[expose] public section

set_option maxRecDepth 16384

noncomputable section

namespace Cert.Kernel20Ideal.Product

open Idealize.ShloMosaic Idealize.ShloMosaic.TcCoe Idealize.ShloMosaic.Tactic
open Idealize.SL.Sem
open Cert.Products
open Cert.Kernel20Ideal.Gen

/-- The tile that a grid point computes. -/
theorem tile (x : Vec Ideal S1024x256 .f32) (y : Vec Ideal S256x1024 .bf16) (j : S1024x1024.Idx) : k0_pay1 x y j = nn (K := 256) x y j := by
  rw [eq_ix2 (n0 := 1024) (n1 := 1024) j]
  pointwise [k0_pay1]
  rfl

/-- Which blocks a point reads and writes. -/
theorem blocks : ∀ t : Fin cfg0.N, win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

/-- The array that the call returns. -/
abbrev result : Buf (Elt Ideal) ((c.tc : Thread nD τ).loc main_v0) := nn (K := 256) (m ((c.tc : Thread nD τ).loc main_arg0)) (m ((c.tc : Thread nD τ).loc main_arg1))

theorem final : (dats m 0 c).arrAt 2 cfg0.N = result m c := by
  refine (dats m 0 c).arrAt_eq_of_covers 2 (result m c) (by decide +kernel) fun t _ y => ?_
  blk_simp
  rw [after0_2]
  frame_out
  refine (tile _ _ _).trans (nn_tile (fun k => ?_) fun k => ?_)
  · blk_ext [iblk, V, (blocks t).1, (blocks t).2.2]
  · blk_ext [iblk, V, (blocks t).2.1, (blocks t).2.2]

/-- The host's product is the same sum. -/
theorem host (x : FVec Ideal Cert.Reference20Ideal.S4096x256 .f32) (y : FVec Ideal Cert.Reference20Ideal.S256x2048 .bf16) :
    Host.dotGeneral Cert.Reference20Ideal.dot_S4096x256_S256x2048_S4096x2048_1_0_0_1_n_n none x (extf .f32 y Cert.Reference20Ideal.Gen.bitsLt_bf16_f32)
      = nn (K := 256) x y := by
  funext i
  rw [eq_ix2 (n0 := 4096) (n1 := 2048) i]
  pointwise
  rfl

set_option smartUnfolding false in
/-- The kernel over the machine's floats is the same program. -/
theorem frame_kernel : Cert.quiescent_Kernel20 := fun m ρ _ => by
  rw [show Cert.Kernel20.defs (F := Bits) = defs (F := Bits) from rfl, show Cert.Kernel20.main (F := Bits) = main (F := Bits) from rfl]
  exact frame (F := Bits) m ρ
theorem frame_ideal : Cert.quiescent_Kernel20Ideal := fun m ρ _ => frame (F := Ideal) m ρ
theorem frame_reference : Cert.quiescent_Reference20Ideal := fun m ρ _ =>
  (θ_run Cert.Reference20Ideal.defs _ _).mono (fun r h => ⟨fun c => (h c).2, sem_eq_zero_of_no_sems (by decide) r.2⟩) (Cert.Reference20Ideal.Value.run m ρ)

/-- Kernel and reference end with the same array. -/
theorem equal : Cert.algebraic_Kernel20Ideal_Reference20Ideal := fun m ρ m' ρ' _ ha =>
  ⟨result m, (θ_run defs _ _).mono (fun _ h c => ⟨(h c).1.trans (final m c), (h c).2⟩) (Value.run_blocks m ρ),
    (θ_run Cert.Reference20Ideal.defs _ _).mono (fun _ h c => ⟨(h c).1.trans ((host _ _).trans
      (congrArg₂ (nn (K := 256)) (ha c).1 (ha c).2)), (h c).2⟩)
      (Cert.Reference20Ideal.Value.run m' ρ')⟩

end Cert.Kernel20Ideal.Product
-- ==== Proof.lean ====
/-
  The proof of `Cert.Claim`: the frames, the idealization, and the equality of the backward attention and of each product
  with its reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Read
public import proofs.«01_k».proof.Proof.Same
public import proofs.«01_k».proof.Proof.Results
public import Idealize.ShloMosaic.Adequacy
public import Idealize.ShloMosaic.Init
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Product2
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Product3
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Product4
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Product5
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Product6
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Product7
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Product8
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Product9
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Product10
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Product11
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Product12
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Product13
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Product14
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Product15
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Product16
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Product17
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Product18
public import proofs.«01_k».proof.Proof.Gen.Kernel19
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Product19
public import proofs.«01_k».proof.Proof.Gen.Kernel20
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Product20

@[expose] public section

noncomputable section

namespace Cert.Proof

open Idealize.ShloMosaic Idealize.SL.Sem Idealize.ShloMosaic.TcCoe
open Cert.KernelIdeal.FoxBwd

/-- The kernel's frame over the machine's floats: the run is stated once, over any float values. -/
theorem frame_kernel : Cert.quiescent_Kernel := fun m ρ _ => by
  rw [defs_same, main_same]
  exact frame_any (F := Bits) m ρ

/-- The same over the extended reals. -/
theorem frame_ideal : Cert.quiescent_KernelIdeal := fun m ρ _ => frame_any (F := Ideal) m ρ

theorem frame_ideal_finite : Cert.quiescent_KernelIdeal_pre_finite := fun m ρ _ => frame_any (F := Ideal) m ρ

/-- The reference's frame. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run m ρ)

theorem frame_reference_finite : Cert.quiescent_ReferenceIdeal_pre_finite := fun m ρ _ => frame_reference m ρ trivial

/-- Kernel and reference end with the same gradients. -/
theorem equal : Cert.algebraic_KernelIdeal_ReferenceIdeal_pre_finite := fun m ρ m' ρ' hp ha =>
  ⟨fun c => GDq (numbers m c) c, fun c => GDk (numbers m c) c, fun c => GDv (numbers m c) c, fun c => GDcq (numbers m c) c, fun c => GDck (numbers m c) c,
    kernel_results m ρ hp,
    (θ_run Cert.ReferenceIdeal.defs _ _).mono (fun r h c => by
      have H := reference_results (holding (hp c)) c
      obtain ⟨a0, a1, a2⟩ := ha c
      rw [← a0, ← a1, ← a2] at H
      unfold numbers
      beta_reduce
      rw [← a0, ← a1, ← a2]
      exact ⟨(h c).1.trans ((Cert.ReferenceIdeal.Read.val_main_v98_eq m' c).trans H.1), (h c).2.1.trans ((Cert.ReferenceIdeal.Read.val_main_v99_eq m' c).trans H.2.1),
        (h c).2.2.1.trans ((Cert.ReferenceIdeal.Read.val_main_v100_eq m' c).trans H.2.2.1),
        (h c).2.2.2.1.trans ((Cert.ReferenceIdeal.Read.val_main_v94_eq m' c).trans H.2.2.2.1),
        (h c).2.2.2.2.1.trans ((Cert.ReferenceIdeal.Read.val_main_v97_eq m' c).trans H.2.2.2.2), (h c).2.2.2.2.2⟩)
      (Cert.ReferenceIdeal.Value.run m' ρ')⟩

/-- The backward attention's claims, then those of the products. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_finite.Gen.facts, frame_kernel, frame_ideal, frame_ideal_finite, frame_reference, frame_reference_finite,
    Kernel2Ideal.Product.frame_kernel, Kernel2Ideal.Product.frame_ideal, Kernel2Ideal.Product.frame_reference,
    Kernel3Ideal.Product.frame_kernel, Kernel3Ideal.Product.frame_ideal, Kernel3Ideal.Product.frame_reference,
    Kernel4Ideal.Product.frame_kernel, Kernel4Ideal.Product.frame_ideal, Kernel4Ideal.Product.frame_reference,
    Kernel5Ideal.Product.frame_kernel, Kernel5Ideal.Product.frame_ideal, Kernel5Ideal.Product.frame_reference,
    Kernel6Ideal.Product.frame_kernel, Kernel6Ideal.Product.frame_ideal, Kernel6Ideal.Product.frame_reference,
    Kernel7Ideal.Product.frame_kernel, Kernel7Ideal.Product.frame_ideal, Kernel7Ideal.Product.frame_reference,
    Kernel8Ideal.Product.frame_kernel, Kernel8Ideal.Product.frame_ideal, Kernel8Ideal.Product.frame_reference,
    Kernel9Ideal.Product.frame_kernel, Kernel9Ideal.Product.frame_ideal, Kernel9Ideal.Product.frame_reference,
    Kernel10Ideal.Product.frame_kernel, Kernel10Ideal.Product.frame_ideal, Kernel10Ideal.Product.frame_reference,
    Kernel11Ideal.Product.frame_kernel, Kernel11Ideal.Product.frame_ideal, Kernel11Ideal.Product.frame_reference,
    Kernel12Ideal.Product.frame_kernel, Kernel12Ideal.Product.frame_ideal, Kernel12Ideal.Product.frame_reference,
    Kernel13Ideal.Product.frame_kernel, Kernel13Ideal.Product.frame_ideal, Kernel13Ideal.Product.frame_reference,
    Kernel14Ideal.Product.frame_kernel, Kernel14Ideal.Product.frame_ideal, Kernel14Ideal.Product.frame_reference,
    Kernel15Ideal.Product.frame_kernel, Kernel15Ideal.Product.frame_ideal, Kernel15Ideal.Product.frame_reference,
    Kernel16Ideal.Product.frame_kernel, Kernel16Ideal.Product.frame_ideal, Kernel16Ideal.Product.frame_reference,
    Kernel17Ideal.Product.frame_kernel, Kernel17Ideal.Product.frame_ideal, Kernel17Ideal.Product.frame_reference,
    Kernel18Ideal.Product.frame_kernel, Kernel18Ideal.Product.frame_ideal, Kernel18Ideal.Product.frame_reference,
    Kernel19Ideal.Product.frame_kernel, Kernel19Ideal.Product.frame_ideal, Kernel19Ideal.Product.frame_reference,
    Kernel20Ideal.Product.frame_kernel, Kernel20Ideal.Product.frame_ideal, Kernel20Ideal.Product.frame_reference,
    trivial, equal,
    trivial, Kernel2Ideal.Product.equal,
    trivial, Kernel3Ideal.Product.equal,
    trivial, Kernel4Ideal.Product.equal,
    trivial, Kernel5Ideal.Product.equal,
    trivial, Kernel6Ideal.Product.equal,
    trivial, Kernel7Ideal.Product.equal,
    trivial, Kernel8Ideal.Product.equal,
    trivial, Kernel9Ideal.Product.equal,
    trivial, Kernel10Ideal.Product.equal,
    trivial, Kernel11Ideal.Product.equal,
    trivial, Kernel12Ideal.Product.equal,
    trivial, Kernel13Ideal.Product.equal,
    trivial, Kernel14Ideal.Product.equal,
    trivial, Kernel15Ideal.Product.equal,
    trivial, Kernel16Ideal.Product.equal,
    trivial, Kernel17Ideal.Product.equal,
    trivial, Kernel18Ideal.Product.equal,
    trivial, Kernel19Ideal.Product.equal,
    trivial, Kernel20Ideal.Product.equal⟩

end Cert.Proof

end
